-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv_c" .f32 0x3A3A2E8C#32 ((1 / 1408 : ℝ) : EReal)
  ∧ IdealRules.named_const.Statement Cert.KernelIdeal.κ "inv_hid" .f32 0x393A2E8C#32 ((1 / 5632 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)) (v5 : (c : Dev Cert.KernelIdeal.nD) → Buf (Elt Ideal) ((c.tc : Thread Cert.KernelIdeal.nD Cert.KernelIdeal.τ).loc Cert.KernelIdeal.main_v10_5)) (v6 : (c : Dev Cert.KernelIdeal.nD) → Buf (Elt Ideal) ((c.tc : Thread Cert.KernelIdeal.nD Cert.KernelIdeal.τ).loc Cert.KernelIdeal.main_v10_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_v10_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v518) = v0 c
          ∧ r.2.mem ((c.tc : Thread Cert.ReferenceIdeal.nD Cert.ReferenceIdeal.τ).loc Cert.ReferenceIdeal.main_v524) = v1 c
          ∧ r.2.mem ((c.tc : Thread Cert.ReferenceIdeal.nD Cert.ReferenceIdeal.τ).loc Cert.ReferenceIdeal.main_v442) = v2 c
          ∧ r.2.mem ((c.tc : Thread Cert.ReferenceIdeal.nD Cert.ReferenceIdeal.τ).loc Cert.ReferenceIdeal.main_v391) = v3 c
          ∧ r.2.mem ((c.tc : Thread Cert.ReferenceIdeal.nD Cert.ReferenceIdeal.τ).loc Cert.ReferenceIdeal.main_v384) = v4 c
          ∧ r.2.mem ((c.tc : Thread Cert.ReferenceIdeal.nD Cert.ReferenceIdeal.τ).loc Cert.ReferenceIdeal.main_v474) = v5 c
          ∧ r.2.mem ((c.tc : Thread Cert.ReferenceIdeal.nD Cert.ReferenceIdeal.τ).loc Cert.ReferenceIdeal.main_v467) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S6x14x16x1408 : Shape := ⟨4, ![6, 14, 16, 1408]⟩
abbrev S_ : Shape := ⟨0, ![]⟩
abbrev S7x7x1408 : Shape := ⟨3, ![7, 7, 1408]⟩
abbrev S1408 : Shape := ⟨1, ![1408]⟩
abbrev S704x5632 : Shape := ⟨2, ![704, 5632]⟩
abbrev S11x5632 : Shape := ⟨2, ![11, 5632]⟩
abbrev S5632 : Shape := ⟨1, ![5632]⟩
abbrev S2816x1408 : Shape := ⟨2, ![2816, 1408]⟩
abbrev S44x1408 : Shape := ⟨2, ![44, 1408]⟩

class Facts : Prop where

variable [Facts]

def fn {F : FTy → Type} [FloatOps F] (main_arg0 : IVec S6x14x16x1408 8) (main_arg1 : FVec F S_ .f32) (main_arg2 : FVec F S6x14x16x1408 .bf16) (main_arg3 : IVec S7x7x1408 8) (main_arg4 : FVec F S1408 .f32) (main_arg5 : FVec F S1408 .f32) (main_arg6 : FVec F S1408 .f32) (main_arg7 : FVec F S1408 .f32) (main_arg8 : IVec S704x5632 8) (main_arg9 : FVec F S11x5632 .bf16) (main_arg10 : FVec F S5632 .f32) (main_arg11 : FVec F S5632 .f32) (main_arg12 : FVec F S5632 .f32) (main_arg13 : IVec S2816x1408 8) (main_arg14 : FVec F S44x1408 .bf16) (main_arg15 : FVec F S1408 .f32) (main_arg16 : FVec F S_ .f32) : IVec S_ 1 :=
  let main_cst : FVec F S_ .f32 := constant S_ .f32 0x00000000#32
  let main_v0 : IVec S_ 1 := cmpf .une main_arg16 main_cst
  main_v0
-- ==== Kernel.lean ====
abbrev S6x14x16x1408 : Shape := ⟨4, ![6, 14, 16, 1408]⟩
abbrev S_ : Shape := ⟨0, ![]⟩
abbrev S7x7x1408 : Shape := ⟨3, ![7, 7, 1408]⟩
abbrev S1408 : Shape := ⟨1, ![1408]⟩
abbrev S704x5632 : Shape := ⟨2, ![704, 5632]⟩
abbrev S11x5632 : Shape := ⟨2, ![11, 5632]⟩
abbrev S5632 : Shape := ⟨1, ![5632]⟩
abbrev S2816x1408 : Shape := ⟨2, ![2816, 1408]⟩
abbrev S44x1408 : Shape := ⟨2, ![44, 1408]⟩
abbrev S1x1408 : Shape := ⟨2, ![1, 1408]⟩
abbrev S1x5632 : Shape := ⟨2, ![1, 5632]⟩
abbrev S1 : Shape := ⟨1, ![1]⟩
abbrev S6x5632 : Shape := ⟨2, ![6, 5632]⟩
abbrev S6x14x16 : Shape := ⟨3, ![6, 14, 16]⟩
abbrev S6x14x16x5632 : Shape := ⟨4, ![6, 14, 16, 5632]⟩
abbrev S1x14x16x1408 : Shape := ⟨4, ![1, 14, 16, 1408]⟩
abbrev S1x14x16 : Shape := ⟨3, ![1, 14, 16]⟩
abbrev S1x14x16x5632 : Shape := ⟨4, ![1, 14, 16, 5632]⟩
abbrev S1408x5632 : Shape := ⟨2, ![1408, 5632]⟩
abbrev S5632x1408 : Shape := ⟨2, ![5632, 1408]⟩
abbrev S14x32x128 : Shape := ⟨3, ![14, 32, 128]⟩
abbrev S224x1408 : Shape := ⟨2, ![224, 1408]⟩
abbrev S224x5632 : Shape := ⟨2, ![224, 5632]⟩
abbrev S64x128 : Shape := ⟨2, ![64, 128]⟩
abbrev S1x128 : Shape := ⟨2, ![1, 128]⟩
abbrev S64x1x128 : Shape := ⟨3, ![64, 1, 128]⟩
abbrev S64x2x128 : Shape := ⟨3, ![64, 2, 128]⟩
abbrev S128x128 : Shape := ⟨2, ![128, 128]⟩
abbrev S1x1x16x128 : Shape := ⟨4, ![1, 1, 16, 128]⟩
abbrev S16x128 : Shape := ⟨2, ![16, 128]⟩
abbrev S1x16x128 : Shape := ⟨3, ![1, 16, 128]⟩
abbrev S1x8x128 : Shape := ⟨3, ![1, 8, 128]⟩
abbrev S8x128 : Shape := ⟨2, ![8, 128]⟩
abbrev S1x1x128 : Shape := ⟨3, ![1, 1, 128]⟩
abbrev S16x16 : Shape := ⟨2, ![16, 16]⟩
abbrev S16x1408 : Shape := ⟨2, ![16, 1408]⟩
abbrev S16 : Shape := ⟨1, ![16]⟩
abbrev S16x1 : Shape := ⟨2, ![16, 1]⟩
abbrev S1x1x16x1408 : Shape := ⟨4, ![1, 1, 16, 1408]⟩
abbrev S1x16 : Shape := ⟨2, ![1, 16]⟩
abbrev S1x1x16 : Shape := ⟨3, ![1, 1, 16]⟩
abbrev S1408x512 : Shape := ⟨2, ![1408, 512]⟩
abbrev S224x512 : Shape := ⟨2, ![224, 512]⟩
abbrev S224x1 : Shape := ⟨2, ![224, 1]⟩
abbrev S1x512 : Shape := ⟨2, ![1, 512]⟩
abbrev S512 : Shape := ⟨1, ![512]⟩
abbrev S1x1x5632 : Shape := ⟨3, ![1, 1, 5632]⟩
abbrev S1x1x1 : Shape := ⟨3, ![1, 1, 1]⟩
abbrev S16x5632 : Shape := ⟨2, ![16, 5632]⟩
abbrev S1x1x16x5632 : Shape := ⟨4, ![1, 1, 16, 5632]⟩

abbrev nBuf : Space → Nat
  | .hbm => 34
  | .vmem => 39
  | .smem => 2
  | _ => 0

abbrev bufTy : (tb : Table) → Fin (tcTables nBuf tb) → BufTy
  | .hbm, ⟨0, _⟩ => ⟨S6x14x16x1408, .i8⟩
  | .hbm, ⟨1, _⟩ => ⟨S_, .f32⟩
  | .hbm, ⟨2, _⟩ => ⟨S6x14x16x1408, .bf16⟩
  | .hbm, ⟨3, _⟩ => ⟨S7x7x1408, .i8⟩
  | .hbm, ⟨4, _⟩ => ⟨S1408, .f32⟩
  | .hbm, ⟨5, _⟩ => ⟨S1408, .f32⟩
  | .hbm, ⟨6, _⟩ => ⟨S1408, .f32⟩
  | .hbm, ⟨7, _⟩ => ⟨S1408, .f32⟩
  | .hbm, ⟨8, _⟩ => ⟨S704x5632, .i8⟩
  | .hbm, ⟨9, _⟩ => ⟨S11x5632, .bf16⟩
  | .hbm, ⟨10, _⟩ => ⟨S5632, .f32⟩
  | .hbm, ⟨11, _⟩ => ⟨S5632, .f32⟩
  | .hbm, ⟨12, _⟩ => ⟨S5632, .f32⟩
  | .hbm, ⟨13, _⟩ => ⟨S2816x1408, .i8⟩
  | .hbm, ⟨14, _⟩ => ⟨S44x1408, .bf16⟩
  | .hbm, ⟨15, _⟩ => ⟨S1408, .f32⟩
  | .hbm, ⟨16, _⟩ => ⟨S_, .f32⟩
  | .hbm, ⟨17, _⟩ => ⟨S1x1408, .f32⟩
  | .hbm, ⟨18, _⟩ => ⟨S1x1408, .f32⟩
  | .hbm, ⟨19, _⟩ => ⟨S1x1408, .f32⟩
  | .hbm, ⟨20, _⟩ => ⟨S1x1408, .f32⟩
  | .hbm, ⟨21, _⟩ => ⟨S1x5632, .f32⟩
  | .hbm, ⟨22, _⟩ => ⟨S1x5632, .f32⟩
  | .hbm, ⟨23, _⟩ => ⟨S1x5632, .f32⟩
  | .hbm, ⟨24, _⟩ => ⟨S1x1408, .f32⟩
  | .hbm, ⟨25, _⟩ => ⟨S1, .f32⟩
  | .hbm, ⟨26, _⟩ => ⟨S1, .f32⟩
  | .hbm, ⟨27, _⟩ => ⟨S6x14x16x1408, .bf16⟩
  | .hbm, ⟨28, _⟩ => ⟨S6x14x16x1408, .i8⟩
  | .hbm, ⟨29, _⟩ => ⟨S6x5632, .f32⟩
  | .hbm, ⟨30, _⟩ => ⟨S6x14x16x1408, .i8⟩
  | .hbm, ⟨31, _⟩ => ⟨S6x14x16, .f32⟩
  | .hbm, ⟨32, _⟩ => ⟨S6x14x16x5632, .i8⟩
  | .hbm, ⟨33, _⟩ => ⟨S6x14x16, .f32⟩
  | .local _ .vmem, ⟨0, _⟩ => ⟨S1x14x16x1408, .i8⟩
  | .local _ .vmem, ⟨1, _⟩ => ⟨S1x14x16x1408, .i8⟩
  | .local _ .vmem, ⟨2, _⟩ => ⟨S1x14x16x1408, .bf16⟩
  | .local _ .vmem, ⟨3, _⟩ => ⟨S1x14x16x1408, .bf16⟩
  | .local _ .vmem, ⟨4, _⟩ => ⟨S7x7x1408, .i8⟩
  | .local _ .vmem, ⟨5, _⟩ => ⟨S1x1408, .f32⟩
  | .local _ .vmem, ⟨6, _⟩ => ⟨S1x1408, .f32⟩
  | .local _ .vmem, ⟨7, _⟩ => ⟨S1x1408, .f32⟩
  | .local _ .vmem, ⟨8, _⟩ => ⟨S1x1408, .f32⟩
  | .local _ .vmem, ⟨9, _⟩ => ⟨S704x5632, .i8⟩
  | .local _ .vmem, ⟨10, _⟩ => ⟨S11x5632, .bf16⟩
  | .local _ .vmem, ⟨11, _⟩ => ⟨S1x5632, .f32⟩
  | .local _ .vmem, ⟨12, _⟩ => ⟨S1x5632, .f32⟩
  | .local _ .vmem, ⟨13, _⟩ => ⟨S1x5632, .f32⟩
  | .local _ .vmem, ⟨14, _⟩ => ⟨S2816x1408, .i8⟩
  | .local _ .vmem, ⟨15, _⟩ => ⟨S44x1408, .bf16⟩
  | .local _ .vmem, ⟨16, _⟩ => ⟨S1x1408, .f32⟩
  | .local _ .vmem, ⟨17, _⟩ => ⟨S1x14x16x1408, .bf16⟩
  | .local _ .vmem, ⟨18, _⟩ => ⟨S1x14x16x1408, .bf16⟩
  | .local _ .vmem, ⟨19, _⟩ => ⟨S1x14x16x1408, .i8⟩
  | .local _ .vmem, ⟨20, _⟩ => ⟨S1x14x16x1408, .i8⟩
  | .local _ .vmem, ⟨21, _⟩ => ⟨S6x5632, .f32⟩
  | .local _ .vmem, ⟨22, _⟩ => ⟨S1x14x16x1408, .i8⟩
  | .local _ .vmem, ⟨23, _⟩ => ⟨S1x14x16x1408, .i8⟩
  | .local _ .vmem, ⟨24, _⟩ => ⟨S1x14x16, .f32⟩
  | .local _ .vmem, ⟨25, _⟩ => ⟨S1x14x16, .f32⟩
  | .local _ .vmem, ⟨26, _⟩ => ⟨S1x14x16x5632, .i8⟩
  | .local _ .vmem, ⟨27, _⟩ => ⟨S1x14x16x5632, .i8⟩
  | .local _ .vmem, ⟨28, _⟩ => ⟨S1x14x16, .f32⟩
  | .local _ .vmem, ⟨29, _⟩ => ⟨S1x14x16, .f32⟩
  | .local _ .vmem, ⟨30, _⟩ => ⟨S1408x5632, .bf16⟩
  | .local _ .vmem, ⟨31, _⟩ => ⟨S5632x1408, .bf16⟩
  | .local _ .vmem, ⟨32, _⟩ => ⟨S14x32x128, .f32⟩
  | .local _ .vmem, ⟨33, _⟩ => ⟨S7x7x1408, .f32⟩
  | .local _ .vmem, ⟨34, _⟩ => ⟨S224x1408, .f32⟩
  | .local _ .vmem, ⟨35, _⟩ => ⟨S224x1408, .bf16⟩
  | .local _ .vmem, ⟨36, _⟩ => ⟨S224x5632, .f32⟩
  | .local _ .vmem, ⟨37, _⟩ => ⟨S224x5632, .bf16⟩
  | .local _ .vmem, ⟨38, _⟩ => ⟨S1x5632, .f32⟩
  | .local _ .smem, ⟨0, _⟩ => ⟨S1, .f32⟩
  | .local _ .smem, ⟨1, _⟩ => ⟨S1, .f32⟩
  | _, _ => ⟨S6x14x16x1408, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_v10_3 : Ref sig .tc := ⟨.hbm, 30, rfl⟩
abbrev main_v10_4 : Ref sig .tc := ⟨.hbm, 31, rfl⟩
abbrev main_v10_5 : Ref sig .tc := ⟨.hbm, 32, rfl⟩
abbrev main_v10_6 : Ref sig .tc := ⟨.hbm, 33, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg17_1 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_214 : BitVec 32 := 0#32
  let c44_i32 : BitVec 32 := 44#32
  let v318 : BitVec 32 := Scalar.addi c0_i32_214 c44_i32
  let c1_i32_215 : BitVec 32 := 1#32
  ⟨c0_i32_214, v318, c1_i32_215⟩
def k0_off1 (k0_t1 : Fin k0_t1_loop.trips) : Fin 2 → Nat :=
  let c0_233 : Index := 0#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v332 : Index := Scalar.indexCast v331
  ![0, v332.toNat]
def k0_off2 (k0_t1 : Fin k0_t1_loop.trips) : Fin 2 → Nat :=
  let c0_234 : Index := 0#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v334 : Index := Scalar.indexCast v331
  ![0, v334.toNat]
def k0_off3 (k0_t1 : Fin k0_t1_loop.trips) : Fin 2 → Nat :=
  let c0_237 : Index := 0#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v358 : Index := Scalar.indexCast v331
  ![0, v358.toNat]
def k0_off4 (k0_t1 : Fin k0_t1_loop.trips) : Fin 2 → Nat :=
  let c64 : Index := 64#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v362 : Index := Scalar.indexCast v331
  ![64, v362.toNat]
def k0_off5 (k0_t1 : Fin k0_t1_loop.trips) : Fin 2 → Nat :=
  let c1_238 : Index := 1#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v364 : Index := Scalar.indexCast v331
  ![1, v364.toNat]
def k0_off6 (k0_t1 : Fin k0_t1_loop.trips) : Fin 2 → Nat :=
  let c128 : Index := 128#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v388 : Index := Scalar.indexCast v331
  ![128, v388.toNat]
def k0_off7 (k0_t1 : Fin k0_t1_loop.trips) : Fin 2 → Nat :=
  let c128_245 : Index := 128#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v392 : Index := Scalar.indexCast v331
  ![128, v392.toNat]
def k0_off8 (k0_t1 : Fin k0_t1_loop.trips) : Fin 2 → Nat :=
  let c2_246 : Index := 2#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v394 : Index := Scalar.indexCast v331
  ![2, v394.toNat]
def k0_off9 (k0_t1 : Fin k0_t1_loop.trips) : Fin 2 → Nat :=
  let c256 : Index := 256#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v418 : Index := Scalar.indexCast v331
  ![256, v418.toNat]
def k0_off10 (k0_t1 : Fin k0_t1_loop.trips) : Fin 2 → Nat :=
  let c192 : Index := 192#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v422 : Index := Scalar.indexCast v331
  ![192, v422.toNat]
def k0_off11 (k0_t1 : Fin k0_t1_loop.trips) : Fin 2 → Nat :=
  let c3_253 : Index := 3#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v424 : Index := Scalar.indexCast v331
  ![3, v424.toNat]
def k0_off12 (k0_t1 : Fin k0_t1_loop.trips) : Fin 2 → Nat :=
  let c384 : Index := 384#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v448 : Index := Scalar.indexCast v331
  ![384, v448.toNat]
def k0_off13 (k0_t1 : Fin k0_t1_loop.trips) : Fin 2 → Nat :=
  let c256_260 : Index := 256#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v452 : Index := Scalar.indexCast v331
  ![256, v452.toNat]
def k0_off14 (k0_t1 : Fin k0_t1_loop.trips) : Fin 2 → Nat :=
  let c4_261 : Index := 4#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v454 : Index := Scalar.indexCast v331
  ![4, v454.toNat]
def k0_off15 (k0_t1 : Fin k0_t1_loop.trips) : Fin 2 → Nat :=
  let c512 : Index := 512#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v478 : Index := Scalar.indexCast v331
  ![512, v478.toNat]
def k0_off16 (k0_t1 : Fin k0_t1_loop.trips) : Fin 2 → Nat :=
  let c320 : Index := 320#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v482 : Index := Scalar.indexCast v331
  ![320, v482.toNat]
def k0_off17 (k0_t1 : Fin k0_t1_loop.trips) : Fin 2 → Nat :=
  let c5_268 : Index := 5#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v484 : Index := Scalar.indexCast v331
  ![5, v484.toNat]
def k0_off18 (k0_t1 : Fin k0_t1_loop.trips) : Fin 2 → Nat :=
  let c640 : Index := 640#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v508 : Index := Scalar.indexCast v331
  ![640, v508.toNat]
def k0_off19 (k0_t1 : Fin k0_t1_loop.trips) : Fin 2 → Nat :=
  let c384_275 : Index := 384#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v512 : Index := Scalar.indexCast v331
  ![384, v512.toNat]
def k0_off20 (k0_t1 : Fin k0_t1_loop.trips) : Fin 2 → Nat :=
  let c6_276 : Index := 6#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v514 : Index := Scalar.indexCast v331
  ![6, v514.toNat]
def k0_off21 (k0_t1 : Fin k0_t1_loop.trips) : Fin 2 → Nat :=
  let c768 : Index := 768#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v538 : Index := Scalar.indexCast v331
  ![768, v538.toNat]
def k0_off22 (k0_t1 : Fin k0_t1_loop.trips) : Fin 2 → Nat :=
  let c448 : Index := 448#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v542 : Index := Scalar.indexCast v331
  ![448, v542.toNat]
def k0_off23 (k0_t1 : Fin k0_t1_loop.trips) : Fin 2 → Nat :=
  let c7_283 : Index := 7#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v544 : Index := Scalar.indexCast v331
  ![7, v544.toNat]
def k0_off24 (k0_t1 : Fin k0_t1_loop.trips) : Fin 2 → Nat :=
  let c896 : Index := 896#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v568 : Index := Scalar.indexCast v331
  ![896, v568.toNat]
def k0_off25 (k0_t1 : Fin k0_t1_loop.trips) : Fin 2 → Nat :=
  let c512_290 : Index := 512#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v572 : Index := Scalar.indexCast v331
  ![512, v572.toNat]
def k0_off26 (k0_t1 : Fin k0_t1_loop.trips) : Fin 2 → Nat :=
  let c8_291 : Index := 8#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v574 : Index := Scalar.indexCast v331
  ![8, v574.toNat]
def k0_off27 (k0_t1 : Fin k0_t1_loop.trips) : Fin 2 → Nat :=
  let c1024 : Index := 1024#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v598 : Index := Scalar.indexCast v331
  ![1024, v598.toNat]
def k0_off28 (k0_t1 : Fin k0_t1_loop.trips) : Fin 2 → Nat :=
  let c576 : Index := 576#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v602 : Index := Scalar.indexCast v331
  ![576, v602.toNat]
def k0_off29 (k0_t1 : Fin k0_t1_loop.trips) : Fin 2 → Nat :=
  let c9_298 : Index := 9#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v604 : Index := Scalar.indexCast v331
  ![9, v604.toNat]
def k0_off30 (k0_t1 : Fin k0_t1_loop.trips) : Fin 2 → Nat :=
  let c1152 : Index := 1152#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v628 : Index := Scalar.indexCast v331
  ![1152, v628.toNat]
def k0_off31 (k0_t1 : Fin k0_t1_loop.trips) : Fin 2 → Nat :=
  let c640_305 : Index := 640#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v632 : Index := Scalar.indexCast v331
  ![640, v632.toNat]
def k0_off32 (k0_t1 : Fin k0_t1_loop.trips) : Fin 2 → Nat :=
  let c10_306 : Index := 10#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v634 : Index := Scalar.indexCast v331
  ![10, v634.toNat]
def k0_off33 (k0_t1 : Fin k0_t1_loop.trips) : Fin 2 → Nat :=
  let c1280 : Index := 1280#32
  let c0_i32_232 : BitVec 32 := 0#32
  let c0_i32_214 : BitVec 32 := 0#32
  let c1_i32_215 : BitVec 32 := 1#32
  let arg34 : BitVec 32 := Scf.iv c0_i32_214 c1_i32_215 k0_t1
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v658 : Index := Scalar.indexCast v331
  ![1280, v658.toNat]
@[reducible] def k0_t2_loop : Scf.Loop 32 :=
  let c0_i32_217 : BitVec 32 := 0#32
  let c11_i32_218 : BitVec 32 := 11#32
  let v319 : BitVec 32 := Scalar.addi c0_i32_217 c11_i32_218
  let c1_i32_219 : BitVec 32 := 1#32
  ⟨c0_i32_217, v319, c1_i32_219⟩
def k0_off34 (k0_t2 : Fin k0_t2_loop.trips) : Fin 2 → Nat :=
  let c0_233 : Index := 0#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v332 : Index := Scalar.indexCast v331
  ![0, v332.toNat]
def k0_off35 (k0_t2 : Fin k0_t2_loop.trips) : Fin 2 → Nat :=
  let c0_234 : Index := 0#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v334 : Index := Scalar.indexCast v331
  ![0, v334.toNat]
def k0_off36 (k0_t2 : Fin k0_t2_loop.trips) : Fin 2 → Nat :=
  let c0_237 : Index := 0#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v358 : Index := Scalar.indexCast v331
  ![0, v358.toNat]
def k0_off37 (k0_t2 : Fin k0_t2_loop.trips) : Fin 2 → Nat :=
  let c64 : Index := 64#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v362 : Index := Scalar.indexCast v331
  ![64, v362.toNat]
def k0_off38 (k0_t2 : Fin k0_t2_loop.trips) : Fin 2 → Nat :=
  let c1_238 : Index := 1#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v364 : Index := Scalar.indexCast v331
  ![1, v364.toNat]
def k0_off39 (k0_t2 : Fin k0_t2_loop.trips) : Fin 2 → Nat :=
  let c128 : Index := 128#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v388 : Index := Scalar.indexCast v331
  ![128, v388.toNat]
def k0_off40 (k0_t2 : Fin k0_t2_loop.trips) : Fin 2 → Nat :=
  let c128_245 : Index := 128#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v392 : Index := Scalar.indexCast v331
  ![128, v392.toNat]
def k0_off41 (k0_t2 : Fin k0_t2_loop.trips) : Fin 2 → Nat :=
  let c2_246 : Index := 2#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v394 : Index := Scalar.indexCast v331
  ![2, v394.toNat]
def k0_off42 (k0_t2 : Fin k0_t2_loop.trips) : Fin 2 → Nat :=
  let c256 : Index := 256#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v418 : Index := Scalar.indexCast v331
  ![256, v418.toNat]
def k0_off43 (k0_t2 : Fin k0_t2_loop.trips) : Fin 2 → Nat :=
  let c192 : Index := 192#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v422 : Index := Scalar.indexCast v331
  ![192, v422.toNat]
def k0_off44 (k0_t2 : Fin k0_t2_loop.trips) : Fin 2 → Nat :=
  let c3_253 : Index := 3#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v424 : Index := Scalar.indexCast v331
  ![3, v424.toNat]
def k0_off45 (k0_t2 : Fin k0_t2_loop.trips) : Fin 2 → Nat :=
  let c384 : Index := 384#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v448 : Index := Scalar.indexCast v331
  ![384, v448.toNat]
def k0_off46 (k0_t2 : Fin k0_t2_loop.trips) : Fin 2 → Nat :=
  let c256_260 : Index := 256#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v452 : Index := Scalar.indexCast v331
  ![256, v452.toNat]
def k0_off47 (k0_t2 : Fin k0_t2_loop.trips) : Fin 2 → Nat :=
  let c4_261 : Index := 4#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v454 : Index := Scalar.indexCast v331
  ![4, v454.toNat]
def k0_off48 (k0_t2 : Fin k0_t2_loop.trips) : Fin 2 → Nat :=
  let c512 : Index := 512#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v478 : Index := Scalar.indexCast v331
  ![512, v478.toNat]
def k0_off49 (k0_t2 : Fin k0_t2_loop.trips) : Fin 2 → Nat :=
  let c320 : Index := 320#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v482 : Index := Scalar.indexCast v331
  ![320, v482.toNat]
def k0_off50 (k0_t2 : Fin k0_t2_loop.trips) : Fin 2 → Nat :=
  let c5_268 : Index := 5#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v484 : Index := Scalar.indexCast v331
  ![5, v484.toNat]
def k0_off51 (k0_t2 : Fin k0_t2_loop.trips) : Fin 2 → Nat :=
  let c640 : Index := 640#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v508 : Index := Scalar.indexCast v331
  ![640, v508.toNat]
def k0_off52 (k0_t2 : Fin k0_t2_loop.trips) : Fin 2 → Nat :=
  let c384_275 : Index := 384#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v512 : Index := Scalar.indexCast v331
  ![384, v512.toNat]
def k0_off53 (k0_t2 : Fin k0_t2_loop.trips) : Fin 2 → Nat :=
  let c6_276 : Index := 6#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v514 : Index := Scalar.indexCast v331
  ![6, v514.toNat]
def k0_off54 (k0_t2 : Fin k0_t2_loop.trips) : Fin 2 → Nat :=
  let c768 : Index := 768#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v538 : Index := Scalar.indexCast v331
  ![768, v538.toNat]
def k0_off55 (k0_t2 : Fin k0_t2_loop.trips) : Fin 2 → Nat :=
  let c448 : Index := 448#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v542 : Index := Scalar.indexCast v331
  ![448, v542.toNat]
def k0_off56 (k0_t2 : Fin k0_t2_loop.trips) : Fin 2 → Nat :=
  let c7_283 : Index := 7#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v544 : Index := Scalar.indexCast v331
  ![7, v544.toNat]
def k0_off57 (k0_t2 : Fin k0_t2_loop.trips) : Fin 2 → Nat :=
  let c896 : Index := 896#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v568 : Index := Scalar.indexCast v331
  ![896, v568.toNat]
def k0_off58 (k0_t2 : Fin k0_t2_loop.trips) : Fin 2 → Nat :=
  let c512_290 : Index := 512#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v572 : Index := Scalar.indexCast v331
  ![512, v572.toNat]
def k0_off59 (k0_t2 : Fin k0_t2_loop.trips) : Fin 2 → Nat :=
  let c8_291 : Index := 8#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v574 : Index := Scalar.indexCast v331
  ![8, v574.toNat]
def k0_off60 (k0_t2 : Fin k0_t2_loop.trips) : Fin 2 → Nat :=
  let c1024 : Index := 1024#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v598 : Index := Scalar.indexCast v331
  ![1024, v598.toNat]
def k0_off61 (k0_t2 : Fin k0_t2_loop.trips) : Fin 2 → Nat :=
  let c576 : Index := 576#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v602 : Index := Scalar.indexCast v331
  ![576, v602.toNat]
def k0_off62 (k0_t2 : Fin k0_t2_loop.trips) : Fin 2 → Nat :=
  let c9_298 : Index := 9#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v604 : Index := Scalar.indexCast v331
  ![9, v604.toNat]
def k0_off63 (k0_t2 : Fin k0_t2_loop.trips) : Fin 2 → Nat :=
  let c1152 : Index := 1152#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v628 : Index := Scalar.indexCast v331
  ![1152, v628.toNat]
def k0_off64 (k0_t2 : Fin k0_t2_loop.trips) : Fin 2 → Nat :=
  let c640_305 : Index := 640#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v632 : Index := Scalar.indexCast v331
  ![640, v632.toNat]
def k0_off65 (k0_t2 : Fin k0_t2_loop.trips) : Fin 2 → Nat :=
  let c10_306 : Index := 10#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v634 : Index := Scalar.indexCast v331
  ![10, v634.toNat]
def k0_off66 (k0_t2 : Fin k0_t2_loop.trips) : Fin 2 → Nat :=
  let c1280 : Index := 1280#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v658 : Index := Scalar.indexCast v331
  ![1280, v658.toNat]
def k0_off67 (k0_t2 : Fin k0_t2_loop.trips) : Fin 2 → Nat :=
  let c704 : Index := 704#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v662 : Index := Scalar.indexCast v331
  ![704, v662.toNat]
def k0_off68 (k0_t2 : Fin k0_t2_loop.trips) : Fin 2 → Nat :=
  let c11_313 : Index := 11#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v664 : Index := Scalar.indexCast v331
  ![11, v664.toNat]
def k0_off69 (k0_t2 : Fin k0_t2_loop.trips) : Fin 2 → Nat :=
  let c1408 : Index := 1408#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v688 : Index := Scalar.indexCast v331
  ![1408, v688.toNat]
def k0_off70 (k0_t2 : Fin k0_t2_loop.trips) : Fin 2 → Nat :=
  let c768_320 : Index := 768#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v692 : Index := Scalar.indexCast v331
  ![768, v692.toNat]
def k0_off71 (k0_t2 : Fin k0_t2_loop.trips) : Fin 2 → Nat :=
  let c12_321 : Index := 12#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v694 : Index := Scalar.indexCast v331
  ![12, v694.toNat]
def k0_off72 (k0_t2 : Fin k0_t2_loop.trips) : Fin 2 → Nat :=
  let c1536 : Index := 1536#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v718 : Index := Scalar.indexCast v331
  ![1536, v718.toNat]
def k0_off73 (k0_t2 : Fin k0_t2_loop.trips) : Fin 2 → Nat :=
  let c832 : Index := 832#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v722 : Index := Scalar.indexCast v331
  ![832, v722.toNat]
def k0_off74 (k0_t2 : Fin k0_t2_loop.trips) : Fin 2 → Nat :=
  let c13_328 : Index := 13#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v724 : Index := Scalar.indexCast v331
  ![13, v724.toNat]
def k0_off75 (k0_t2 : Fin k0_t2_loop.trips) : Fin 2 → Nat :=
  let c1664 : Index := 1664#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v748 : Index := Scalar.indexCast v331
  ![1664, v748.toNat]
def k0_off76 (k0_t2 : Fin k0_t2_loop.trips) : Fin 2 → Nat :=
  let c896_335 : Index := 896#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v752 : Index := Scalar.indexCast v331
  ![896, v752.toNat]
def k0_off77 (k0_t2 : Fin k0_t2_loop.trips) : Fin 2 → Nat :=
  let c14 : Index := 14#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v754 : Index := Scalar.indexCast v331
  ![14, v754.toNat]
def k0_off78 (k0_t2 : Fin k0_t2_loop.trips) : Fin 2 → Nat :=
  let c1792 : Index := 1792#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v778 : Index := Scalar.indexCast v331
  ![1792, v778.toNat]
def k0_off79 (k0_t2 : Fin k0_t2_loop.trips) : Fin 2 → Nat :=
  let c960 : Index := 960#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v782 : Index := Scalar.indexCast v331
  ![960, v782.toNat]
def k0_off80 (k0_t2 : Fin k0_t2_loop.trips) : Fin 2 → Nat :=
  let c15 : Index := 15#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v784 : Index := Scalar.indexCast v331
  ![15, v784.toNat]
def k0_off81 (k0_t2 : Fin k0_t2_loop.trips) : Fin 2 → Nat :=
  let c1920 : Index := 1920#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v808 : Index := Scalar.indexCast v331
  ![1920, v808.toNat]
def k0_off82 (k0_t2 : Fin k0_t2_loop.trips) : Fin 2 → Nat :=
  let c1024_348 : Index := 1024#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v812 : Index := Scalar.indexCast v331
  ![1024, v812.toNat]
def k0_off83 (k0_t2 : Fin k0_t2_loop.trips) : Fin 2 → Nat :=
  let c16 : Index := 16#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v814 : Index := Scalar.indexCast v331
  ![16, v814.toNat]
def k0_off84 (k0_t2 : Fin k0_t2_loop.trips) : Fin 2 → Nat :=
  let c2048 : Index := 2048#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v838 : Index := Scalar.indexCast v331
  ![2048, v838.toNat]
def k0_off85 (k0_t2 : Fin k0_t2_loop.trips) : Fin 2 → Nat :=
  let c1088 : Index := 1088#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v842 : Index := Scalar.indexCast v331
  ![1088, v842.toNat]
def k0_off86 (k0_t2 : Fin k0_t2_loop.trips) : Fin 2 → Nat :=
  let c17 : Index := 17#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v844 : Index := Scalar.indexCast v331
  ![17, v844.toNat]
def k0_off87 (k0_t2 : Fin k0_t2_loop.trips) : Fin 2 → Nat :=
  let c2176 : Index := 2176#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v868 : Index := Scalar.indexCast v331
  ![2176, v868.toNat]
def k0_off88 (k0_t2 : Fin k0_t2_loop.trips) : Fin 2 → Nat :=
  let c1152_361 : Index := 1152#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v872 : Index := Scalar.indexCast v331
  ![1152, v872.toNat]
def k0_off89 (k0_t2 : Fin k0_t2_loop.trips) : Fin 2 → Nat :=
  let c18 : Index := 18#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v874 : Index := Scalar.indexCast v331
  ![18, v874.toNat]
def k0_off90 (k0_t2 : Fin k0_t2_loop.trips) : Fin 2 → Nat :=
  let c2304 : Index := 2304#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v898 : Index := Scalar.indexCast v331
  ![2304, v898.toNat]
def k0_off91 (k0_t2 : Fin k0_t2_loop.trips) : Fin 2 → Nat :=
  let c1216 : Index := 1216#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v902 : Index := Scalar.indexCast v331
  ![1216, v902.toNat]
def k0_off92 (k0_t2 : Fin k0_t2_loop.trips) : Fin 2 → Nat :=
  let c19 : Index := 19#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v904 : Index := Scalar.indexCast v331
  ![19, v904.toNat]
def k0_off93 (k0_t2 : Fin k0_t2_loop.trips) : Fin 2 → Nat :=
  let c2432 : Index := 2432#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v928 : Index := Scalar.indexCast v331
  ![2432, v928.toNat]
def k0_off94 (k0_t2 : Fin k0_t2_loop.trips) : Fin 2 → Nat :=
  let c1280_374 : Index := 1280#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v932 : Index := Scalar.indexCast v331
  ![1280, v932.toNat]
def k0_off95 (k0_t2 : Fin k0_t2_loop.trips) : Fin 2 → Nat :=
  let c20 : Index := 20#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v934 : Index := Scalar.indexCast v331
  ![20, v934.toNat]
def k0_off96 (k0_t2 : Fin k0_t2_loop.trips) : Fin 2 → Nat :=
  let c2560 : Index := 2560#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v958 : Index := Scalar.indexCast v331
  ![2560, v958.toNat]
def k0_off97 (k0_t2 : Fin k0_t2_loop.trips) : Fin 2 → Nat :=
  let c1344 : Index := 1344#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v962 : Index := Scalar.indexCast v331
  ![1344, v962.toNat]
def k0_off98 (k0_t2 : Fin k0_t2_loop.trips) : Fin 2 → Nat :=
  let c21 : Index := 21#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v964 : Index := Scalar.indexCast v331
  ![21, v964.toNat]
def k0_off99 (k0_t2 : Fin k0_t2_loop.trips) : Fin 2 → Nat :=
  let c2688 : Index := 2688#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v988 : Index := Scalar.indexCast v331
  ![2688, v988.toNat]
def k0_off100 (k0_t2 : Fin k0_t2_loop.trips) : Fin 2 → Nat :=
  let c1408_387 : Index := 1408#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v992 : Index := Scalar.indexCast v331
  ![1408, v992.toNat]
def k0_off101 (k0_t2 : Fin k0_t2_loop.trips) : Fin 2 → Nat :=
  let c22 : Index := 22#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v994 : Index := Scalar.indexCast v331
  ![22, v994.toNat]
def k0_off102 (k0_t2 : Fin k0_t2_loop.trips) : Fin 2 → Nat :=
  let c2816 : Index := 2816#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1018 : Index := Scalar.indexCast v331
  ![2816, v1018.toNat]
def k0_off103 (k0_t2 : Fin k0_t2_loop.trips) : Fin 2 → Nat :=
  let c1472 : Index := 1472#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1022 : Index := Scalar.indexCast v331
  ![1472, v1022.toNat]
def k0_off104 (k0_t2 : Fin k0_t2_loop.trips) : Fin 2 → Nat :=
  let c23 : Index := 23#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1024 : Index := Scalar.indexCast v331
  ![23, v1024.toNat]
def k0_off105 (k0_t2 : Fin k0_t2_loop.trips) : Fin 2 → Nat :=
  let c2944 : Index := 2944#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1048 : Index := Scalar.indexCast v331
  ![2944, v1048.toNat]
def k0_off106 (k0_t2 : Fin k0_t2_loop.trips) : Fin 2 → Nat :=
  let c1536_400 : Index := 1536#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1052 : Index := Scalar.indexCast v331
  ![1536, v1052.toNat]
def k0_off107 (k0_t2 : Fin k0_t2_loop.trips) : Fin 2 → Nat :=
  let c24 : Index := 24#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1054 : Index := Scalar.indexCast v331
  ![24, v1054.toNat]
def k0_off108 (k0_t2 : Fin k0_t2_loop.trips) : Fin 2 → Nat :=
  let c3072 : Index := 3072#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1078 : Index := Scalar.indexCast v331
  ![3072, v1078.toNat]
def k0_off109 (k0_t2 : Fin k0_t2_loop.trips) : Fin 2 → Nat :=
  let c1600 : Index := 1600#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1082 : Index := Scalar.indexCast v331
  ![1600, v1082.toNat]
def k0_off110 (k0_t2 : Fin k0_t2_loop.trips) : Fin 2 → Nat :=
  let c25 : Index := 25#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1084 : Index := Scalar.indexCast v331
  ![25, v1084.toNat]
def k0_off111 (k0_t2 : Fin k0_t2_loop.trips) : Fin 2 → Nat :=
  let c3200 : Index := 3200#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1108 : Index := Scalar.indexCast v331
  ![3200, v1108.toNat]
def k0_off112 (k0_t2 : Fin k0_t2_loop.trips) : Fin 2 → Nat :=
  let c1664_413 : Index := 1664#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1112 : Index := Scalar.indexCast v331
  ![1664, v1112.toNat]
def k0_off113 (k0_t2 : Fin k0_t2_loop.trips) : Fin 2 → Nat :=
  let c26 : Index := 26#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1114 : Index := Scalar.indexCast v331
  ![26, v1114.toNat]
def k0_off114 (k0_t2 : Fin k0_t2_loop.trips) : Fin 2 → Nat :=
  let c3328 : Index := 3328#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1138 : Index := Scalar.indexCast v331
  ![3328, v1138.toNat]
def k0_off115 (k0_t2 : Fin k0_t2_loop.trips) : Fin 2 → Nat :=
  let c1728 : Index := 1728#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1142 : Index := Scalar.indexCast v331
  ![1728, v1142.toNat]
def k0_off116 (k0_t2 : Fin k0_t2_loop.trips) : Fin 2 → Nat :=
  let c27 : Index := 27#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1144 : Index := Scalar.indexCast v331
  ![27, v1144.toNat]
def k0_off117 (k0_t2 : Fin k0_t2_loop.trips) : Fin 2 → Nat :=
  let c3456 : Index := 3456#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1168 : Index := Scalar.indexCast v331
  ![3456, v1168.toNat]
def k0_off118 (k0_t2 : Fin k0_t2_loop.trips) : Fin 2 → Nat :=
  let c1792_426 : Index := 1792#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1172 : Index := Scalar.indexCast v331
  ![1792, v1172.toNat]
def k0_off119 (k0_t2 : Fin k0_t2_loop.trips) : Fin 2 → Nat :=
  let c28 : Index := 28#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1174 : Index := Scalar.indexCast v331
  ![28, v1174.toNat]
def k0_off120 (k0_t2 : Fin k0_t2_loop.trips) : Fin 2 → Nat :=
  let c3584 : Index := 3584#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1198 : Index := Scalar.indexCast v331
  ![3584, v1198.toNat]
def k0_off121 (k0_t2 : Fin k0_t2_loop.trips) : Fin 2 → Nat :=
  let c1856 : Index := 1856#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1202 : Index := Scalar.indexCast v331
  ![1856, v1202.toNat]
def k0_off122 (k0_t2 : Fin k0_t2_loop.trips) : Fin 2 → Nat :=
  let c29 : Index := 29#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1204 : Index := Scalar.indexCast v331
  ![29, v1204.toNat]
def k0_off123 (k0_t2 : Fin k0_t2_loop.trips) : Fin 2 → Nat :=
  let c3712 : Index := 3712#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1228 : Index := Scalar.indexCast v331
  ![3712, v1228.toNat]
def k0_off124 (k0_t2 : Fin k0_t2_loop.trips) : Fin 2 → Nat :=
  let c1920_439 : Index := 1920#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1232 : Index := Scalar.indexCast v331
  ![1920, v1232.toNat]
def k0_off125 (k0_t2 : Fin k0_t2_loop.trips) : Fin 2 → Nat :=
  let c30 : Index := 30#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1234 : Index := Scalar.indexCast v331
  ![30, v1234.toNat]
def k0_off126 (k0_t2 : Fin k0_t2_loop.trips) : Fin 2 → Nat :=
  let c3840 : Index := 3840#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1258 : Index := Scalar.indexCast v331
  ![3840, v1258.toNat]
def k0_off127 (k0_t2 : Fin k0_t2_loop.trips) : Fin 2 → Nat :=
  let c1984 : Index := 1984#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1262 : Index := Scalar.indexCast v331
  ![1984, v1262.toNat]
def k0_off128 (k0_t2 : Fin k0_t2_loop.trips) : Fin 2 → Nat :=
  let c31 : Index := 31#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1264 : Index := Scalar.indexCast v331
  ![31, v1264.toNat]
def k0_off129 (k0_t2 : Fin k0_t2_loop.trips) : Fin 2 → Nat :=
  let c3968 : Index := 3968#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1288 : Index := Scalar.indexCast v331
  ![3968, v1288.toNat]
def k0_off130 (k0_t2 : Fin k0_t2_loop.trips) : Fin 2 → Nat :=
  let c2048_452 : Index := 2048#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1292 : Index := Scalar.indexCast v331
  ![2048, v1292.toNat]
def k0_off131 (k0_t2 : Fin k0_t2_loop.trips) : Fin 2 → Nat :=
  let c32 : Index := 32#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1294 : Index := Scalar.indexCast v331
  ![32, v1294.toNat]
def k0_off132 (k0_t2 : Fin k0_t2_loop.trips) : Fin 2 → Nat :=
  let c4096 : Index := 4096#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1318 : Index := Scalar.indexCast v331
  ![4096, v1318.toNat]
def k0_off133 (k0_t2 : Fin k0_t2_loop.trips) : Fin 2 → Nat :=
  let c2112 : Index := 2112#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1322 : Index := Scalar.indexCast v331
  ![2112, v1322.toNat]
def k0_off134 (k0_t2 : Fin k0_t2_loop.trips) : Fin 2 → Nat :=
  let c33 : Index := 33#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1324 : Index := Scalar.indexCast v331
  ![33, v1324.toNat]
def k0_off135 (k0_t2 : Fin k0_t2_loop.trips) : Fin 2 → Nat :=
  let c4224 : Index := 4224#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1348 : Index := Scalar.indexCast v331
  ![4224, v1348.toNat]
def k0_off136 (k0_t2 : Fin k0_t2_loop.trips) : Fin 2 → Nat :=
  let c2176_465 : Index := 2176#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1352 : Index := Scalar.indexCast v331
  ![2176, v1352.toNat]
def k0_off137 (k0_t2 : Fin k0_t2_loop.trips) : Fin 2 → Nat :=
  let c34 : Index := 34#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1354 : Index := Scalar.indexCast v331
  ![34, v1354.toNat]
def k0_off138 (k0_t2 : Fin k0_t2_loop.trips) : Fin 2 → Nat :=
  let c4352 : Index := 4352#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1378 : Index := Scalar.indexCast v331
  ![4352, v1378.toNat]
def k0_off139 (k0_t2 : Fin k0_t2_loop.trips) : Fin 2 → Nat :=
  let c2240 : Index := 2240#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1382 : Index := Scalar.indexCast v331
  ![2240, v1382.toNat]
def k0_off140 (k0_t2 : Fin k0_t2_loop.trips) : Fin 2 → Nat :=
  let c35 : Index := 35#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1384 : Index := Scalar.indexCast v331
  ![35, v1384.toNat]
def k0_off141 (k0_t2 : Fin k0_t2_loop.trips) : Fin 2 → Nat :=
  let c4480 : Index := 4480#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1408 : Index := Scalar.indexCast v331
  ![4480, v1408.toNat]
def k0_off142 (k0_t2 : Fin k0_t2_loop.trips) : Fin 2 → Nat :=
  let c2304_478 : Index := 2304#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1412 : Index := Scalar.indexCast v331
  ![2304, v1412.toNat]
def k0_off143 (k0_t2 : Fin k0_t2_loop.trips) : Fin 2 → Nat :=
  let c36 : Index := 36#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1414 : Index := Scalar.indexCast v331
  ![36, v1414.toNat]
def k0_off144 (k0_t2 : Fin k0_t2_loop.trips) : Fin 2 → Nat :=
  let c4608 : Index := 4608#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1438 : Index := Scalar.indexCast v331
  ![4608, v1438.toNat]
def k0_off145 (k0_t2 : Fin k0_t2_loop.trips) : Fin 2 → Nat :=
  let c2368 : Index := 2368#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1442 : Index := Scalar.indexCast v331
  ![2368, v1442.toNat]
def k0_off146 (k0_t2 : Fin k0_t2_loop.trips) : Fin 2 → Nat :=
  let c37 : Index := 37#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1444 : Index := Scalar.indexCast v331
  ![37, v1444.toNat]
def k0_off147 (k0_t2 : Fin k0_t2_loop.trips) : Fin 2 → Nat :=
  let c4736 : Index := 4736#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1468 : Index := Scalar.indexCast v331
  ![4736, v1468.toNat]
def k0_off148 (k0_t2 : Fin k0_t2_loop.trips) : Fin 2 → Nat :=
  let c2432_491 : Index := 2432#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1472 : Index := Scalar.indexCast v331
  ![2432, v1472.toNat]
def k0_off149 (k0_t2 : Fin k0_t2_loop.trips) : Fin 2 → Nat :=
  let c38 : Index := 38#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1474 : Index := Scalar.indexCast v331
  ![38, v1474.toNat]
def k0_off150 (k0_t2 : Fin k0_t2_loop.trips) : Fin 2 → Nat :=
  let c4864 : Index := 4864#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1498 : Index := Scalar.indexCast v331
  ![4864, v1498.toNat]
def k0_off151 (k0_t2 : Fin k0_t2_loop.trips) : Fin 2 → Nat :=
  let c2496 : Index := 2496#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1502 : Index := Scalar.indexCast v331
  ![2496, v1502.toNat]
def k0_off152 (k0_t2 : Fin k0_t2_loop.trips) : Fin 2 → Nat :=
  let c39 : Index := 39#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1504 : Index := Scalar.indexCast v331
  ![39, v1504.toNat]
def k0_off153 (k0_t2 : Fin k0_t2_loop.trips) : Fin 2 → Nat :=
  let c4992 : Index := 4992#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1528 : Index := Scalar.indexCast v331
  ![4992, v1528.toNat]
def k0_off154 (k0_t2 : Fin k0_t2_loop.trips) : Fin 2 → Nat :=
  let c2560_504 : Index := 2560#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1532 : Index := Scalar.indexCast v331
  ![2560, v1532.toNat]
def k0_off155 (k0_t2 : Fin k0_t2_loop.trips) : Fin 2 → Nat :=
  let c40 : Index := 40#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1534 : Index := Scalar.indexCast v331
  ![40, v1534.toNat]
def k0_off156 (k0_t2 : Fin k0_t2_loop.trips) : Fin 2 → Nat :=
  let c5120 : Index := 5120#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1558 : Index := Scalar.indexCast v331
  ![5120, v1558.toNat]
def k0_off157 (k0_t2 : Fin k0_t2_loop.trips) : Fin 2 → Nat :=
  let c2624 : Index := 2624#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1562 : Index := Scalar.indexCast v331
  ![2624, v1562.toNat]
def k0_off158 (k0_t2 : Fin k0_t2_loop.trips) : Fin 2 → Nat :=
  let c41 : Index := 41#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1564 : Index := Scalar.indexCast v331
  ![41, v1564.toNat]
def k0_off159 (k0_t2 : Fin k0_t2_loop.trips) : Fin 2 → Nat :=
  let c5248 : Index := 5248#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1588 : Index := Scalar.indexCast v331
  ![5248, v1588.toNat]
def k0_off160 (k0_t2 : Fin k0_t2_loop.trips) : Fin 2 → Nat :=
  let c2688_517 : Index := 2688#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1592 : Index := Scalar.indexCast v331
  ![2688, v1592.toNat]
def k0_off161 (k0_t2 : Fin k0_t2_loop.trips) : Fin 2 → Nat :=
  let c42 : Index := 42#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1594 : Index := Scalar.indexCast v331
  ![42, v1594.toNat]
def k0_off162 (k0_t2 : Fin k0_t2_loop.trips) : Fin 2 → Nat :=
  let c5376 : Index := 5376#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1618 : Index := Scalar.indexCast v331
  ![5376, v1618.toNat]
def k0_off163 (k0_t2 : Fin k0_t2_loop.trips) : Fin 2 → Nat :=
  let c2752 : Index := 2752#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1622 : Index := Scalar.indexCast v331
  ![2752, v1622.toNat]
def k0_off164 (k0_t2 : Fin k0_t2_loop.trips) : Fin 2 → Nat :=
  let c43 : Index := 43#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1624 : Index := Scalar.indexCast v331
  ![43, v1624.toNat]
def k0_off165 (k0_t2 : Fin k0_t2_loop.trips) : Fin 2 → Nat :=
  let c5504 : Index := 5504#32
  let c0_i32_232 : BitVec 32 := 0#32
  let c0_i32_217 : BitVec 32 := 0#32
  let c1_i32_219 : BitVec 32 := 1#32
  let arg34 : BitVec 32 := Scf.iv c0_i32_217 c1_i32_219 k0_t2
  let c1_i32_231 : BitVec 32 := 1#32
  let v329 : BitVec 32 := Scalar.muli arg34 c1_i32_231
  let v330 : BitVec 32 := Scalar.addi c0_i32_232 v329
  let c128_i32 : BitVec 32 := 128#32
  let v331 : BitVec 32 := Scalar.muli v330 c128_i32
  let v1648 : Index := Scalar.indexCast v331
  ![5504, v1648.toNat]
@[reducible] def k0_t3_loop : Scf.Loop 32 :=
  let c0_i32_1 : BitVec 32 := 0#32
  let c11_i32 : BitVec 32 := 11#32
  let v3 : BitVec 32 := Scalar.addi c0_i32_1 c11_i32
  let c1_i32 : BitVec 32 := 1#32
  ⟨c0_i32_1, v3, c1_i32⟩
def k0_mult1 (k0_t3 : Fin k0_t3_loop.trips) : BitVec 32 :=
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  v320
def k0_off166 (k0_t3 : Fin k0_t3_loop.trips) : Fin 4 → Nat :=
  let c0_216 : Index := 0#32
  let c0_217 : Index := 0#32
  let c0_218 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v322 : Index := Scalar.indexCast v321
  ![0, 0, 0, v322.toNat]
def k0_off167 (k0_t3 : Fin k0_t3_loop.trips) : Fin 4 → Nat :=
  let c0_222 : Index := 0#32
  let c1_223 : Index := 1#32
  let c0_224 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v329 : Index := Scalar.indexCast v321
  ![0, 1, 0, v329.toNat]
def k0_off168 (k0_t3 : Fin k0_t3_loop.trips) : Fin 4 → Nat :=
  let c0_228 : Index := 0#32
  let c2_229 : Index := 2#32
  let c0_230 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v336 : Index := Scalar.indexCast v321
  ![0, 2, 0, v336.toNat]
def k0_off169 (k0_t3 : Fin k0_t3_loop.trips) : Fin 4 → Nat :=
  let c0_234 : Index := 0#32
  let c3_235 : Index := 3#32
  let c0_236 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v343 : Index := Scalar.indexCast v321
  ![0, 3, 0, v343.toNat]
def k0_off170 (k0_t3 : Fin k0_t3_loop.trips) : Fin 4 → Nat :=
  let c0_240 : Index := 0#32
  let c4_241 : Index := 4#32
  let c0_242 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v350 : Index := Scalar.indexCast v321
  ![0, 4, 0, v350.toNat]
def k0_off171 (k0_t3 : Fin k0_t3_loop.trips) : Fin 4 → Nat :=
  let c0_246 : Index := 0#32
  let c5_247 : Index := 5#32
  let c0_248 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v357 : Index := Scalar.indexCast v321
  ![0, 5, 0, v357.toNat]
def k0_off172 (k0_t3 : Fin k0_t3_loop.trips) : Fin 4 → Nat :=
  let c0_252 : Index := 0#32
  let c6_253 : Index := 6#32
  let c0_254 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v364 : Index := Scalar.indexCast v321
  ![0, 6, 0, v364.toNat]
def k0_off173 (k0_t3 : Fin k0_t3_loop.trips) : Fin 4 → Nat :=
  let c0_258 : Index := 0#32
  let c7_259 : Index := 7#32
  let c0_260 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v371 : Index := Scalar.indexCast v321
  ![0, 7, 0, v371.toNat]
def k0_off174 (k0_t3 : Fin k0_t3_loop.trips) : Fin 4 → Nat :=
  let c0_264 : Index := 0#32
  let c8_265 : Index := 8#32
  let c0_266 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v378 : Index := Scalar.indexCast v321
  ![0, 8, 0, v378.toNat]
def k0_off175 (k0_t3 : Fin k0_t3_loop.trips) : Fin 4 → Nat :=
  let c0_270 : Index := 0#32
  let c9_271 : Index := 9#32
  let c0_272 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v385 : Index := Scalar.indexCast v321
  ![0, 9, 0, v385.toNat]
def k0_off176 (k0_t3 : Fin k0_t3_loop.trips) : Fin 4 → Nat :=
  let c0_276 : Index := 0#32
  let c10_277 : Index := 10#32
  let c0_278 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v392 : Index := Scalar.indexCast v321
  ![0, 10, 0, v392.toNat]
def k0_off177 (k0_t3 : Fin k0_t3_loop.trips) : Fin 4 → Nat :=
  let c0_282 : Index := 0#32
  let c11_283 : Index := 11#32
  let c0_284 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v399 : Index := Scalar.indexCast v321
  ![0, 11, 0, v399.toNat]
def k0_off178 (k0_t3 : Fin k0_t3_loop.trips) : Fin 4 → Nat :=
  let c0_288 : Index := 0#32
  let c12_289 : Index := 12#32
  let c0_290 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v406 : Index := Scalar.indexCast v321
  ![0, 12, 0, v406.toNat]
def k0_off179 (k0_t3 : Fin k0_t3_loop.trips) : Fin 4 → Nat :=
  let c0_294 : Index := 0#32
  let c13_295 : Index := 13#32
  let c0_296 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v413 : Index := Scalar.indexCast v321
  ![0, 13, 0, v413.toNat]
def k0_off180 (k0_t3 : Fin k0_t3_loop.trips) : Fin 2 → Nat :=
  let c0_301 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v421 : Index := Scalar.indexCast v321
  ![0, v421.toNat]
@[reducible] def k0_t4_loop : Scf.Loop 32 :=
  let c0_i32_303 : BitVec 32 := 0#32
  let c2_i32 : BitVec 32 := 2#32
  let v429 : BitVec 32 := Scalar.addi c0_i32_303 c2_i32
  let c1_i32_304 : BitVec 32 := 1#32
  ⟨c0_i32_303, v429, c1_i32_304⟩
def k0_off181 (k0_t4 : Fin k0_t4_loop.trips) (c0_i32_309 : BitVec 32) : Fin 3 → Nat :=
  let c0_310 : Index := 0#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32 : BitVec 32 := 8#32
  let v432 : BitVec 32 := Scalar.muli v431 c8_i32
  let c8_i32_308 : BitVec 32 := 8#32
  let v433 : BitVec 32 := Scalar.addi v432 c8_i32_308
  let c3_i32 : BitVec 32 := 3#32
  let v434 : BitVec 32 := Scalar.subi v433 c3_i32
  let v435 : BitVec 32 := Scalar.addi v434 c0_i32_309
  let v436 : Index := Scalar.indexCast v435
  let c0_311 : Index := 0#32
  ![0, v436.toNat, 0]
def k0_off182 (k0_t3 : Fin k0_t3_loop.trips) : Fin 3 → Nat :=
  let c3_312 : Index := 3#32
  let c0_313 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v439 : Index := Scalar.indexCast v321
  ![3, 0, v439.toNat]
def k0_off183 (k0_t3 : Fin k0_t3_loop.trips) : Fin 3 → Nat :=
  let c3_320 : Index := 3#32
  let c1_321 : Index := 1#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v451 : Index := Scalar.indexCast v321
  ![3, 1, v451.toNat]
def k0_off184 (k0_t3 : Fin k0_t3_loop.trips) : Fin 3 → Nat :=
  let c3_328 : Index := 3#32
  let c2_329 : Index := 2#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v464 : Index := Scalar.indexCast v321
  ![3, 2, v464.toNat]
def k0_off185 (k0_t3 : Fin k0_t3_loop.trips) : Fin 3 → Nat :=
  let c3_336 : Index := 3#32
  let c3_337 : Index := 3#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v477 : Index := Scalar.indexCast v321
  ![3, 3, v477.toNat]
def k0_off186 (k0_t3 : Fin k0_t3_loop.trips) : Fin 3 → Nat :=
  let c3_343 : Index := 3#32
  let c4_344 : Index := 4#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v490 : Index := Scalar.indexCast v321
  ![3, 4, v490.toNat]
def k0_off187 (k0_t3 : Fin k0_t3_loop.trips) : Fin 3 → Nat :=
  let c3_350 : Index := 3#32
  let c5_351 : Index := 5#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v503 : Index := Scalar.indexCast v321
  ![3, 5, v503.toNat]
def k0_off188 (k0_t3 : Fin k0_t3_loop.trips) : Fin 3 → Nat :=
  let c3_357 : Index := 3#32
  let c6_358 : Index := 6#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v516 : Index := Scalar.indexCast v321
  ![3, 6, v516.toNat]
def k0_off189 (k0_t4 : Fin k0_t4_loop.trips) (c0_i32_362 : BitVec 32) : Fin 3 → Nat :=
  let c1_363 : Index := 1#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_359 : BitVec 32 := 8#32
  let v522 : BitVec 32 := Scalar.muli v431 c8_i32_359
  let c8_i32_360 : BitVec 32 := 8#32
  let v523 : BitVec 32 := Scalar.addi v522 c8_i32_360
  let c3_i32_361 : BitVec 32 := 3#32
  let v524 : BitVec 32 := Scalar.subi v523 c3_i32_361
  let v525 : BitVec 32 := Scalar.addi v524 c0_i32_362
  let v526 : Index := Scalar.indexCast v525
  let c0_364 : Index := 0#32
  ![1, v526.toNat, 0]
def k0_off190 (k0_t3 : Fin k0_t3_loop.trips) : Fin 3 → Nat :=
  let c4_365 : Index := 4#32
  let c0_366 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v529 : Index := Scalar.indexCast v321
  ![4, 0, v529.toNat]
def k0_off191 (k0_t3 : Fin k0_t3_loop.trips) : Fin 3 → Nat :=
  let c4_373 : Index := 4#32
  let c1_374 : Index := 1#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v542 : Index := Scalar.indexCast v321
  ![4, 1, v542.toNat]
def k0_off192 (k0_t3 : Fin k0_t3_loop.trips) : Fin 3 → Nat :=
  let c4_381 : Index := 4#32
  let c2_382 : Index := 2#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v555 : Index := Scalar.indexCast v321
  ![4, 2, v555.toNat]
def k0_off193 (k0_t3 : Fin k0_t3_loop.trips) : Fin 3 → Nat :=
  let c4_389 : Index := 4#32
  let c3_390 : Index := 3#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v568 : Index := Scalar.indexCast v321
  ![4, 3, v568.toNat]
def k0_off194 (k0_t3 : Fin k0_t3_loop.trips) : Fin 3 → Nat :=
  let c4_397 : Index := 4#32
  let c4_398 : Index := 4#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v581 : Index := Scalar.indexCast v321
  ![4, 4, v581.toNat]
def k0_off195 (k0_t3 : Fin k0_t3_loop.trips) : Fin 3 → Nat :=
  let c4_405 : Index := 4#32
  let c5_406 : Index := 5#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v594 : Index := Scalar.indexCast v321
  ![4, 5, v594.toNat]
def k0_off196 (k0_t3 : Fin k0_t3_loop.trips) : Fin 3 → Nat :=
  let c4_413 : Index := 4#32
  let c6_414 : Index := 6#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v607 : Index := Scalar.indexCast v321
  ![4, 6, v607.toNat]
def k0_off197 (k0_t4 : Fin k0_t4_loop.trips) (c0_i32_418 : BitVec 32) : Fin 3 → Nat :=
  let c2_419 : Index := 2#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_415 : BitVec 32 := 8#32
  let v613 : BitVec 32 := Scalar.muli v431 c8_i32_415
  let c8_i32_416 : BitVec 32 := 8#32
  let v614 : BitVec 32 := Scalar.addi v613 c8_i32_416
  let c3_i32_417 : BitVec 32 := 3#32
  let v615 : BitVec 32 := Scalar.subi v614 c3_i32_417
  let v616 : BitVec 32 := Scalar.addi v615 c0_i32_418
  let v617 : Index := Scalar.indexCast v616
  let c0_420 : Index := 0#32
  ![2, v617.toNat, 0]
def k0_off198 (k0_t3 : Fin k0_t3_loop.trips) : Fin 3 → Nat :=
  let c5_421 : Index := 5#32
  let c0_422 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v620 : Index := Scalar.indexCast v321
  ![5, 0, v620.toNat]
def k0_off199 (k0_t3 : Fin k0_t3_loop.trips) : Fin 3 → Nat :=
  let c5_429 : Index := 5#32
  let c1_430 : Index := 1#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v633 : Index := Scalar.indexCast v321
  ![5, 1, v633.toNat]
def k0_off200 (k0_t3 : Fin k0_t3_loop.trips) : Fin 3 → Nat :=
  let c5_437 : Index := 5#32
  let c2_438 : Index := 2#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v646 : Index := Scalar.indexCast v321
  ![5, 2, v646.toNat]
def k0_off201 (k0_t3 : Fin k0_t3_loop.trips) : Fin 3 → Nat :=
  let c5_445 : Index := 5#32
  let c3_446 : Index := 3#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v659 : Index := Scalar.indexCast v321
  ![5, 3, v659.toNat]
def k0_off202 (k0_t3 : Fin k0_t3_loop.trips) : Fin 3 → Nat :=
  let c5_453 : Index := 5#32
  let c4_454 : Index := 4#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v672 : Index := Scalar.indexCast v321
  ![5, 4, v672.toNat]
def k0_off203 (k0_t3 : Fin k0_t3_loop.trips) : Fin 3 → Nat :=
  let c5_461 : Index := 5#32
  let c5_462 : Index := 5#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v685 : Index := Scalar.indexCast v321
  ![5, 5, v685.toNat]
def k0_off204 (k0_t3 : Fin k0_t3_loop.trips) : Fin 3 → Nat :=
  let c5_469 : Index := 5#32
  let c6_470 : Index := 6#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v698 : Index := Scalar.indexCast v321
  ![5, 6, v698.toNat]
def k0_off205 (k0_t4 : Fin k0_t4_loop.trips) (c0_i32_474 : BitVec 32) : Fin 3 → Nat :=
  let c3_475 : Index := 3#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_471 : BitVec 32 := 8#32
  let v704 : BitVec 32 := Scalar.muli v431 c8_i32_471
  let c8_i32_472 : BitVec 32 := 8#32
  let v705 : BitVec 32 := Scalar.addi v704 c8_i32_472
  let c3_i32_473 : BitVec 32 := 3#32
  let v706 : BitVec 32 := Scalar.subi v705 c3_i32_473
  let v707 : BitVec 32 := Scalar.addi v706 c0_i32_474
  let v708 : Index := Scalar.indexCast v707
  let c0_476 : Index := 0#32
  ![3, v708.toNat, 0]
def k0_off206 (k0_t3 : Fin k0_t3_loop.trips) : Fin 3 → Nat :=
  let c6_477 : Index := 6#32
  let c0_478 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v711 : Index := Scalar.indexCast v321
  ![6, 0, v711.toNat]
def k0_off207 (k0_t3 : Fin k0_t3_loop.trips) : Fin 3 → Nat :=
  let c6_485 : Index := 6#32
  let c1_486 : Index := 1#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v724 : Index := Scalar.indexCast v321
  ![6, 1, v724.toNat]
def k0_off208 (k0_t3 : Fin k0_t3_loop.trips) : Fin 3 → Nat :=
  let c6_493 : Index := 6#32
  let c2_494 : Index := 2#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v737 : Index := Scalar.indexCast v321
  ![6, 2, v737.toNat]
def k0_off209 (k0_t3 : Fin k0_t3_loop.trips) : Fin 3 → Nat :=
  let c6_501 : Index := 6#32
  let c3_502 : Index := 3#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v750 : Index := Scalar.indexCast v321
  ![6, 3, v750.toNat]
def k0_off210 (k0_t3 : Fin k0_t3_loop.trips) : Fin 3 → Nat :=
  let c6_509 : Index := 6#32
  let c4_510 : Index := 4#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v763 : Index := Scalar.indexCast v321
  ![6, 4, v763.toNat]
def k0_off211 (k0_t3 : Fin k0_t3_loop.trips) : Fin 3 → Nat :=
  let c6_517 : Index := 6#32
  let c5_518 : Index := 5#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v776 : Index := Scalar.indexCast v321
  ![6, 5, v776.toNat]
def k0_off212 (k0_t3 : Fin k0_t3_loop.trips) : Fin 3 → Nat :=
  let c6_525 : Index := 6#32
  let c6_526 : Index := 6#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v789 : Index := Scalar.indexCast v321
  ![6, 6, v789.toNat]
def k0_off213 (k0_t3 : Fin k0_t3_loop.trips) (k0_t4 : Fin k0_t4_loop.trips) (c0_i32_528 : BitVec 32) : Fin 2 → Nat :=
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_527 : BitVec 32 := 8#32
  let v799 : BitVec 32 := Scalar.muli v431 c8_i32_527
  let v800 : BitVec 32 := Scalar.addi c0_i32_528 v799
  let v801 : Index := Scalar.indexCast v800
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v802 : Index := Scalar.indexCast v321
  ![v801.toNat, v802.toNat]
def k0_off214 (k0_t3 : Fin k0_t3_loop.trips) : Fin 3 → Nat :=
  let c2_535 : Index := 2#32
  let c0_536 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v813 : Index := Scalar.indexCast v321
  ![2, 0, v813.toNat]
def k0_off215 (k0_t3 : Fin k0_t3_loop.trips) : Fin 3 → Nat :=
  let c2_543 : Index := 2#32
  let c1_544 : Index := 1#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v825 : Index := Scalar.indexCast v321
  ![2, 1, v825.toNat]
def k0_off216 (k0_t3 : Fin k0_t3_loop.trips) : Fin 3 → Nat :=
  let c2_551 : Index := 2#32
  let c2_552 : Index := 2#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v838 : Index := Scalar.indexCast v321
  ![2, 2, v838.toNat]
def k0_off217 (k0_t3 : Fin k0_t3_loop.trips) : Fin 3 → Nat :=
  let c2_559 : Index := 2#32
  let c3_560 : Index := 3#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v851 : Index := Scalar.indexCast v321
  ![2, 3, v851.toNat]
def k0_off218 (k0_t3 : Fin k0_t3_loop.trips) : Fin 3 → Nat :=
  let c2_567 : Index := 2#32
  let c4_568 : Index := 4#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v864 : Index := Scalar.indexCast v321
  ![2, 4, v864.toNat]
def k0_off219 (k0_t3 : Fin k0_t3_loop.trips) : Fin 3 → Nat :=
  let c2_575 : Index := 2#32
  let c5_576 : Index := 5#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v877 : Index := Scalar.indexCast v321
  ![2, 5, v877.toNat]
def k0_off220 (k0_t3 : Fin k0_t3_loop.trips) : Fin 3 → Nat :=
  let c2_583 : Index := 2#32
  let c6_584 : Index := 6#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v890 : Index := Scalar.indexCast v321
  ![2, 6, v890.toNat]
def k0_off221 (k0_t4 : Fin k0_t4_loop.trips) (c0_i32_756 : BitVec 32) : Fin 3 → Nat :=
  let c4_757 : Index := 4#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_753 : BitVec 32 := 8#32
  let v1169 : BitVec 32 := Scalar.muli v431 c8_i32_753
  let c8_i32_754 : BitVec 32 := 8#32
  let v1170 : BitVec 32 := Scalar.addi v1169 c8_i32_754
  let c3_i32_755 : BitVec 32 := 3#32
  let v1171 : BitVec 32 := Scalar.subi v1170 c3_i32_755
  let v1172 : BitVec 32 := Scalar.addi v1171 c0_i32_756
  let v1173 : Index := Scalar.indexCast v1172
  let c0_758 : Index := 0#32
  ![4, v1173.toNat, 0]
def k0_off222 (k0_t3 : Fin k0_t3_loop.trips) : Fin 3 → Nat :=
  let c1_816 : Index := 1#32
  let c0_817 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1278 : Index := Scalar.indexCast v321
  ![1, 0, v1278.toNat]
def k0_off223 (k0_t3 : Fin k0_t3_loop.trips) : Fin 3 → Nat :=
  let c1_824 : Index := 1#32
  let c1_825 : Index := 1#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1290 : Index := Scalar.indexCast v321
  ![1, 1, v1290.toNat]
def k0_off224 (k0_t3 : Fin k0_t3_loop.trips) : Fin 3 → Nat :=
  let c1_832 : Index := 1#32
  let c2_833 : Index := 2#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1303 : Index := Scalar.indexCast v321
  ![1, 2, v1303.toNat]
def k0_off225 (k0_t3 : Fin k0_t3_loop.trips) : Fin 3 → Nat :=
  let c1_840 : Index := 1#32
  let c3_841 : Index := 3#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1316 : Index := Scalar.indexCast v321
  ![1, 3, v1316.toNat]
def k0_off226 (k0_t3 : Fin k0_t3_loop.trips) : Fin 3 → Nat :=
  let c1_848 : Index := 1#32
  let c4_849 : Index := 4#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1329 : Index := Scalar.indexCast v321
  ![1, 4, v1329.toNat]
def k0_off227 (k0_t3 : Fin k0_t3_loop.trips) : Fin 3 → Nat :=
  let c1_856 : Index := 1#32
  let c5_857 : Index := 5#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1342 : Index := Scalar.indexCast v321
  ![1, 5, v1342.toNat]
def k0_off228 (k0_t3 : Fin k0_t3_loop.trips) : Fin 3 → Nat :=
  let c1_864 : Index := 1#32
  let c6_865 : Index := 6#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1355 : Index := Scalar.indexCast v321
  ![1, 6, v1355.toNat]
def k0_off229 (k0_t4 : Fin k0_t4_loop.trips) (c0_i32_1093 : BitVec 32) : Fin 3 → Nat :=
  let c5_1094 : Index := 5#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_1090 : BitVec 32 := 8#32
  let v1725 : BitVec 32 := Scalar.muli v431 c8_i32_1090
  let c8_i32_1091 : BitVec 32 := 8#32
  let v1726 : BitVec 32 := Scalar.addi v1725 c8_i32_1091
  let c3_i32_1092 : BitVec 32 := 3#32
  let v1727 : BitVec 32 := Scalar.subi v1726 c3_i32_1092
  let v1728 : BitVec 32 := Scalar.addi v1727 c0_i32_1093
  let v1729 : Index := Scalar.indexCast v1728
  let c0_1095 : Index := 0#32
  ![5, v1729.toNat, 0]
def k0_off230 (k0_t3 : Fin k0_t3_loop.trips) : Fin 3 → Nat :=
  let c0_1153 : Index := 0#32
  let c0_1154 : Index := 0#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1834 : Index := Scalar.indexCast v321
  ![0, 0, v1834.toNat]
def k0_off231 (k0_t3 : Fin k0_t3_loop.trips) : Fin 3 → Nat :=
  let c0_1161 : Index := 0#32
  let c1_1162 : Index := 1#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1846 : Index := Scalar.indexCast v321
  ![0, 1, v1846.toNat]
def k0_off232 (k0_t3 : Fin k0_t3_loop.trips) : Fin 3 → Nat :=
  let c0_1169 : Index := 0#32
  let c2_1170 : Index := 2#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1859 : Index := Scalar.indexCast v321
  ![0, 2, v1859.toNat]
def k0_off233 (k0_t3 : Fin k0_t3_loop.trips) : Fin 3 → Nat :=
  let c0_1177 : Index := 0#32
  let c3_1178 : Index := 3#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1872 : Index := Scalar.indexCast v321
  ![0, 3, v1872.toNat]
def k0_off234 (k0_t3 : Fin k0_t3_loop.trips) : Fin 3 → Nat :=
  let c0_1185 : Index := 0#32
  let c4_1186 : Index := 4#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1885 : Index := Scalar.indexCast v321
  ![0, 4, v1885.toNat]
def k0_off235 (k0_t3 : Fin k0_t3_loop.trips) : Fin 3 → Nat :=
  let c0_1193 : Index := 0#32
  let c5_1194 : Index := 5#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1898 : Index := Scalar.indexCast v321
  ![0, 5, v1898.toNat]
def k0_off236 (k0_t3 : Fin k0_t3_loop.trips) : Fin 3 → Nat :=
  let c0_1201 : Index := 0#32
  let c6_1202 : Index := 6#32
  let c0_i32_215 : BitVec 32 := 0#32
  let c0_i32_1 : BitVec 32 := 0#32
  let c1_i32 : BitVec 32 := 1#32
  let arg34 : BitVec 32 := Scf.iv c0_i32_1 c1_i32 k0_t3
  let c1_i32_214 : BitVec 32 := 1#32
  let v318 : BitVec 32 := Scalar.muli arg34 c1_i32_214
  let v319 : BitVec 32 := Scalar.addi c0_i32_215 v318
  let c128_i32 : BitVec 32 := 128#32
  let v320 : BitVec 32 := Scalar.muli v319 c128_i32
  let v321 : BitVec 32 := v320
  let v1911 : Index := Scalar.indexCast v321
  ![0, 6, v1911.toNat]
def k0_off237 (k0_t4 : Fin k0_t4_loop.trips) (c0_i32_1486 : BitVec 32) : Fin 3 → Nat :=
  let c6_1487 : Index := 6#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_1483 : BitVec 32 := 8#32
  let v2372 : BitVec 32 := Scalar.muli v431 c8_i32_1483
  let c8_i32_1484 : BitVec 32 := 8#32
  let v2373 : BitVec 32 := Scalar.addi v2372 c8_i32_1484
  let c3_i32_1485 : BitVec 32 := 3#32
  let v2374 : BitVec 32 := Scalar.subi v2373 c3_i32_1485
  let v2375 : BitVec 32 := Scalar.addi v2374 c0_i32_1486
  let v2376 : Index := Scalar.indexCast v2375
  let c0_1488 : Index := 0#32
  ![6, v2376.toNat, 0]
def k0_off238 (k0_t4 : Fin k0_t4_loop.trips) (c0_i32_1879 : BitVec 32) : Fin 3 → Nat :=
  let c7_1880 : Index := 7#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_1876 : BitVec 32 := 8#32
  let v3019 : BitVec 32 := Scalar.muli v431 c8_i32_1876
  let c8_i32_1877 : BitVec 32 := 8#32
  let v3020 : BitVec 32 := Scalar.addi v3019 c8_i32_1877
  let c3_i32_1878 : BitVec 32 := 3#32
  let v3021 : BitVec 32 := Scalar.subi v3020 c3_i32_1878
  let v3022 : BitVec 32 := Scalar.addi v3021 c0_i32_1879
  let v3023 : Index := Scalar.indexCast v3022
  let c0_1881 : Index := 0#32
  ![7, v3023.toNat, 0]
def k0_off239 (k0_t4 : Fin k0_t4_loop.trips) (c0_i32_2272 : BitVec 32) : Fin 3 → Nat :=
  let c8_2273 : Index := 8#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_2269 : BitVec 32 := 8#32
  let v3666 : BitVec 32 := Scalar.muli v431 c8_i32_2269
  let c8_i32_2270 : BitVec 32 := 8#32
  let v3667 : BitVec 32 := Scalar.addi v3666 c8_i32_2270
  let c3_i32_2271 : BitVec 32 := 3#32
  let v3668 : BitVec 32 := Scalar.subi v3667 c3_i32_2271
  let v3669 : BitVec 32 := Scalar.addi v3668 c0_i32_2272
  let v3670 : Index := Scalar.indexCast v3669
  let c0_2274 : Index := 0#32
  ![8, v3670.toNat, 0]
def k0_off240 (k0_t4 : Fin k0_t4_loop.trips) (c0_i32_2665 : BitVec 32) : Fin 3 → Nat :=
  let c9_2666 : Index := 9#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_2662 : BitVec 32 := 8#32
  let v4313 : BitVec 32 := Scalar.muli v431 c8_i32_2662
  let c8_i32_2663 : BitVec 32 := 8#32
  let v4314 : BitVec 32 := Scalar.addi v4313 c8_i32_2663
  let c3_i32_2664 : BitVec 32 := 3#32
  let v4315 : BitVec 32 := Scalar.subi v4314 c3_i32_2664
  let v4316 : BitVec 32 := Scalar.addi v4315 c0_i32_2665
  let v4317 : Index := Scalar.indexCast v4316
  let c0_2667 : Index := 0#32
  ![9, v4317.toNat, 0]
def k0_off241 (k0_t4 : Fin k0_t4_loop.trips) (c0_i32_3058 : BitVec 32) : Fin 3 → Nat :=
  let c10_3059 : Index := 10#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_3055 : BitVec 32 := 8#32
  let v4960 : BitVec 32 := Scalar.muli v431 c8_i32_3055
  let c8_i32_3056 : BitVec 32 := 8#32
  let v4961 : BitVec 32 := Scalar.addi v4960 c8_i32_3056
  let c3_i32_3057 : BitVec 32 := 3#32
  let v4962 : BitVec 32 := Scalar.subi v4961 c3_i32_3057
  let v4963 : BitVec 32 := Scalar.addi v4962 c0_i32_3058
  let v4964 : Index := Scalar.indexCast v4963
  let c0_3060 : Index := 0#32
  ![10, v4964.toNat, 0]
def k0_off242 (k0_t4 : Fin k0_t4_loop.trips) (c0_i32_3451 : BitVec 32) : Fin 3 → Nat :=
  let c11_3452 : Index := 11#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_3448 : BitVec 32 := 8#32
  let v5607 : BitVec 32 := Scalar.muli v431 c8_i32_3448
  let c8_i32_3449 : BitVec 32 := 8#32
  let v5608 : BitVec 32 := Scalar.addi v5607 c8_i32_3449
  let c3_i32_3450 : BitVec 32 := 3#32
  let v5609 : BitVec 32 := Scalar.subi v5608 c3_i32_3450
  let v5610 : BitVec 32 := Scalar.addi v5609 c0_i32_3451
  let v5611 : Index := Scalar.indexCast v5610
  let c0_3453 : Index := 0#32
  ![11, v5611.toNat, 0]
def k0_off243 (k0_t4 : Fin k0_t4_loop.trips) (c0_i32_3845 : BitVec 32) : Fin 3 → Nat :=
  let c12_3846 : Index := 12#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_3842 : BitVec 32 := 8#32
  let v6254 : BitVec 32 := Scalar.muli v431 c8_i32_3842
  let c8_i32_3843 : BitVec 32 := 8#32
  let v6255 : BitVec 32 := Scalar.addi v6254 c8_i32_3843
  let c3_i32_3844 : BitVec 32 := 3#32
  let v6256 : BitVec 32 := Scalar.subi v6255 c3_i32_3844
  let v6257 : BitVec 32 := Scalar.addi v6256 c0_i32_3845
  let v6258 : Index := Scalar.indexCast v6257
  let c0_3847 : Index := 0#32
  ![12, v6258.toNat, 0]
def k0_off244 (k0_t4 : Fin k0_t4_loop.trips) (c0_i32_4238 : BitVec 32) : Fin 3 → Nat :=
  let c13_4239 : Index := 13#32
  let c0_i32_307 : BitVec 32 := 0#32
  let c0_i32_303 : BitVec 32 := 0#32
  let c1_i32_304 : BitVec 32 := 1#32
  let arg35 : BitVec 32 := Scf.iv c0_i32_303 c1_i32_304 k0_t4
  let c1_i32_306 : BitVec 32 := 1#32
  let v430 : BitVec 32 := Scalar.muli arg35 c1_i32_306
  let v431 : BitVec 32 := Scalar.addi c0_i32_307 v430
  let c8_i32_4235 : BitVec 32 := 8#32
  let v6901 : BitVec 32 := Scalar.muli v431 c8_i32_4235
  let c8_i32_4236 : BitVec 32 := 8#32
  let v6902 : BitVec 32 := Scalar.addi v6901 c8_i32_4236
  let c3_i32_4237 : BitVec 32 := 3#32
  let v6903 : BitVec 32 := Scalar.subi v6902 c3_i32_4237
  let v6904 : BitVec 32 := Scalar.addi v6903 c0_i32_4238
  let v6905 : Index := Scalar.indexCast v6904
  let c0_4240 : Index := 0#32
  ![13, v6905.toNat, 0]
@[reducible] def k0_t5_loop : Scf.Loop 32 :=
  let c0_i32_3 : BitVec 32 := 0#32
  let c14_i32 : BitVec 32 := 14#32
  let v7 : BitVec 32 := Scalar.addi c0_i32_3 c14_i32
  let c1_i32_4 : BitVec 32 := 1#32
  ⟨c0_i32_3, v7, c1_i32_4⟩
def k0_off245 (k0_t5 : Fin k0_t5_loop.trips) : Fin 2 → Nat :=
  let c0_i32_215 : BitVec 32 := 0#32
  let c0_i32_3 : BitVec 32 := 0#32
  let c1_i32_4 : BitVec 32 := 1#32
  let arg34 : BitVec 32 := Scf.iv c0_i32_3 c1_i32_4 k0_t5
  let c1_i32_214 : BitVec 32 := 1#32
  let v318 : BitVec 32 := Scalar.muli arg34 c1_i32_214
  let v319 : BitVec 32 := Scalar.addi c0_i32_215 v318
  let c16_i32 : BitVec 32 := 16#32
  let v320 : BitVec 32 := Scalar.muli v319 c16_i32
  let v321 : Index := Scalar.indexCast v320
  let c0_216 : Index := 0#32
  ![v321.toNat, 0]
def k0_off246 (k0_t5 : Fin k0_t5_loop.trips) : Fin 4 → Nat :=
  let c0_234 : Index := 0#32
  let c0_i32_215 : BitVec 32 := 0#32
  let c0_i32_3 : BitVec 32 := 0#32
  let c1_i32_4 : BitVec 32 := 1#32
  let arg34 : BitVec 32 := Scf.iv c0_i32_3 c1_i32_4 k0_t5
  let c1_i32_214 : BitVec 32 := 1#32
  let v318 : BitVec 32 := Scalar.muli arg34 c1_i32_214
  let v319 : BitVec 32 := Scalar.addi c0_i32_215 v318
  let v368 : Index := Scalar.indexCast v319
  let c0_235 : Index := 0#32
  let c0_236 : Index := 0#32
  ![0, v368.toNat, 0, 0]
def k0_off247 (k0_t5 : Fin k0_t5_loop.trips) : Fin 3 → Nat :=
  let c0_241 : Index := 0#32
  let c0_i32_215 : BitVec 32 := 0#32
  let c0_i32_3 : BitVec 32 := 0#32
  let c1_i32_4 : BitVec 32 := 1#32
  let arg34 : BitVec 32 := Scf.iv c0_i32_3 c1_i32_4 k0_t5
  let c1_i32_214 : BitVec 32 := 1#32
  let v318 : BitVec 32 := Scalar.muli arg34 c1_i32_214
  let v319 : BitVec 32 := Scalar.addi c0_i32_215 v318
  let v384 : Index := Scalar.indexCast v319
  let c0_242 : Index := 0#32
  ![0, v384.toNat, 0]
def k0_off248 (k0_t5 : Fin k0_t5_loop.trips) : Fin 2 → Nat :=
  let c0_i32_215 : BitVec 32 := 0#32
  let c0_i32_3 : BitVec 32 := 0#32
  let c1_i32_4 : BitVec 32 := 1#32
  let arg34 : BitVec 32 := Scf.iv c0_i32_3 c1_i32_4 k0_t5
  let c1_i32_214 : BitVec 32 := 1#32
  let v318 : BitVec 32 := Scalar.muli arg34 c1_i32_214
  let v319 : BitVec 32 := Scalar.addi c0_i32_215 v318
  let c16_i32_243 : BitVec 32 := 16#32
  let v390 : BitVec 32 := Scalar.muli v319 c16_i32_243
  let v391 : Index := Scalar.indexCast v390
  let c0_244 : Index := 0#32
  ![v391.toNat, 0]
@[reducible] def k0_t6_loop : Scf.Loop 32 :=
  let c0_i32_6 : BitVec 32 := 0#32
  let c11_i32_7 : BitVec 32 := 11#32
  let v8 : BitVec 32 := Scalar.addi c0_i32_6 c11_i32_7
  let c1_i32_8 : BitVec 32 := 1#32
  ⟨c0_i32_6, v8, c1_i32_8⟩
def k0_off249 (k0_t6 : Fin k0_t6_loop.trips) : Fin 2 → Nat :=
  let c0_218 : Index := 0#32
  let c0_i32_215 : BitVec 32 := 0#32
  let c0_i32_6 : BitVec 32 := 0#32
  let c1_i32_8 : BitVec 32 := 1#32
  let arg34 : BitVec 32 := Scf.iv c0_i32_6 c1_i32_8 k0_t6
  let c1_i32_214 : BitVec 32 := 1#32
  let v318 : BitVec 32 := Scalar.muli arg34 c1_i32_214
  let v319 : BitVec 32 := Scalar.addi c0_i32_215 v318
  let c512_i32 : BitVec 32 := 512#32
  let v320 : BitVec 32 := Scalar.muli v319 c512_i32
  let v322 : Index := Scalar.indexCast v320
  ![0, v322.toNat]
def k0_off250 (k0_t6 : Fin k0_t6_loop.trips) : Fin 2 → Nat :=
  let c0_222 : Index := 0#32
  let c0_i32_215 : BitVec 32 := 0#32
  let c0_i32_6 : BitVec 32 := 0#32
  let c1_i32_8 : BitVec 32 := 1#32
  let arg34 : BitVec 32 := Scf.iv c0_i32_6 c1_i32_8 k0_t6
  let c1_i32_214 : BitVec 32 := 1#32
  let v318 : BitVec 32 := Scalar.muli arg34 c1_i32_214
  let v319 : BitVec 32 := Scalar.addi c0_i32_215 v318
  let c512_i32 : BitVec 32 := 512#32
  let v320 : BitVec 32 := Scalar.muli v319 c512_i32
  let v328 : Index := Scalar.indexCast v320
  ![0, v328.toNat]
def k0_off251 (k0_t6 : Fin k0_t6_loop.trips) : Fin 2 → Nat :=
  let c0_226 : Index := 0#32
  let c0_i32_215 : BitVec 32 := 0#32
  let c0_i32_6 : BitVec 32 := 0#32
  let c1_i32_8 : BitVec 32 := 1#32
  let arg34 : BitVec 32 := Scf.iv c0_i32_6 c1_i32_8 k0_t6
  let c1_i32_214 : BitVec 32 := 1#32
  let v318 : BitVec 32 := Scalar.muli arg34 c1_i32_214
  let v319 : BitVec 32 := Scalar.addi c0_i32_215 v318
  let c512_i32 : BitVec 32 := 512#32
  let v320 : BitVec 32 := Scalar.muli v319 c512_i32
  let v341 : Index := Scalar.indexCast v320
  ![0, v341.toNat]
def k0_off252 (i : grid0.Coords) : Fin 2 → Nat :=
  let arg0 : BitVec 32 := BitVec.ofNat 32 (i 0).val
  let v10 : Index := Scalar.indexCast arg0
  let c0_11 : Index := 0#32
  ![v10.toNat, 0]
@[reducible] def k0_t7_loop : Scf.Loop 32 :=
  let c0_i32_16 : BitVec 32 := 0#32
  let c14_i32_17 : BitVec 32 := 14#32
  let v23 : BitVec 32 := Scalar.addi c0_i32_16 c14_i32_17
  let c1_i32_18 : BitVec 32 := 1#32
  ⟨c0_i32_16, v23, c1_i32_18⟩
def k0_off253 (k0_t7 : Fin k0_t7_loop.trips) : Fin 2 → Nat :=
  let c0_i32_215 : BitVec 32 := 0#32
  let c0_i32_16 : BitVec 32 := 0#32
  let c1_i32_18 : BitVec 32 := 1#32
  let arg34 : BitVec 32 := Scf.iv c0_i32_16 c1_i32_18 k0_t7
  let c1_i32_214 : BitVec 32 := 1#32
  let v318 : BitVec 32 := Scalar.muli arg34 c1_i32_214
  let v319 : BitVec 32 := Scalar.addi c0_i32_215 v318
  let c16_i32 : BitVec 32 := 16#32
  let v320 : BitVec 32 := Scalar.muli v319 c16_i32
  let v321 : Index := Scalar.indexCast v320
  let c0_216 : Index := 0#32
  ![v321.toNat, 0]
def k0_off254 (k0_t7 : Fin k0_t7_loop.trips) : Fin 4 → Nat :=
  let c0_230 : Index := 0#32
  let c0_i32_215 : BitVec 32 := 0#32
  let c0_i32_16 : BitVec 32 := 0#32
  let c1_i32_18 : BitVec 32 := 1#32
  let arg34 : BitVec 32 := Scf.iv c0_i32_16 c1_i32_18 k0_t7
  let c1_i32_214 : BitVec 32 := 1#32
  let v318 : BitVec 32 := Scalar.muli arg34 c1_i32_214
  let v319 : BitVec 32 := Scalar.addi c0_i32_215 v318
  let v354 : Index := Scalar.indexCast v319
  let c0_231 : Index := 0#32
  let c0_232 : Index := 0#32
  ![0, v354.toNat, 0, 0]
def k0_off255 (k0_t7 : Fin k0_t7_loop.trips) : Fin 3 → Nat :=
  let c0_237 : Index := 0#32
  let c0_i32_215 : BitVec 32 := 0#32
  let c0_i32_16 : BitVec 32 := 0#32
  let c1_i32_18 : BitVec 32 := 1#32
  let arg34 : BitVec 32 := Scf.iv c0_i32_16 c1_i32_18 k0_t7
  let c1_i32_214 : BitVec 32 := 1#32
  let v318 : BitVec 32 := Scalar.muli arg34 c1_i32_214
  let v319 : BitVec 32 := Scalar.addi c0_i32_215 v318
  let v370 : Index := Scalar.indexCast v319
  let c0_238 : Index := 0#32
  ![0, v370.toNat, 0]
def k0_off256 (k0_t7 : Fin k0_t7_loop.trips) : Fin 2 → Nat :=
  let c0_i32_215 : BitVec 32 := 0#32
  let c0_i32_16 : BitVec 32 := 0#32
  let c1_i32_18 : BitVec 32 := 1#32
  let arg34 : BitVec 32 := Scf.iv c0_i32_16 c1_i32_18 k0_t7
  let c1_i32_214 : BitVec 32 := 1#32
  let v318 : BitVec 32 := Scalar.muli arg34 c1_i32_214
  let v319 : BitVec 32 := Scalar.addi c0_i32_215 v318
  let c16_i32_239 : BitVec 32 := 16#32
  let v376 : BitVec 32 := Scalar.muli v319 c16_i32_239
  let v377 : Index := Scalar.indexCast v376
  let c0_240 : Index := 0#32
  ![v377.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x14x16x1408 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x14x16x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S7x7x1408 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S704x5632 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S11x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1408 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S44x1408 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1408 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x14x16x1408 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x14x16x1408 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S6x5632 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x14x16x1408 .i8 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x14x16 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x14x16x5632 .i8 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x14x16 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== KernelIdeal.lean ====
variable {F : FTy → Type} [FloatOps F] [Named F]
def κ : String → Option EReal := fun
  | "inv_c" => some ((1 / 1408 : ℝ) : EReal)
  | "inv_hid" => some ((1 / 5632 : ℝ) : EReal)
  | _ => none
-- ==== ReferenceIdeal.lean ====
abbrev S6x14x16x1408 : Shape := ⟨4, ![6, 14, 16, 1408]⟩
abbrev S_ : Shape := ⟨0, ![]⟩
abbrev S7x7x1408 : Shape := ⟨3, ![7, 7, 1408]⟩
abbrev S1408 : Shape := ⟨1, ![1408]⟩
abbrev S704x5632 : Shape := ⟨2, ![704, 5632]⟩
abbrev S11x5632 : Shape := ⟨2, ![11, 5632]⟩
abbrev S5632 : Shape := ⟨1, ![5632]⟩
abbrev S2816x1408 : Shape := ⟨2, ![2816, 1408]⟩
abbrev S44x1408 : Shape := ⟨2, ![44, 1408]⟩
abbrev S6x20x22x1408 : Shape := ⟨4, ![6, 20, 22, 1408]⟩
abbrev S1x1x1408 : Shape := ⟨3, ![1, 1, 1408]⟩
abbrev S1x1x1x1408 : Shape := ⟨4, ![1, 1, 1, 1408]⟩
abbrev S6x14x16 : Shape := ⟨3, ![6, 14, 16]⟩
abbrev S6x14x16x1 : Shape := ⟨4, ![6, 14, 16, 1]⟩
abbrev S11x1x5632 : Shape := ⟨3, ![11, 1, 5632]⟩
abbrev S11x64x5632 : Shape := ⟨3, ![11, 64, 5632]⟩
abbrev S6x14x16x704 : Shape := ⟨4, ![6, 14, 16, 704]⟩
abbrev S6x14x16x5632 : Shape := ⟨4, ![6, 14, 16, 5632]⟩
abbrev S1x1x1x5632 : Shape := ⟨4, ![1, 1, 1, 5632]⟩
abbrev S6x5632 : Shape := ⟨2, ![6, 5632]⟩
abbrev S6 : Shape := ⟨1, ![6]⟩
abbrev S6x1 : Shape := ⟨2, ![6, 1]⟩
abbrev S6x1x1x5632 : Shape := ⟨4, ![6, 1, 1, 5632]⟩
abbrev S44x1x1408 : Shape := ⟨3, ![44, 1, 1408]⟩
abbrev S44x64x1408 : Shape := ⟨3, ![44, 64, 1408]⟩
abbrev S6x14x16x2816 : Shape := ⟨4, ![6, 14, 16, 2816]⟩

abbrev nBuf : Space → Nat
  | .hbm => 601
  | .vmem => 0
  | .smem => 0
  | _ => 0

abbrev hbmTy0_0 (i : Nat) : BufTy := match i % 128 with
  | 0 => ⟨S6x14x16x1408, .i8⟩
  | 1 => ⟨S_, .f32⟩
  | 2 => ⟨S6x14x16x1408, .bf16⟩
  | 3 => ⟨S7x7x1408, .i8⟩
  | 4 => ⟨S1408, .f32⟩
  | 5 => ⟨S1408, .f32⟩
  | 6 => ⟨S1408, .f32⟩
  | 7 => ⟨S1408, .f32⟩
  | 8 => ⟨S704x5632, .i8⟩
  | 9 => ⟨S11x5632, .bf16⟩
  | 10 => ⟨S5632, .f32⟩
  | 11 => ⟨S5632, .f32⟩
  | 12 => ⟨S5632, .f32⟩
  | 13 => ⟨S2816x1408, .i8⟩
  | 14 => ⟨S44x1408, .bf16⟩
  | 15 => ⟨S1408, .f32⟩
  | 16 => ⟨S_, .f32⟩
  | 17 => ⟨S6x14x16x1408, .i32⟩
  | 18 => ⟨S_, .i32⟩
  | 19 => ⟨S_, .i32⟩
  | 20 => ⟨S6x20x22x1408, .i32⟩
  | 21 => ⟨S7x7x1408, .i32⟩
  | 22 => ⟨S_, .i32⟩
  | 23 => ⟨S6x14x16x1408, .i32⟩
  | 24 => ⟨S6x14x16x1408, .i32⟩
  | 25 => ⟨S1x1x1408, .i32⟩
  | 26 => ⟨S1408, .i32⟩
  | 27 => ⟨S1x1x1x1408, .i32⟩
  | 28 => ⟨S6x14x16x1408, .i32⟩
  | 29 => ⟨S6x14x16x1408, .i32⟩
  | 30 => ⟨S6x14x16x1408, .i32⟩
  | 31 => ⟨S6x14x16x1408, .i32⟩
  | 32 => ⟨S1x1x1408, .i32⟩
  | 33 => ⟨S1408, .i32⟩
  | 34 => ⟨S1x1x1x1408, .i32⟩
  | 35 => ⟨S6x14x16x1408, .i32⟩
  | 36 => ⟨S6x14x16x1408, .i32⟩
  | 37 => ⟨S6x14x16x1408, .i32⟩
  | 38 => ⟨S6x14x16x1408, .i32⟩
  | 39 => ⟨S1x1x1408, .i32⟩
  | 40 => ⟨S1408, .i32⟩
  | 41 => ⟨S1x1x1x1408, .i32⟩
  | 42 => ⟨S6x14x16x1408, .i32⟩
  | 43 => ⟨S6x14x16x1408, .i32⟩
  | 44 => ⟨S6x14x16x1408, .i32⟩
  | 45 => ⟨S6x14x16x1408, .i32⟩
  | 46 => ⟨S1x1x1408, .i32⟩
  | 47 => ⟨S1408, .i32⟩
  | 48 => ⟨S1x1x1x1408, .i32⟩
  | 49 => ⟨S6x14x16x1408, .i32⟩
  | 50 => ⟨S6x14x16x1408, .i32⟩
  | 51 => ⟨S6x14x16x1408, .i32⟩
  | 52 => ⟨S6x14x16x1408, .i32⟩
  | 53 => ⟨S1x1x1408, .i32⟩
  | 54 => ⟨S1408, .i32⟩
  | 55 => ⟨S1x1x1x1408, .i32⟩
  | 56 => ⟨S6x14x16x1408, .i32⟩
  | 57 => ⟨S6x14x16x1408, .i32⟩
  | 58 => ⟨S6x14x16x1408, .i32⟩
  | 59 => ⟨S6x14x16x1408, .i32⟩
  | 60 => ⟨S1x1x1408, .i32⟩
  | 61 => ⟨S1408, .i32⟩
  | 62 => ⟨S1x1x1x1408, .i32⟩
  | 63 => ⟨S6x14x16x1408, .i32⟩
  | 64 => ⟨S6x14x16x1408, .i32⟩
  | 65 => ⟨S6x14x16x1408, .i32⟩
  | 66 => ⟨S6x14x16x1408, .i32⟩
  | 67 => ⟨S1x1x1408, .i32⟩
  | 68 => ⟨S1408, .i32⟩
  | 69 => ⟨S1x1x1x1408, .i32⟩
  | 70 => ⟨S6x14x16x1408, .i32⟩
  | 71 => ⟨S6x14x16x1408, .i32⟩
  | 72 => ⟨S6x14x16x1408, .i32⟩
  | 73 => ⟨S6x14x16x1408, .i32⟩
  | 74 => ⟨S1x1x1408, .i32⟩
  | 75 => ⟨S1408, .i32⟩
  | 76 => ⟨S1x1x1x1408, .i32⟩
  | 77 => ⟨S6x14x16x1408, .i32⟩
  | 78 => ⟨S6x14x16x1408, .i32⟩
  | 79 => ⟨S6x14x16x1408, .i32⟩
  | 80 => ⟨S6x14x16x1408, .i32⟩
  | 81 => ⟨S1x1x1408, .i32⟩
  | 82 => ⟨S1408, .i32⟩
  | 83 => ⟨S1x1x1x1408, .i32⟩
  | 84 => ⟨S6x14x16x1408, .i32⟩
  | 85 => ⟨S6x14x16x1408, .i32⟩
  | 86 => ⟨S6x14x16x1408, .i32⟩
  | 87 => ⟨S6x14x16x1408, .i32⟩
  | 88 => ⟨S1x1x1408, .i32⟩
  | 89 => ⟨S1408, .i32⟩
  | 90 => ⟨S1x1x1x1408, .i32⟩
  | 91 => ⟨S6x14x16x1408, .i32⟩
  | 92 => ⟨S6x14x16x1408, .i32⟩
  | 93 => ⟨S6x14x16x1408, .i32⟩
  | 94 => ⟨S6x14x16x1408, .i32⟩
  | 95 => ⟨S1x1x1408, .i32⟩
  | 96 => ⟨S1408, .i32⟩
  | 97 => ⟨S1x1x1x1408, .i32⟩
  | 98 => ⟨S6x14x16x1408, .i32⟩
  | 99 => ⟨S6x14x16x1408, .i32⟩
  | 100 => ⟨S6x14x16x1408, .i32⟩
  | 101 => ⟨S6x14x16x1408, .i32⟩
  | 102 => ⟨S1x1x1408, .i32⟩
  | 103 => ⟨S1408, .i32⟩
  | 104 => ⟨S1x1x1x1408, .i32⟩
  | 105 => ⟨S6x14x16x1408, .i32⟩
  | 106 => ⟨S6x14x16x1408, .i32⟩
  | 107 => ⟨S6x14x16x1408, .i32⟩
  | 108 => ⟨S6x14x16x1408, .i32⟩
  | 109 => ⟨S1x1x1408, .i32⟩
  | 110 => ⟨S1408, .i32⟩
  | 111 => ⟨S1x1x1x1408, .i32⟩
  | 112 => ⟨S6x14x16x1408, .i32⟩
  | 113 => ⟨S6x14x16x1408, .i32⟩
  | 114 => ⟨S6x14x16x1408, .i32⟩
  | 115 => ⟨S6x14x16x1408, .i32⟩
  | 116 => ⟨S1x1x1408, .i32⟩
  | 117 => ⟨S1408, .i32⟩
  | 118 => ⟨S1x1x1x1408, .i32⟩
  | 119 => ⟨S6x14x16x1408, .i32⟩
  | 120 => ⟨S6x14x16x1408, .i32⟩
  | 121 => ⟨S6x14x16x1408, .i32⟩
  | 122 => ⟨S6x14x16x1408, .i32⟩
  | 123 => ⟨S1x1x1408, .i32⟩
  | 124 => ⟨S1408, .i32⟩
  | 125 => ⟨S1x1x1x1408, .i32⟩
  | 126 => ⟨S6x14x16x1408, .i32⟩
  | 127 => ⟨S6x14x16x1408, .i32⟩
  | _ => ⟨S6x14x16x1408, .i8⟩

abbrev hbmTy0_1 (i : Nat) : BufTy := match i % 128 with
  | 0 => ⟨S6x14x16x1408, .i32⟩
  | 1 => ⟨S6x14x16x1408, .i32⟩
  | 2 => ⟨S1x1x1408, .i32⟩
  | 3 => ⟨S1408, .i32⟩
  | 4 => ⟨S1x1x1x1408, .i32⟩
  | 5 => ⟨S6x14x16x1408, .i32⟩
  | 6 => ⟨S6x14x16x1408, .i32⟩
  | 7 => ⟨S6x14x16x1408, .i32⟩
  | 8 => ⟨S6x14x16x1408, .i32⟩
  | 9 => ⟨S1x1x1408, .i32⟩
  | 10 => ⟨S1408, .i32⟩
  | 11 => ⟨S1x1x1x1408, .i32⟩
  | 12 => ⟨S6x14x16x1408, .i32⟩
  | 13 => ⟨S6x14x16x1408, .i32⟩
  | 14 => ⟨S6x14x16x1408, .i32⟩
  | 15 => ⟨S6x14x16x1408, .i32⟩
  | 16 => ⟨S1x1x1408, .i32⟩
  | 17 => ⟨S1408, .i32⟩
  | 18 => ⟨S1x1x1x1408, .i32⟩
  | 19 => ⟨S6x14x16x1408, .i32⟩
  | 20 => ⟨S6x14x16x1408, .i32⟩
  | 21 => ⟨S6x14x16x1408, .i32⟩
  | 22 => ⟨S6x14x16x1408, .i32⟩
  | 23 => ⟨S1x1x1408, .i32⟩
  | 24 => ⟨S1408, .i32⟩
  | 25 => ⟨S1x1x1x1408, .i32⟩
  | 26 => ⟨S6x14x16x1408, .i32⟩
  | 27 => ⟨S6x14x16x1408, .i32⟩
  | 28 => ⟨S6x14x16x1408, .i32⟩
  | 29 => ⟨S6x14x16x1408, .i32⟩
  | 30 => ⟨S1x1x1408, .i32⟩
  | 31 => ⟨S1408, .i32⟩
  | 32 => ⟨S1x1x1x1408, .i32⟩
  | 33 => ⟨S6x14x16x1408, .i32⟩
  | 34 => ⟨S6x14x16x1408, .i32⟩
  | 35 => ⟨S6x14x16x1408, .i32⟩
  | 36 => ⟨S6x14x16x1408, .i32⟩
  | 37 => ⟨S1x1x1408, .i32⟩
  | 38 => ⟨S1408, .i32⟩
  | 39 => ⟨S1x1x1x1408, .i32⟩
  | 40 => ⟨S6x14x16x1408, .i32⟩
  | 41 => ⟨S6x14x16x1408, .i32⟩
  | 42 => ⟨S6x14x16x1408, .i32⟩
  | 43 => ⟨S6x14x16x1408, .i32⟩
  | 44 => ⟨S1x1x1408, .i32⟩
  | 45 => ⟨S1408, .i32⟩
  | 46 => ⟨S1x1x1x1408, .i32⟩
  | 47 => ⟨S6x14x16x1408, .i32⟩
  | 48 => ⟨S6x14x16x1408, .i32⟩
  | 49 => ⟨S6x14x16x1408, .i32⟩
  | 50 => ⟨S6x14x16x1408, .i32⟩
  | 51 => ⟨S1x1x1408, .i32⟩
  | 52 => ⟨S1408, .i32⟩
  | 53 => ⟨S1x1x1x1408, .i32⟩
  | 54 => ⟨S6x14x16x1408, .i32⟩
  | 55 => ⟨S6x14x16x1408, .i32⟩
  | 56 => ⟨S6x14x16x1408, .i32⟩
  | 57 => ⟨S6x14x16x1408, .i32⟩
  | 58 => ⟨S1x1x1408, .i32⟩
  | 59 => ⟨S1408, .i32⟩
  | 60 => ⟨S1x1x1x1408, .i32⟩
  | 61 => ⟨S6x14x16x1408, .i32⟩
  | 62 => ⟨S6x14x16x1408, .i32⟩
  | 63 => ⟨S6x14x16x1408, .i32⟩
  | 64 => ⟨S6x14x16x1408, .i32⟩
  | 65 => ⟨S1x1x1408, .i32⟩
  | 66 => ⟨S1408, .i32⟩
  | 67 => ⟨S1x1x1x1408, .i32⟩
  | 68 => ⟨S6x14x16x1408, .i32⟩
  | 69 => ⟨S6x14x16x1408, .i32⟩
  | 70 => ⟨S6x14x16x1408, .i32⟩
  | 71 => ⟨S6x14x16x1408, .i32⟩
  | 72 => ⟨S1x1x1408, .i32⟩
  | 73 => ⟨S1408, .i32⟩
  | 74 => ⟨S1x1x1x1408, .i32⟩
  | 75 => ⟨S6x14x16x1408, .i32⟩
  | 76 => ⟨S6x14x16x1408, .i32⟩
  | 77 => ⟨S6x14x16x1408, .i32⟩
  | 78 => ⟨S6x14x16x1408, .i32⟩
  | 79 => ⟨S1x1x1408, .i32⟩
  | 80 => ⟨S1408, .i32⟩
  | 81 => ⟨S1x1x1x1408, .i32⟩
  | 82 => ⟨S6x14x16x1408, .i32⟩
  | 83 => ⟨S6x14x16x1408, .i32⟩
  | 84 => ⟨S6x14x16x1408, .i32⟩
  | 85 => ⟨S6x14x16x1408, .i32⟩
  | 86 => ⟨S1x1x1408, .i32⟩
  | 87 => ⟨S1408, .i32⟩
  | 88 => ⟨S1x1x1x1408, .i32⟩
  | 89 => ⟨S6x14x16x1408, .i32⟩
  | 90 => ⟨S6x14x16x1408, .i32⟩
  | 91 => ⟨S6x14x16x1408, .i32⟩
  | 92 => ⟨S6x14x16x1408, .i32⟩
  | 93 => ⟨S1x1x1408, .i32⟩
  | 94 => ⟨S1408, .i32⟩
  | 95 => ⟨S1x1x1x1408, .i32⟩
  | 96 => ⟨S6x14x16x1408, .i32⟩
  | 97 => ⟨S6x14x16x1408, .i32⟩
  | 98 => ⟨S6x14x16x1408, .i32⟩
  | 99 => ⟨S6x14x16x1408, .i32⟩
  | 100 => ⟨S1x1x1408, .i32⟩
  | 101 => ⟨S1408, .i32⟩
  | 102 => ⟨S1x1x1x1408, .i32⟩
  | 103 => ⟨S6x14x16x1408, .i32⟩
  | 104 => ⟨S6x14x16x1408, .i32⟩
  | 105 => ⟨S6x14x16x1408, .i32⟩
  | 106 => ⟨S6x14x16x1408, .i32⟩
  | 107 => ⟨S1x1x1408, .i32⟩
  | 108 => ⟨S1408, .i32⟩
  | 109 => ⟨S1x1x1x1408, .i32⟩
  | 110 => ⟨S6x14x16x1408, .i32⟩
  | 111 => ⟨S6x14x16x1408, .i32⟩
  | 112 => ⟨S6x14x16x1408, .i32⟩
  | 113 => ⟨S6x14x16x1408, .i32⟩
  | 114 => ⟨S1x1x1408, .i32⟩
  | 115 => ⟨S1408, .i32⟩
  | 116 => ⟨S1x1x1x1408, .i32⟩
  | 117 => ⟨S6x14x16x1408, .i32⟩
  | 118 => ⟨S6x14x16x1408, .i32⟩
  | 119 => ⟨S6x14x16x1408, .i32⟩
  | 120 => ⟨S6x14x16x1408, .i32⟩
  | 121 => ⟨S1x1x1408, .i32⟩
  | 122 => ⟨S1408, .i32⟩
  | 123 => ⟨S1x1x1x1408, .i32⟩
  | 124 => ⟨S6x14x16x1408, .i32⟩
  | 125 => ⟨S6x14x16x1408, .i32⟩
  | 126 => ⟨S6x14x16x1408, .i32⟩
  | 127 => ⟨S6x14x16x1408, .i32⟩
  | _ => ⟨S6x14x16x1408, .i8⟩

abbrev hbmTy0_2 (i : Nat) : BufTy := match i % 128 with
  | 0 => ⟨S1x1x1408, .i32⟩
  | 1 => ⟨S1408, .i32⟩
  | 2 => ⟨S1x1x1x1408, .i32⟩
  | 3 => ⟨S6x14x16x1408, .i32⟩
  | 4 => ⟨S6x14x16x1408, .i32⟩
  | 5 => ⟨S6x14x16x1408, .i32⟩
  | 6 => ⟨S6x14x16x1408, .i32⟩
  | 7 => ⟨S1x1x1408, .i32⟩
  | 8 => ⟨S1408, .i32⟩
  | 9 => ⟨S1x1x1x1408, .i32⟩
  | 10 => ⟨S6x14x16x1408, .i32⟩
  | 11 => ⟨S6x14x16x1408, .i32⟩
  | 12 => ⟨S6x14x16x1408, .i32⟩
  | 13 => ⟨S6x14x16x1408, .i32⟩
  | 14 => ⟨S1x1x1408, .i32⟩
  | 15 => ⟨S1408, .i32⟩
  | 16 => ⟨S1x1x1x1408, .i32⟩
  | 17 => ⟨S6x14x16x1408, .i32⟩
  | 18 => ⟨S6x14x16x1408, .i32⟩
  | 19 => ⟨S6x14x16x1408, .i32⟩
  | 20 => ⟨S6x14x16x1408, .i32⟩
  | 21 => ⟨S1x1x1408, .i32⟩
  | 22 => ⟨S1408, .i32⟩
  | 23 => ⟨S1x1x1x1408, .i32⟩
  | 24 => ⟨S6x14x16x1408, .i32⟩
  | 25 => ⟨S6x14x16x1408, .i32⟩
  | 26 => ⟨S6x14x16x1408, .i32⟩
  | 27 => ⟨S6x14x16x1408, .i32⟩
  | 28 => ⟨S1x1x1408, .i32⟩
  | 29 => ⟨S1408, .i32⟩
  | 30 => ⟨S1x1x1x1408, .i32⟩
  | 31 => ⟨S6x14x16x1408, .i32⟩
  | 32 => ⟨S6x14x16x1408, .i32⟩
  | 33 => ⟨S6x14x16x1408, .i32⟩
  | 34 => ⟨S6x14x16x1408, .i32⟩
  | 35 => ⟨S1x1x1408, .i32⟩
  | 36 => ⟨S1408, .i32⟩
  | 37 => ⟨S1x1x1x1408, .i32⟩
  | 38 => ⟨S6x14x16x1408, .i32⟩
  | 39 => ⟨S6x14x16x1408, .i32⟩
  | 40 => ⟨S6x14x16x1408, .i32⟩
  | 41 => ⟨S6x14x16x1408, .i32⟩
  | 42 => ⟨S1x1x1408, .i32⟩
  | 43 => ⟨S1408, .i32⟩
  | 44 => ⟨S1x1x1x1408, .i32⟩
  | 45 => ⟨S6x14x16x1408, .i32⟩
  | 46 => ⟨S6x14x16x1408, .i32⟩
  | 47 => ⟨S6x14x16x1408, .i32⟩
  | 48 => ⟨S6x14x16x1408, .i32⟩
  | 49 => ⟨S1x1x1408, .i32⟩
  | 50 => ⟨S1408, .i32⟩
  | 51 => ⟨S1x1x1x1408, .i32⟩
  | 52 => ⟨S6x14x16x1408, .i32⟩
  | 53 => ⟨S6x14x16x1408, .i32⟩
  | 54 => ⟨S6x14x16x1408, .i32⟩
  | 55 => ⟨S6x14x16x1408, .i32⟩
  | 56 => ⟨S1x1x1408, .i32⟩
  | 57 => ⟨S1408, .i32⟩
  | 58 => ⟨S1x1x1x1408, .i32⟩
  | 59 => ⟨S6x14x16x1408, .i32⟩
  | 60 => ⟨S6x14x16x1408, .i32⟩
  | 61 => ⟨S6x14x16x1408, .i32⟩
  | 62 => ⟨S6x14x16x1408, .i32⟩
  | 63 => ⟨S1x1x1408, .i32⟩
  | 64 => ⟨S1408, .i32⟩
  | 65 => ⟨S1x1x1x1408, .i32⟩
  | 66 => ⟨S6x14x16x1408, .i32⟩
  | 67 => ⟨S6x14x16x1408, .i32⟩
  | 68 => ⟨S6x14x16x1408, .i32⟩
  | 69 => ⟨S6x14x16x1408, .i32⟩
  | 70 => ⟨S1x1x1408, .i32⟩
  | 71 => ⟨S1408, .i32⟩
  | 72 => ⟨S1x1x1x1408, .i32⟩
  | 73 => ⟨S6x14x16x1408, .i32⟩
  | 74 => ⟨S6x14x16x1408, .i32⟩
  | 75 => ⟨S6x14x16x1408, .i32⟩
  | 76 => ⟨S6x14x16x1408, .i32⟩
  | 77 => ⟨S1x1x1408, .i32⟩
  | 78 => ⟨S1408, .i32⟩
  | 79 => ⟨S1x1x1x1408, .i32⟩
  | 80 => ⟨S6x14x16x1408, .i32⟩
  | 81 => ⟨S6x14x16x1408, .i32⟩
  | 82 => ⟨S6x14x16x1408, .i32⟩
  | 83 => ⟨S6x14x16x1408, .i32⟩
  | 84 => ⟨S1x1x1408, .i32⟩
  | 85 => ⟨S1408, .i32⟩
  | 86 => ⟨S1x1x1x1408, .i32⟩
  | 87 => ⟨S6x14x16x1408, .i32⟩
  | 88 => ⟨S6x14x16x1408, .i32⟩
  | 89 => ⟨S6x14x16x1408, .i32⟩
  | 90 => ⟨S6x14x16x1408, .i32⟩
  | 91 => ⟨S1x1x1408, .i32⟩
  | 92 => ⟨S1408, .i32⟩
  | 93 => ⟨S1x1x1x1408, .i32⟩
  | 94 => ⟨S6x14x16x1408, .i32⟩
  | 95 => ⟨S6x14x16x1408, .i32⟩
  | 96 => ⟨S6x14x16x1408, .i32⟩
  | 97 => ⟨S6x14x16x1408, .i32⟩
  | 98 => ⟨S1x1x1408, .i32⟩
  | 99 => ⟨S1408, .i32⟩
  | 100 => ⟨S1x1x1x1408, .i32⟩
  | 101 => ⟨S6x14x16x1408, .i32⟩
  | 102 => ⟨S6x14x16x1408, .i32⟩
  | 103 => ⟨S6x14x16x1408, .i32⟩
  | 104 => ⟨S6x14x16x1408, .i32⟩
  | 105 => ⟨S1x1x1408, .i32⟩
  | 106 => ⟨S1408, .i32⟩
  | 107 => ⟨S1x1x1x1408, .i32⟩
  | 108 => ⟨S6x14x16x1408, .i32⟩
  | 109 => ⟨S6x14x16x1408, .i32⟩
  | 110 => ⟨S6x14x16x1408, .i32⟩
  | 111 => ⟨S6x14x16x1408, .f32⟩
  | 112 => ⟨S1408, .f32⟩
  | 113 => ⟨S1408, .f32⟩
  | 114 => ⟨S1x1x1x1408, .f32⟩
  | 115 => ⟨S6x14x16x1408, .f32⟩
  | 116 => ⟨S6x14x16x1408, .f32⟩
  | 117 => ⟨S1x1x1x1408, .f32⟩
  | 118 => ⟨S6x14x16x1408, .f32⟩
  | 119 => ⟨S6x14x16x1408, .f32⟩
  | 120 => ⟨S_, .f32⟩
  | 121 => ⟨S6x14x16, .f32⟩
  | 122 => ⟨S6x14x16x1, .f32⟩
  | 123 => ⟨S_, .f32⟩
  | 124 => ⟨S6x14x16x1, .f32⟩
  | 125 => ⟨S6x14x16x1, .f32⟩
  | 126 => ⟨S6x14x16x1408, .f32⟩
  | 127 => ⟨S6x14x16x1408, .f32⟩
  | _ => ⟨S6x14x16x1408, .i8⟩

abbrev hbmTy0_3 (i : Nat) : BufTy := match i % 128 with
  | 0 => ⟨S6x14x16x1408, .f32⟩
  | 1 => ⟨S_, .f32⟩
  | 2 => ⟨S6x14x16, .f32⟩
  | 3 => ⟨S6x14x16x1, .f32⟩
  | 4 => ⟨S_, .f32⟩
  | 5 => ⟨S6x14x16x1, .f32⟩
  | 6 => ⟨S6x14x16x1, .f32⟩
  | 7 => ⟨S_, .f32⟩
  | 8 => ⟨S6x14x16x1, .f32⟩
  | 9 => ⟨S6x14x16x1, .f32⟩
  | 10 => ⟨S6x14x16x1, .f32⟩
  | 11 => ⟨S6x14x16x1408, .f32⟩
  | 12 => ⟨S6x14x16x1408, .f32⟩
  | 13 => ⟨S1x1x1x1408, .f32⟩
  | 14 => ⟨S6x14x16x1408, .f32⟩
  | 15 => ⟨S6x14x16x1408, .f32⟩
  | 16 => ⟨S1x1x1x1408, .f32⟩
  | 17 => ⟨S6x14x16x1408, .f32⟩
  | 18 => ⟨S6x14x16x1408, .f32⟩
  | 19 => ⟨S6x14x16x1408, .f32⟩
  | 20 => ⟨S_, .f32⟩
  | 21 => ⟨S6x14x16, .f32⟩
  | 22 => ⟨S_, .f32⟩
  | 23 => ⟨S6x14x16, .f32⟩
  | 24 => ⟨S6x14x16, .i1⟩
  | 25 => ⟨S_, .f32⟩
  | 26 => ⟨S6x14x16, .f32⟩
  | 27 => ⟨S6x14x16, .f32⟩
  | 28 => ⟨S_, .f32⟩
  | 29 => ⟨S_, .f32⟩
  | 30 => ⟨S6x14x16, .f32⟩
  | 31 => ⟨S6x14x16, .f32⟩
  | 32 => ⟨S6x14x16x1, .f32⟩
  | 33 => ⟨S6x14x16x1408, .f32⟩
  | 34 => ⟨S6x14x16x1408, .f32⟩
  | 35 => ⟨S6x14x16x1408, .f32⟩
  | 36 => ⟨S_, .f32⟩
  | 37 => ⟨S_, .f32⟩
  | 38 => ⟨S_, .f32⟩
  | 39 => ⟨S6x14x16x1408, .f32⟩
  | 40 => ⟨S6x14x16x1408, .f32⟩
  | 41 => ⟨S_, .f32⟩
  | 42 => ⟨S6x14x16x1408, .f32⟩
  | 43 => ⟨S6x14x16x1408, .f32⟩
  | 44 => ⟨S6x14x16x1408, .i32⟩
  | 45 => ⟨S6x14x16x1408, .i8⟩
  | 46 => ⟨S704x5632, .i32⟩
  | 47 => ⟨S_, .i32⟩
  | 48 => ⟨S704x5632, .i32⟩
  | 49 => ⟨S704x5632, .i32⟩
  | 50 => ⟨S_, .i32⟩
  | 51 => ⟨S704x5632, .i32⟩
  | 52 => ⟨S704x5632, .i32⟩
  | 53 => ⟨S_, .i32⟩
  | 54 => ⟨S704x5632, .i32⟩
  | 55 => ⟨S704x5632, .i1⟩
  | 56 => ⟨S_, .i32⟩
  | 57 => ⟨S704x5632, .i32⟩
  | 58 => ⟨S704x5632, .i32⟩
  | 59 => ⟨S704x5632, .i32⟩
  | 60 => ⟨S_, .i32⟩
  | 61 => ⟨S704x5632, .i32⟩
  | 62 => ⟨S704x5632, .i1⟩
  | 63 => ⟨S_, .i32⟩
  | 64 => ⟨S704x5632, .i32⟩
  | 65 => ⟨S704x5632, .i32⟩
  | 66 => ⟨S704x5632, .i32⟩
  | 67 => ⟨S11x1x5632, .bf16⟩
  | 68 => ⟨S704x5632, .bf16⟩
  | 69 => ⟨S11x64x5632, .bf16⟩
  | 70 => ⟨S11x64x5632, .bf16⟩
  | 71 => ⟨S11x64x5632, .bf16⟩
  | 72 => ⟨S704x5632, .bf16⟩
  | 73 => ⟨S704x5632, .bf16⟩
  | 74 => ⟨S11x64x5632, .bf16⟩
  | 75 => ⟨S11x64x5632, .bf16⟩
  | 76 => ⟨S11x64x5632, .bf16⟩
  | 77 => ⟨S704x5632, .bf16⟩
  | 78 => ⟨S6x14x16x704, .i8⟩
  | 79 => ⟨S6x14x16x704, .i32⟩
  | 80 => ⟨S6x14x16x704, .bf16⟩
  | 81 => ⟨S6x14x16x704, .i8⟩
  | 82 => ⟨S6x14x16x704, .i32⟩
  | 83 => ⟨S6x14x16x704, .bf16⟩
  | 84 => ⟨S6x14x16x5632, .f32⟩
  | 85 => ⟨S6x14x16x5632, .f32⟩
  | 86 => ⟨S6x14x16x5632, .f32⟩
  | 87 => ⟨S6x14x16x1, .f32⟩
  | 88 => ⟨S6x14x16x5632, .f32⟩
  | 89 => ⟨S6x14x16x5632, .f32⟩
  | 90 => ⟨S1x1x1x5632, .f32⟩
  | 91 => ⟨S6x14x16x5632, .f32⟩
  | 92 => ⟨S6x14x16x5632, .f32⟩
  | 93 => ⟨S_, .f32⟩
  | 94 => ⟨S6x14x16x5632, .f32⟩
  | 95 => ⟨S6x14x16x5632, .f32⟩
  | 96 => ⟨S6x14x16x5632, .f32⟩
  | 97 => ⟨S_, .f32⟩
  | 98 => ⟨S6x14x16x5632, .f32⟩
  | 99 => ⟨S6x14x16x5632, .f32⟩
  | 100 => ⟨S6x14x16x5632, .f32⟩
  | 101 => ⟨S6x14x16x5632, .f32⟩
  | 102 => ⟨S6x14x16x5632, .f32⟩
  | 103 => ⟨S_, .f32⟩
  | 104 => ⟨S6x5632, .f32⟩
  | 105 => ⟨S6x5632, .f32⟩
  | 106 => ⟨S_, .f32⟩
  | 107 => ⟨S6, .f32⟩
  | 108 => ⟨S6x1, .f32⟩
  | 109 => ⟨S_, .f32⟩
  | 110 => ⟨S6x1, .f32⟩
  | 111 => ⟨S6x1, .f32⟩
  | 112 => ⟨S_, .f32⟩
  | 113 => ⟨S6x1, .f32⟩
  | 114 => ⟨S6x1, .f32⟩
  | 115 => ⟨S6x5632, .f32⟩
  | 116 => ⟨S6x5632, .f32⟩
  | 117 => ⟨S6x1x1x5632, .f32⟩
  | 118 => ⟨S6x14x16x5632, .f32⟩
  | 119 => ⟨S6x14x16x5632, .f32⟩
  | 120 => ⟨S1x1x1x5632, .f32⟩
  | 121 => ⟨S6x14x16x5632, .f32⟩
  | 122 => ⟨S6x14x16x5632, .f32⟩
  | 123 => ⟨S1x1x1x5632, .f32⟩
  | 124 => ⟨S6x14x16x5632, .f32⟩
  | 125 => ⟨S6x14x16x5632, .f32⟩
  | 126 => ⟨S6x14x16x5632, .f32⟩
  | 127 => ⟨S6x14x16x5632, .f32⟩
  | _ => ⟨S6x14x16x1408, .i8⟩

abbrev hbmTy0_4 (i : Nat) : BufTy := match i % 128 with
  | 0 => ⟨S_, .f32⟩
  | 1 => ⟨S6x14x16, .f32⟩
  | 2 => ⟨S_, .f32⟩
  | 3 => ⟨S6x14x16, .f32⟩
  | 4 => ⟨S6x14x16, .i1⟩
  | 5 => ⟨S_, .f32⟩
  | 6 => ⟨S6x14x16, .f32⟩
  | 7 => ⟨S6x14x16, .f32⟩
  | 8 => ⟨S_, .f32⟩
  | 9 => ⟨S_, .f32⟩
  | 10 => ⟨S6x14x16, .f32⟩
  | 11 => ⟨S6x14x16, .f32⟩
  | 12 => ⟨S6x14x16x1, .f32⟩
  | 13 => ⟨S6x14x16x5632, .f32⟩
  | 14 => ⟨S6x14x16x5632, .f32⟩
  | 15 => ⟨S6x14x16x5632, .f32⟩
  | 16 => ⟨S_, .f32⟩
  | 17 => ⟨S_, .f32⟩
  | 18 => ⟨S_, .f32⟩
  | 19 => ⟨S6x14x16x5632, .f32⟩
  | 20 => ⟨S6x14x16x5632, .f32⟩
  | 21 => ⟨S_, .f32⟩
  | 22 => ⟨S6x14x16x5632, .f32⟩
  | 23 => ⟨S6x14x16x5632, .f32⟩
  | 24 => ⟨S6x14x16x5632, .i32⟩
  | 25 => ⟨S6x14x16x5632, .i8⟩
  | 26 => ⟨S2816x1408, .i32⟩
  | 27 => ⟨S_, .i32⟩
  | 28 => ⟨S2816x1408, .i32⟩
  | 29 => ⟨S2816x1408, .i32⟩
  | 30 => ⟨S_, .i32⟩
  | 31 => ⟨S2816x1408, .i32⟩
  | 32 => ⟨S2816x1408, .i32⟩
  | 33 => ⟨S_, .i32⟩
  | 34 => ⟨S2816x1408, .i32⟩
  | 35 => ⟨S2816x1408, .i1⟩
  | 36 => ⟨S_, .i32⟩
  | 37 => ⟨S2816x1408, .i32⟩
  | 38 => ⟨S2816x1408, .i32⟩
  | 39 => ⟨S2816x1408, .i32⟩
  | 40 => ⟨S_, .i32⟩
  | 41 => ⟨S2816x1408, .i32⟩
  | 42 => ⟨S2816x1408, .i1⟩
  | 43 => ⟨S_, .i32⟩
  | 44 => ⟨S2816x1408, .i32⟩
  | 45 => ⟨S2816x1408, .i32⟩
  | 46 => ⟨S2816x1408, .i32⟩
  | 47 => ⟨S44x1x1408, .bf16⟩
  | 48 => ⟨S2816x1408, .bf16⟩
  | 49 => ⟨S44x64x1408, .bf16⟩
  | 50 => ⟨S44x64x1408, .bf16⟩
  | 51 => ⟨S44x64x1408, .bf16⟩
  | 52 => ⟨S2816x1408, .bf16⟩
  | 53 => ⟨S2816x1408, .bf16⟩
  | 54 => ⟨S44x64x1408, .bf16⟩
  | 55 => ⟨S44x64x1408, .bf16⟩
  | 56 => ⟨S44x64x1408, .bf16⟩
  | 57 => ⟨S2816x1408, .bf16⟩
  | 58 => ⟨S6x14x16x2816, .i8⟩
  | 59 => ⟨S6x14x16x2816, .i32⟩
  | 60 => ⟨S6x14x16x2816, .bf16⟩
  | 61 => ⟨S6x14x16x2816, .i8⟩
  | 62 => ⟨S6x14x16x2816, .i32⟩
  | 63 => ⟨S6x14x16x2816, .bf16⟩
  | 64 => ⟨S6x14x16x1408, .f32⟩
  | 65 => ⟨S6x14x16x1408, .f32⟩
  | 66 => ⟨S6x14x16x1408, .f32⟩
  | 67 => ⟨S6x14x16x1, .f32⟩
  | 68 => ⟨S6x14x16x1408, .f32⟩
  | 69 => ⟨S6x14x16x1408, .f32⟩
  | 70 => ⟨S1x1x1x1408, .f32⟩
  | 71 => ⟨S6x14x16x1408, .f32⟩
  | 72 => ⟨S6x14x16x1408, .f32⟩
  | 73 => ⟨S6x14x16x1408, .f32⟩
  | 74 => ⟨S6x14x16x1408, .f32⟩
  | 75 => ⟨S6x14x16x1408, .bf16⟩
  | 76 => ⟨S6x14x16x1408, .f32⟩
  | 77 => ⟨S6x14x16x1408, .f32⟩
  | 78 => ⟨S6x14x16x1408, .f32⟩
  | 79 => ⟨S_, .f32⟩
  | 80 => ⟨S_, .f32⟩
  | 81 => ⟨S_, .f32⟩
  | 82 => ⟨S6x14x16x1408, .f32⟩
  | 83 => ⟨S6x14x16x1408, .f32⟩
  | 84 => ⟨S_, .f32⟩
  | 85 => ⟨S6x14x16x1408, .f32⟩
  | 86 => ⟨S6x14x16x1408, .f32⟩
  | 87 => ⟨S6x14x16x1408, .i32⟩
  | 88 => ⟨S6x14x16x1408, .i8⟩
  | _ => ⟨S6x14x16x1408, .i8⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S6x14x16x1408, .i8⟩

abbrev bufTy : (tb : Table) → Fin (tcTables nBuf tb) → BufTy
  | .hbm, ⟨i, _⟩ => hbmTy i
  | _, _ => ⟨S6x14x16x1408, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_v269 : Ref sig .tc := ⟨.hbm, 289, rfl⟩
abbrev main_v270 : Ref sig .tc := ⟨.hbm, 290, rfl⟩
abbrev main_v271 : Ref sig .tc := ⟨.hbm, 291, rfl⟩
abbrev main_v272 : Ref sig .tc := ⟨.hbm, 292, rfl⟩
abbrev main_v273 : Ref sig .tc := ⟨.hbm, 293, rfl⟩
abbrev main_v274 : Ref sig .tc := ⟨.hbm, 294, rfl⟩
abbrev main_v275 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_v283 : Ref sig .tc := ⟨.hbm, 303, rfl⟩
abbrev main_v284 : Ref sig .tc := ⟨.hbm, 304, rfl⟩
abbrev main_v285 : Ref sig .tc := ⟨.hbm, 305, rfl⟩
abbrev main_v286 : Ref sig .tc := ⟨.hbm, 306, rfl⟩
abbrev main_v287 : Ref sig .tc := ⟨.hbm, 307, rfl⟩
abbrev main_v288 : Ref sig .tc := ⟨.hbm, 308, rfl⟩
abbrev main_v289 : Ref sig .tc := ⟨.hbm, 309, rfl⟩
abbrev main_v290 : Ref sig .tc := ⟨.hbm, 310, rfl⟩
abbrev main_v291 : Ref sig .tc := ⟨.hbm, 311, rfl⟩
abbrev main_v292 : Ref sig .tc := ⟨.hbm, 312, rfl⟩
abbrev main_v293 : Ref sig .tc := ⟨.hbm, 313, rfl⟩
abbrev main_v294 : Ref sig .tc := ⟨.hbm, 314, rfl⟩
abbrev main_v295 : Ref sig .tc := ⟨.hbm, 315, rfl⟩
abbrev main_v296 : Ref sig .tc := ⟨.hbm, 316, rfl⟩
abbrev main_v297 : Ref sig .tc := ⟨.hbm, 317, rfl⟩
abbrev main_v298 : Ref sig .tc := ⟨.hbm, 318, rfl⟩
abbrev main_v299 : Ref sig .tc := ⟨.hbm, 319, rfl⟩
abbrev main_v300 : Ref sig .tc := ⟨.hbm, 320, rfl⟩
abbrev main_v301 : Ref sig .tc := ⟨.hbm, 321, rfl⟩
abbrev main_v302 : Ref sig .tc := ⟨.hbm, 322, rfl⟩
abbrev main_v303 : Ref sig .tc := ⟨.hbm, 323, rfl⟩
abbrev main_v304 : Ref sig .tc := ⟨.hbm, 324, rfl⟩
abbrev main_v305 : Ref sig .tc := ⟨.hbm, 325, rfl⟩
abbrev main_v306 : Ref sig .tc := ⟨.hbm, 326, rfl⟩
abbrev main_v307 : Ref sig .tc := ⟨.hbm, 327, rfl⟩
abbrev main_v308 : Ref sig .tc := ⟨.hbm, 328, rfl⟩
abbrev main_v309 : Ref sig .tc := ⟨.hbm, 329, rfl⟩
abbrev main_v310 : Ref sig .tc := ⟨.hbm, 330, rfl⟩
abbrev main_v311 : Ref sig .tc := ⟨.hbm, 331, rfl⟩
abbrev main_v312 : Ref sig .tc := ⟨.hbm, 332, rfl⟩
abbrev main_v313 : Ref sig .tc := ⟨.hbm, 333, rfl⟩
abbrev main_v314 : Ref sig .tc := ⟨.hbm, 334, rfl⟩
abbrev main_v315 : Ref sig .tc := ⟨.hbm, 335, rfl⟩
abbrev main_v316 : Ref sig .tc := ⟨.hbm, 336, rfl⟩
abbrev main_v317 : Ref sig .tc := ⟨.hbm, 337, rfl⟩
abbrev main_v318 : Ref sig .tc := ⟨.hbm, 338, rfl⟩
abbrev main_v319 : Ref sig .tc := ⟨.hbm, 339, rfl⟩
abbrev main_v320 : Ref sig .tc := ⟨.hbm, 340, rfl⟩
abbrev main_v321 : Ref sig .tc := ⟨.hbm, 341, rfl⟩
abbrev main_v322 : Ref sig .tc := ⟨.hbm, 342, rfl⟩
abbrev main_v323 : Ref sig .tc := ⟨.hbm, 343, rfl⟩
abbrev main_v324 : Ref sig .tc := ⟨.hbm, 344, rfl⟩
abbrev main_v325 : Ref sig .tc := ⟨.hbm, 345, rfl⟩
abbrev main_v326 : Ref sig .tc := ⟨.hbm, 346, rfl⟩
abbrev main_v327 : Ref sig .tc := ⟨.hbm, 347, rfl⟩
abbrev main_v328 : Ref sig .tc := ⟨.hbm, 348, rfl⟩
abbrev main_v329 : Ref sig .tc := ⟨.hbm, 349, rfl⟩
abbrev main_v330 : Ref sig .tc := ⟨.hbm, 350, rfl⟩
abbrev main_v331 : Ref sig .tc := ⟨.hbm, 351, rfl⟩
abbrev main_v332 : Ref sig .tc := ⟨.hbm, 352, rfl⟩
abbrev main_v333 : Ref sig .tc := ⟨.hbm, 353, rfl⟩
abbrev main_v334 : Ref sig .tc := ⟨.hbm, 354, rfl⟩
abbrev main_v335 : Ref sig .tc := ⟨.hbm, 355, rfl⟩
abbrev main_v336 : Ref sig .tc := ⟨.hbm, 356, rfl⟩
abbrev main_v337 : Ref sig .tc := ⟨.hbm, 357, rfl⟩
abbrev main_v338 : Ref sig .tc := ⟨.hbm, 358, rfl⟩
abbrev main_v339 : Ref sig .tc := ⟨.hbm, 359, rfl⟩
abbrev main_v340 : Ref sig .tc := ⟨.hbm, 360, rfl⟩
abbrev main_v341 : Ref sig .tc := ⟨.hbm, 361, rfl⟩
abbrev main_v342 : Ref sig .tc := ⟨.hbm, 362, rfl⟩
abbrev main_v343 : Ref sig .tc := ⟨.hbm, 363, rfl⟩
abbrev main_v344 : Ref sig .tc := ⟨.hbm, 364, rfl⟩
abbrev main_v345 : Ref sig .tc := ⟨.hbm, 365, rfl⟩
abbrev main_v346 : Ref sig .tc := ⟨.hbm, 366, rfl⟩
abbrev main_v347 : Ref sig .tc := ⟨.hbm, 367, rfl⟩
abbrev main_v348 : Ref sig .tc := ⟨.hbm, 368, rfl⟩
abbrev main_v349 : Ref sig .tc := ⟨.hbm, 369, rfl⟩
abbrev main_v350 : Ref sig .tc := ⟨.hbm, 370, rfl⟩
abbrev main_v351 : Ref sig .tc := ⟨.hbm, 371, rfl⟩
abbrev main_v352 : Ref sig .tc := ⟨.hbm, 372, rfl⟩
abbrev main_v353 : Ref sig .tc := ⟨.hbm, 373, rfl⟩
abbrev main_v354 : Ref sig .tc := ⟨.hbm, 374, rfl⟩
abbrev main_v355 : Ref sig .tc := ⟨.hbm, 375, rfl⟩
abbrev main_cst : Ref sig .tc := ⟨.hbm, 376, rfl⟩
abbrev main_v356 : Ref sig .tc := ⟨.hbm, 377, rfl⟩
abbrev main_v357 : Ref sig .tc := ⟨.hbm, 378, rfl⟩
abbrev main_cst_1 : Ref sig .tc := ⟨.hbm, 379, rfl⟩
abbrev main_v358 : Ref sig .tc := ⟨.hbm, 380, rfl⟩
abbrev main_v359 : Ref sig .tc := ⟨.hbm, 381, rfl⟩
abbrev main_v360 : Ref sig .tc := ⟨.hbm, 382, rfl⟩
abbrev main_v361 : Ref sig .tc := ⟨.hbm, 383, rfl⟩
abbrev main_v362 : Ref sig .tc := ⟨.hbm, 384, rfl⟩
abbrev main_cst_2 : Ref sig .tc := ⟨.hbm, 385, rfl⟩
abbrev main_v363 : Ref sig .tc := ⟨.hbm, 386, rfl⟩
abbrev main_v364 : Ref sig .tc := ⟨.hbm, 387, rfl⟩
abbrev main_cst_3 : Ref sig .tc := ⟨.hbm, 388, rfl⟩
abbrev main_v365 : Ref sig .tc := ⟨.hbm, 389, rfl⟩
abbrev main_v366 : Ref sig .tc := ⟨.hbm, 390, rfl⟩
abbrev main_cst_4 : Ref sig .tc := ⟨.hbm, 391, rfl⟩
abbrev main_v367 : Ref sig .tc := ⟨.hbm, 392, rfl⟩
abbrev main_v368 : Ref sig .tc := ⟨.hbm, 393, rfl⟩
abbrev main_v369 : Ref sig .tc := ⟨.hbm, 394, rfl⟩
abbrev main_v370 : Ref sig .tc := ⟨.hbm, 395, rfl⟩
abbrev main_v371 : Ref sig .tc := ⟨.hbm, 396, rfl⟩
abbrev main_v372 : Ref sig .tc := ⟨.hbm, 397, rfl⟩
abbrev main_v373 : Ref sig .tc := ⟨.hbm, 398, rfl⟩
abbrev main_v374 : Ref sig .tc := ⟨.hbm, 399, rfl⟩
abbrev main_v375 : Ref sig .tc := ⟨.hbm, 400, rfl⟩
abbrev main_v376 : Ref sig .tc := ⟨.hbm, 401, rfl⟩
abbrev main_v377 : Ref sig .tc := ⟨.hbm, 402, rfl⟩
abbrev main_v378 : Ref sig .tc := ⟨.hbm, 403, rfl⟩
abbrev main_cst_5 : Ref sig .tc := ⟨.hbm, 404, rfl⟩
abbrev main_v379 : Ref sig .tc := ⟨.hbm, 405, rfl⟩
abbrev main_cst_6 : Ref sig .tc := ⟨.hbm, 406, rfl⟩
abbrev main_v380 : Ref sig .tc := ⟨.hbm, 407, rfl⟩
abbrev main_v381 : Ref sig .tc := ⟨.hbm, 408, rfl⟩
abbrev main_cst_7 : Ref sig .tc := ⟨.hbm, 409, rfl⟩
abbrev main_v382 : Ref sig .tc := ⟨.hbm, 410, rfl⟩
abbrev main_v383 : Ref sig .tc := ⟨.hbm, 411, rfl⟩
abbrev main_cst_8 : Ref sig .tc := ⟨.hbm, 412, rfl⟩
abbrev main_call1_v0 : Ref sig .tc := ⟨.hbm, 413, rfl⟩
abbrev main_call1_v1 : Ref sig .tc := ⟨.hbm, 414, rfl⟩
abbrev main_v384 : Ref sig .tc := ⟨.hbm, 415, rfl⟩
abbrev main_v385 : Ref sig .tc := ⟨.hbm, 416, rfl⟩
abbrev main_v386 : Ref sig .tc := ⟨.hbm, 417, rfl⟩
abbrev main_v387 : Ref sig .tc := ⟨.hbm, 418, rfl⟩
abbrev main_v388 : Ref sig .tc := ⟨.hbm, 419, rfl⟩
abbrev main_cst_9 : Ref sig .tc := ⟨.hbm, 420, rfl⟩
abbrev main_cst_10 : Ref sig .tc := ⟨.hbm, 421, rfl⟩
abbrev main_call3_v0 : Ref sig .tc := ⟨.hbm, 422, rfl⟩
abbrev main_call3_v1 : Ref sig .tc := ⟨.hbm, 423, rfl⟩
abbrev main_call3_v2 : Ref sig .tc := ⟨.hbm, 424, rfl⟩
abbrev main_call3_v3 : Ref sig .tc := ⟨.hbm, 425, rfl⟩
abbrev main_call3_v4 : Ref sig .tc := ⟨.hbm, 426, rfl⟩
abbrev main_v389 : Ref sig .tc := ⟨.hbm, 427, rfl⟩
abbrev main_v390 : Ref sig .tc := ⟨.hbm, 428, rfl⟩
abbrev main_v391 : Ref sig .tc := ⟨.hbm, 429, rfl⟩
abbrev main_v392 : Ref sig .tc := ⟨.hbm, 430, rfl⟩
abbrev main_c_11 : Ref sig .tc := ⟨.hbm, 431, rfl⟩
abbrev main_v393 : Ref sig .tc := ⟨.hbm, 432, rfl⟩
abbrev main_v394 : Ref sig .tc := ⟨.hbm, 433, rfl⟩
abbrev main_c_12 : Ref sig .tc := ⟨.hbm, 434, rfl⟩
abbrev main_v395 : Ref sig .tc := ⟨.hbm, 435, rfl⟩
abbrev main_v396 : Ref sig .tc := ⟨.hbm, 436, rfl⟩
abbrev main_c_13 : Ref sig .tc := ⟨.hbm, 437, rfl⟩
abbrev main_v397 : Ref sig .tc := ⟨.hbm, 438, rfl⟩
abbrev main_v398 : Ref sig .tc := ⟨.hbm, 439, rfl⟩
abbrev main_c_14 : Ref sig .tc := ⟨.hbm, 440, rfl⟩
abbrev main_v399 : Ref sig .tc := ⟨.hbm, 441, rfl⟩
abbrev main_v400 : Ref sig .tc := ⟨.hbm, 442, rfl⟩
abbrev main_v401 : Ref sig .tc := ⟨.hbm, 443, rfl⟩
abbrev main_c_15 : Ref sig .tc := ⟨.hbm, 444, rfl⟩
abbrev main_v402 : Ref sig .tc := ⟨.hbm, 445, rfl⟩
abbrev main_v403 : Ref sig .tc := ⟨.hbm, 446, rfl⟩
abbrev main_c_16 : Ref sig .tc := ⟨.hbm, 447, rfl⟩
abbrev main_v404 : Ref sig .tc := ⟨.hbm, 448, rfl⟩
abbrev main_v405 : Ref sig .tc := ⟨.hbm, 449, rfl⟩
abbrev main_v406 : Ref sig .tc := ⟨.hbm, 450, rfl⟩
abbrev main_v407 : Ref sig .tc := ⟨.hbm, 451, rfl⟩
abbrev main_v408 : Ref sig .tc := ⟨.hbm, 452, rfl⟩
abbrev main_v409 : Ref sig .tc := ⟨.hbm, 453, rfl⟩
abbrev main_v410 : Ref sig .tc := ⟨.hbm, 454, rfl⟩
abbrev main_v411 : Ref sig .tc := ⟨.hbm, 455, rfl⟩
abbrev main_v412 : Ref sig .tc := ⟨.hbm, 456, rfl⟩
abbrev main_v413 : Ref sig .tc := ⟨.hbm, 457, rfl⟩
abbrev main_v414 : Ref sig .tc := ⟨.hbm, 458, rfl⟩
abbrev main_v415 : Ref sig .tc := ⟨.hbm, 459, rfl⟩
abbrev main_v416 : Ref sig .tc := ⟨.hbm, 460, rfl⟩
abbrev main_v417 : Ref sig .tc := ⟨.hbm, 461, rfl⟩
abbrev main_v418 : Ref sig .tc := ⟨.hbm, 462, rfl⟩
abbrev main_v419 : Ref sig .tc := ⟨.hbm, 463, rfl⟩
abbrev main_v420 : Ref sig .tc := ⟨.hbm, 464, rfl⟩
abbrev main_v421 : Ref sig .tc := ⟨.hbm, 465, rfl⟩
abbrev main_v422 : Ref sig .tc := ⟨.hbm, 466, rfl⟩
abbrev main_v423 : Ref sig .tc := ⟨.hbm, 467, rfl⟩
abbrev main_v424 : Ref sig .tc := ⟨.hbm, 468, rfl⟩
abbrev main_v425 : Ref sig .tc := ⟨.hbm, 469, rfl⟩
abbrev main_v426 : Ref sig .tc := ⟨.hbm, 470, rfl⟩
abbrev main_v427 : Ref sig .tc := ⟨.hbm, 471, rfl⟩
abbrev main_v428 : Ref sig .tc := ⟨.hbm, 472, rfl⟩
abbrev main_v429 : Ref sig .tc := ⟨.hbm, 473, rfl⟩
abbrev main_v430 : Ref sig .tc := ⟨.hbm, 474, rfl⟩
abbrev main_v431 : Ref sig .tc := ⟨.hbm, 475, rfl⟩
abbrev main_v432 : Ref sig .tc := ⟨.hbm, 476, rfl⟩
abbrev main_cst_17 : Ref sig .tc := ⟨.hbm, 477, rfl⟩
abbrev main_v433 : Ref sig .tc := ⟨.hbm, 478, rfl⟩
abbrev main_v434 : Ref sig .tc := ⟨.hbm, 479, rfl⟩
abbrev main_v435 : Ref sig .tc := ⟨.hbm, 480, rfl⟩
abbrev main_cst_18 : Ref sig .tc := ⟨.hbm, 481, rfl⟩
abbrev main_v436 : Ref sig .tc := ⟨.hbm, 482, rfl⟩
abbrev main_v437 : Ref sig .tc := ⟨.hbm, 483, rfl⟩
abbrev main_v438 : Ref sig .tc := ⟨.hbm, 484, rfl⟩
abbrev main_v439 : Ref sig .tc := ⟨.hbm, 485, rfl⟩
abbrev main_v440 : Ref sig .tc := ⟨.hbm, 486, rfl⟩
abbrev main_cst_19 : Ref sig .tc := ⟨.hbm, 487, rfl⟩
abbrev main_v441 : Ref sig .tc := ⟨.hbm, 488, rfl⟩
abbrev main_v442 : Ref sig .tc := ⟨.hbm, 489, rfl⟩
abbrev main_cst_20 : Ref sig .tc := ⟨.hbm, 490, rfl⟩
abbrev main_v443 : Ref sig .tc := ⟨.hbm, 491, rfl⟩
abbrev main_v444 : Ref sig .tc := ⟨.hbm, 492, rfl⟩
abbrev main_cst_21 : Ref sig .tc := ⟨.hbm, 493, rfl⟩
abbrev main_v445 : Ref sig .tc := ⟨.hbm, 494, rfl⟩
abbrev main_v446 : Ref sig .tc := ⟨.hbm, 495, rfl⟩
abbrev main_cst_22 : Ref sig .tc := ⟨.hbm, 496, rfl⟩
abbrev main_v447 : Ref sig .tc := ⟨.hbm, 497, rfl⟩
abbrev main_v448 : Ref sig .tc := ⟨.hbm, 498, rfl⟩
abbrev main_v449 : Ref sig .tc := ⟨.hbm, 499, rfl⟩
abbrev main_v450 : Ref sig .tc := ⟨.hbm, 500, rfl⟩
abbrev main_v451 : Ref sig .tc := ⟨.hbm, 501, rfl⟩
abbrev main_v452 : Ref sig .tc := ⟨.hbm, 502, rfl⟩
abbrev main_v453 : Ref sig .tc := ⟨.hbm, 503, rfl⟩
abbrev main_v454 : Ref sig .tc := ⟨.hbm, 504, rfl⟩
abbrev main_v455 : Ref sig .tc := ⟨.hbm, 505, rfl⟩
abbrev main_v456 : Ref sig .tc := ⟨.hbm, 506, rfl⟩
abbrev main_v457 : Ref sig .tc := ⟨.hbm, 507, rfl⟩
abbrev main_v458 : Ref sig .tc := ⟨.hbm, 508, rfl⟩
abbrev main_v459 : Ref sig .tc := ⟨.hbm, 509, rfl⟩
abbrev main_v460 : Ref sig .tc := ⟨.hbm, 510, rfl⟩
abbrev main_v461 : Ref sig .tc := ⟨.hbm, 511, rfl⟩
abbrev main_cst_23 : Ref sig .tc := ⟨.hbm, 512, rfl⟩
abbrev main_v462 : Ref sig .tc := ⟨.hbm, 513, rfl⟩
abbrev main_cst_24 : Ref sig .tc := ⟨.hbm, 514, rfl⟩
abbrev main_v463 : Ref sig .tc := ⟨.hbm, 515, rfl⟩
abbrev main_v464 : Ref sig .tc := ⟨.hbm, 516, rfl⟩
abbrev main_cst_25 : Ref sig .tc := ⟨.hbm, 517, rfl⟩
abbrev main_v465 : Ref sig .tc := ⟨.hbm, 518, rfl⟩
abbrev main_v466 : Ref sig .tc := ⟨.hbm, 519, rfl⟩
abbrev main_cst_26 : Ref sig .tc := ⟨.hbm, 520, rfl⟩
abbrev main_call6_v0 : Ref sig .tc := ⟨.hbm, 521, rfl⟩
abbrev main_call6_v1 : Ref sig .tc := ⟨.hbm, 522, rfl⟩
abbrev main_v467 : Ref sig .tc := ⟨.hbm, 523, rfl⟩
abbrev main_v468 : Ref sig .tc := ⟨.hbm, 524, rfl⟩
abbrev main_v469 : Ref sig .tc := ⟨.hbm, 525, rfl⟩
abbrev main_v470 : Ref sig .tc := ⟨.hbm, 526, rfl⟩
abbrev main_v471 : Ref sig .tc := ⟨.hbm, 527, rfl⟩
abbrev main_cst_27 : Ref sig .tc := ⟨.hbm, 528, rfl⟩
abbrev main_cst_28 : Ref sig .tc := ⟨.hbm, 529, rfl⟩
abbrev main_call8_v0 : Ref sig .tc := ⟨.hbm, 530, rfl⟩
abbrev main_call8_v1 : Ref sig .tc := ⟨.hbm, 531, rfl⟩
abbrev main_call8_v2 : Ref sig .tc := ⟨.hbm, 532, rfl⟩
abbrev main_call8_v3 : Ref sig .tc := ⟨.hbm, 533, rfl⟩
abbrev main_call8_v4 : Ref sig .tc := ⟨.hbm, 534, rfl⟩
abbrev main_v472 : Ref sig .tc := ⟨.hbm, 535, rfl⟩
abbrev main_v473 : Ref sig .tc := ⟨.hbm, 536, rfl⟩
abbrev main_v474 : Ref sig .tc := ⟨.hbm, 537, rfl⟩
abbrev main_v475 : Ref sig .tc := ⟨.hbm, 538, rfl⟩
abbrev main_c_29 : Ref sig .tc := ⟨.hbm, 539, rfl⟩
abbrev main_v476 : Ref sig .tc := ⟨.hbm, 540, rfl⟩
abbrev main_v477 : Ref sig .tc := ⟨.hbm, 541, rfl⟩
abbrev main_c_30 : Ref sig .tc := ⟨.hbm, 542, rfl⟩
abbrev main_v478 : Ref sig .tc := ⟨.hbm, 543, rfl⟩
abbrev main_v479 : Ref sig .tc := ⟨.hbm, 544, rfl⟩
abbrev main_c_31 : Ref sig .tc := ⟨.hbm, 545, rfl⟩
abbrev main_v480 : Ref sig .tc := ⟨.hbm, 546, rfl⟩
abbrev main_v481 : Ref sig .tc := ⟨.hbm, 547, rfl⟩
abbrev main_c_32 : Ref sig .tc := ⟨.hbm, 548, rfl⟩
abbrev main_v482 : Ref sig .tc := ⟨.hbm, 549, rfl⟩
abbrev main_v483 : Ref sig .tc := ⟨.hbm, 550, rfl⟩
abbrev main_v484 : Ref sig .tc := ⟨.hbm, 551, rfl⟩
abbrev main_c_33 : Ref sig .tc := ⟨.hbm, 552, rfl⟩
abbrev main_v485 : Ref sig .tc := ⟨.hbm, 553, rfl⟩
abbrev main_v486 : Ref sig .tc := ⟨.hbm, 554, rfl⟩
abbrev main_c_34 : Ref sig .tc := ⟨.hbm, 555, rfl⟩
abbrev main_v487 : Ref sig .tc := ⟨.hbm, 556, rfl⟩
abbrev main_v488 : Ref sig .tc := ⟨.hbm, 557, rfl⟩
abbrev main_v489 : Ref sig .tc := ⟨.hbm, 558, rfl⟩
abbrev main_v490 : Ref sig .tc := ⟨.hbm, 559, rfl⟩
abbrev main_v491 : Ref sig .tc := ⟨.hbm, 560, rfl⟩
abbrev main_v492 : Ref sig .tc := ⟨.hbm, 561, rfl⟩
abbrev main_v493 : Ref sig .tc := ⟨.hbm, 562, rfl⟩
abbrev main_v494 : Ref sig .tc := ⟨.hbm, 563, rfl⟩
abbrev main_v495 : Ref sig .tc := ⟨.hbm, 564, rfl⟩
abbrev main_v496 : Ref sig .tc := ⟨.hbm, 565, rfl⟩
abbrev main_v497 : Ref sig .tc := ⟨.hbm, 566, rfl⟩
abbrev main_v498 : Ref sig .tc := ⟨.hbm, 567, rfl⟩
abbrev main_v499 : Ref sig .tc := ⟨.hbm, 568, rfl⟩
abbrev main_v500 : Ref sig .tc := ⟨.hbm, 569, rfl⟩
abbrev main_v501 : Ref sig .tc := ⟨.hbm, 570, rfl⟩
abbrev main_v502 : Ref sig .tc := ⟨.hbm, 571, rfl⟩
abbrev main_v503 : Ref sig .tc := ⟨.hbm, 572, rfl⟩
abbrev main_v504 : Ref sig .tc := ⟨.hbm, 573, rfl⟩
abbrev main_v505 : Ref sig .tc := ⟨.hbm, 574, rfl⟩
abbrev main_v506 : Ref sig .tc := ⟨.hbm, 575, rfl⟩
abbrev main_v507 : Ref sig .tc := ⟨.hbm, 576, rfl⟩
abbrev main_v508 : Ref sig .tc := ⟨.hbm, 577, rfl⟩
abbrev main_v509 : Ref sig .tc := ⟨.hbm, 578, rfl⟩
abbrev main_v510 : Ref sig .tc := ⟨.hbm, 579, rfl⟩
abbrev main_v511 : Ref sig .tc := ⟨.hbm, 580, rfl⟩
abbrev main_v512 : Ref sig .tc := ⟨.hbm, 581, rfl⟩
abbrev main_v513 : Ref sig .tc := ⟨.hbm, 582, rfl⟩
abbrev main_v514 : Ref sig .tc := ⟨.hbm, 583, rfl⟩
abbrev main_v515 : Ref sig .tc := ⟨.hbm, 584, rfl⟩
abbrev main_v516 : Ref sig .tc := ⟨.hbm, 585, rfl⟩
abbrev main_v517 : Ref sig .tc := ⟨.hbm, 586, rfl⟩
abbrev main_v518 : Ref sig .tc := ⟨.hbm, 587, rfl⟩
abbrev main_v519 : Ref sig .tc := ⟨.hbm, 588, rfl⟩
abbrev main_v520 : Ref sig .tc := ⟨.hbm, 589, rfl⟩
abbrev main_v521 : Ref sig .tc := ⟨.hbm, 590, rfl⟩
abbrev main_cst_35 : Ref sig .tc := ⟨.hbm, 591, rfl⟩
abbrev main_cst_36 : Ref sig .tc := ⟨.hbm, 592, rfl⟩
abbrev main_call12_v0 : Ref sig .tc := ⟨.hbm, 593, rfl⟩
abbrev main_call12_v1 : Ref sig .tc := ⟨.hbm, 594, rfl⟩
abbrev main_call12_v2 : Ref sig .tc := ⟨.hbm, 595, rfl⟩
abbrev main_call12_v3 : Ref sig .tc := ⟨.hbm, 596, rfl⟩
abbrev main_call12_v4 : Ref sig .tc := ⟨.hbm, 597, rfl⟩
abbrev main_v522 : Ref sig .tc := ⟨.hbm, 598, rfl⟩
abbrev main_v523 : Ref sig .tc := ⟨.hbm, 599, rfl⟩
abbrev main_v524 : Ref sig .tc := ⟨.hbm, 600, rfl⟩

abbrev nD : Nat := 1
abbrev τ : Topo := Topo.v7x

variable {F : FTy → Type} [FloatOps F]
-- ==== Proof.ConvKernel.lean ====
/- The depthwise convolution's loop over the channel blocks, for `Cert.Kernel`: an outer loop of eleven trips with a loop of two
   trips inside. One trip copies a block of 128 channels of the image into the zero-bordered strip and convolves it, sixteen pixels
   by sixteen. The generated kit leaves the outer loop's invariant to be stated by hand: here it is, with the contents of the two
   buffers a trip writes (the strip, the convolution's result) given by recursion over the trips. -/
module

public import proofs.«01_k».proof.Proof.Gen.Kernel.Loops

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra the generated invariants are stated at. -/
local notation "𝕄G" => MT nD τ sig Unit (Elt F) ℕ (UR sig nD τ) ℕ

/-- What one trip touches: the image's scale, the image, the channel scales, the biases and the taps, which it reads, and the strip
    (`arg27`) and the result (`arg29`), which it writes. -/
abbrev Trip_k0_t3 (c : Dev nD) (arg1 : Memref sig .tc .smem S1 .f32) (arg3 : Memref sig .tc .vmem S1x14x16x1408 .i8) (arg6 : Memref sig .tc .vmem S1x1408 .f32) (arg7 : Memref sig .tc .vmem S1x1408 .f32) (arg28 : Memref sig .tc .vmem S7x7x1408 .f32) (arg27 : Memref sig .tc .vmem S14x32x128 .f32) (arg29 : Memref sig .tc .vmem S224x1408 .f32)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (f_arg27 : BufTy.Contents (Elt F) arg27.view.ty) (f_arg29 : BufTy.Contents (Elt F) arg29.view.ty) : sProp 𝕄G :=
  iprop((arg1.view.loc (c : Thread nD τ) ↦[arg1.view.set]{fullShare} X_arg1) ∗ (arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg28.view.loc (c : Thread nD τ) ↦[arg28.view.set]{fullShare} X_arg28)
    ∗ (arg27.view.loc (c : Thread nD τ) ↦[arg27.view.set]{fullShare} f_arg27) ∗ (arg29.view.loc (c : Thread nD τ) ↦[arg29.view.set]{fullShare} f_arg29))

/-- ONE TRIP at a symbolic `k`: the pieces it writes into the strip and into the result, found by running it. The result's pieces
    depend on what the strip held, whose border the trip does not write. -/
@[irreducible] def trip_k0_t3 (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (k : Fin k0_t3_loop.trips) (f_arg27 : BufTy.Contents (Elt F) arg27.view.ty) :
    { L : List (View.Piece (Elt F) S14x32x128 .f32) × List (View.Piece (Elt F) S224x1408 .f32) //
      ∀ (E : Set ℕ) (f_arg29 : BufTy.Contents (Elt F) arg29.view.ty),
      Trip_k0_t3 (F := F) c arg1 arg3 arg6 arg7 arg28 arg27 arg29 X_arg1 X_arg3 X_arg6 X_arg7 X_arg28 f_arg27 f_arg29
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 k PUnit.unit)
          (fun _ => Trip_k0_t3 (F := F) c arg1 arg3 arg6 arg7 arg28 arg27 arg29 X_arg1 X_arg3 X_arg6 X_arg7 X_arg28 (arg27.view.writes (Elt F) f_arg27 L.1)
            (arg29.view.writes (Elt F) f_arg29 L.2)) } := by
  have hk : k.val < 11 := Nat.lt_of_lt_of_le k.isLt k0_t3_abs.2.1
  refine ⟨(?_, ?_), fun E f_arg29 => ?run⟩
  case run =>
    unfold k0_t3_body
    iintro ⟨HR_arg1, HR_arg3, HR_arg6, HR_arg7, HR_arg28, HW_arg27, HW_arg29⟩
    sl_exec
    sl_step
    sl_close

/-- Trip `k`'s pieces for the strip put in front of the pieces `prev` of the trips before it. -/
@[irreducible] def pbStrip_k0_t3Step (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (k : ℕ) (prev : List (View.Piece (Elt F) S14x32x128 .f32)) :
    List (View.Piece (Elt F) S14x32x128 .f32) :=
  if h : k < k0_t3_loop.trips then
    (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 ⟨k, h⟩ (arg27.view.writes (Elt F) G_arg27 prev)).1.1 ++ prev
  else prev

/-- The pieces written into the strip by the trips before `k`, last first. -/
def pbStrip_k0_t3 (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) : ℕ → List (View.Piece (Elt F) S14x32x128 .f32)
  | 0 => []
  | k + 1 => pbStrip_k0_t3Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k (pbStrip_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k)

theorem pbStrip_k0_t3_succ (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (k : Fin k0_t3_loop.trips) :
    pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 (k.val + 1)
      = (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 k
          (arg27.view.writes (Elt F) G_arg27 (pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k.val))).1.1
        ++ pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k.val := by
  rw [pbStrip_k0_t3.eq_2]; unfold pbStrip_k0_t3Step; exact dif_pos k.isLt

/-- Trip `k`'s pieces for the result put in front of the pieces `prev` of the trips before it. -/
@[irreducible] def pbOut_k0_t3Step (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (k : ℕ) (prev : List (View.Piece (Elt F) S224x1408 .f32)) :
    List (View.Piece (Elt F) S224x1408 .f32) :=
  if h : k < k0_t3_loop.trips then
    (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 ⟨k, h⟩
      (arg27.view.writes (Elt F) G_arg27 (pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k))).1.2 ++ prev
  else prev

/-- The pieces written into the convolution's result by the trips before `k`, last first. -/
def pbOut_k0_t3 (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) : ℕ → List (View.Piece (Elt F) S224x1408 .f32)
  | 0 => []
  | k + 1 => pbOut_k0_t3Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k (pbOut_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k)

theorem pbOut_k0_t3_succ (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (k : Fin k0_t3_loop.trips) :
    pbOut_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 (k.val + 1)
      = (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 k
          (arg27.view.writes (Elt F) G_arg27 (pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k.val))).1.2
        ++ pbOut_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k.val := by
  rw [pbOut_k0_t3.eq_2]; unfold pbOut_k0_t3Step; exact dif_pos k.isLt

/-- THE INVARIANT before trip `k`: what is read at its contents, the strip and the result with the pieces of the trips
   before `k` written. -/
abbrev inv_k0_t3 (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (G_arg29 : BufTy.Contents (Elt F) arg29.view.ty) (k : ℕ) (_u : PUnit) : sProp 𝕄G :=
  iprop((arg1.view.loc (c : Thread nD τ) ↦[arg1.view.set]{fullShare} X_arg1) ∗ (arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg28.view.loc (c : Thread nD τ) ↦[arg28.view.set]{fullShare} X_arg28)
    ∗ (∃ f, (arg27.view.loc (c : Thread nD τ) ↦[arg27.view.set]{fullShare} f) ∗ ⌜f = arg27.view.writes (Elt F) G_arg27 (pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k)⌝)
    ∗ (∃ f, (arg29.view.loc (c : Thread nD τ) ↦[arg29.view.set]{fullShare} f) ∗ ⌜f = arg29.view.writes (Elt F) G_arg29 (pbOut_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k)⌝))

set_option warn.classDefReducibility false in
/-- THE LOOP BY ITS INVARIANT. -/
@[sl_loop] def loopInv_k0_t3 (𝒱 : Variants) (c : Dev nD) (bd : Option 𝒱.V) (E : Set ℕ) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (G_arg29 : BufTy.Contents (Elt F) arg29.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 where
  inv := inv_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 G_arg29
  step k acc := by
    iintro ⟨HR_arg1, HR_arg3, HR_arg6, HR_arg7, HR_arg28, ⟨%f_arg27, HW_arg27, %h_arg27⟩, ⟨%f_arg29, HW_arg29, %h_arg29⟩⟩
    iapply (wp_wand_r Idealize.ShloMosaic.frame (wpE (defs₀ (F := F)) 𝒱 (c : Thread nD τ) bd) E)
    isplitl [HR_arg1 HR_arg3 HR_arg6 HR_arg7 HR_arg28 HW_arg27 HW_arg29]
    · iapply ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 k f_arg27).2 E f_arg29)
      isplitl [HR_arg1]; · iexact HR_arg1
      isplitl [HR_arg3]; · iexact HR_arg3
      isplitl [HR_arg6]; · iexact HR_arg6
      isplitl [HR_arg7]; · iexact HR_arg7
      isplitl [HR_arg28]; · iexact HR_arg28
      isplitl [HW_arg27]; · iexact HW_arg27
      iexact HW_arg29
    · iintro %_ ⟨HR_arg1, HR_arg3, HR_arg6, HR_arg7, HR_arg28, HW_arg27, HW_arg29⟩
      isplitl [HR_arg1]; · iexact HR_arg1
      isplitl [HR_arg3]; · iexact HR_arg3
      isplitl [HR_arg6]; · iexact HR_arg6
      isplitl [HR_arg7]; · iexact HR_arg7
      isplitl [HR_arg28]; · iexact HR_arg28
      rw [pbStrip_k0_t3_succ, pbOut_k0_t3_succ]
      isplitl [HW_arg27]
      · iexists _; isplitl [HW_arg27]; · iexact HW_arg27
        ipureintro; rw [h_arg27, ← View.writes_append]
      · iexists _; isplitl [HW_arg29]; · iexact HW_arg29
        ipureintro; rw [h_arg27, h_arg29, ← View.writes_append]

end Cert.Kernel.Gen

end
-- ==== Proof.RunKernel.lean ====
/- The kernel's body run once, for `Cert.Kernel`, on any memory: the inputs end as they were, the outputs and the scratch buffers at
   some contents. The body's only branch asks whether the point is the first one. -/
module

public import proofs.«01_k».proof.Proof.ConvKernel
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body is handed and gives back: the inputs at `x·`, the outputs and the scratch buffers at some contents. -/
abbrev BodyRes (c : Dev nD)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (x0 : Vec F S1 .f32) (x1 : Vec F S1 .f32) (x2 : Vec F S1x14x16x1408 .i8) (x3 : Vec F S1x14x16x1408 .bf16) (x4 : Vec F S7x7x1408 .i8) (x5 : Vec F S1x1408 .f32) (x6 : Vec F S1x1408 .f32) (x7 : Vec F S1x1408 .f32) (x8 : Vec F S1x1408 .f32) (x9 : Vec F S704x5632 .i8) (x10 : Vec F S11x5632 .bf16) (x11 : Vec F S1x5632 .f32) (x12 : Vec F S1x5632 .f32) (x13 : Vec F S1x5632 .f32) (x14 : Vec F S2816x1408 .i8) (x15 : Vec F S44x1408 .bf16) (x16 : Vec F S1x1408 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d))

set_option maxHeartbeats 4000000 in
/-- The body at the first point. -/
theorem run_first (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (hc : k0_cond1 i = 1#1) (x0 : Vec F S1 .f32) (x1 : Vec F S1 .f32) (x2 : Vec F S1x14x16x1408 .i8) (x3 : Vec F S1x14x16x1408 .bf16) (x4 : Vec F S7x7x1408 .i8) (x5 : Vec F S1x1408 .f32) (x6 : Vec F S1x1408 .f32) (x7 : Vec F S1x1408 .f32) (x8 : Vec F S1x1408 .f32) (x9 : Vec F S704x5632 .i8) (x10 : Vec F S11x5632 .bf16) (x11 : Vec F S1x5632 .f32) (x12 : Vec F S1x5632 .f32) (x13 : Vec F S1x5632 .f32) (x14 : Vec F S2816x1408 .i8) (x15 : Vec F S44x1408 .bf16) (x16 : Vec F S1x1408 .f32) (E : Set ℕ) :
    BodyRes (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16
    ⊢ wp frame (wpE (defs₀ (F := F)) Variants.none c none) E (cc0_convnext_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33)
        (fun _ => BodyRes (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16) := by
  simp only [cc0_convnext_block_eq_skeleton]; unfold cc0_convnext_block_skel
  simp only [k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton]
  unfold BodyRes owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
  sl_exec (disch := first | sl_exact hc)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  iexists _, _; isplitr; swap; · iexact H32
  ipureintro; rfl

set_option maxHeartbeats 4000000 in
/-- The body at a later point. -/
theorem run_later (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (hc : ¬k0_cond1 i = 1#1) (x0 : Vec F S1 .f32) (x1 : Vec F S1 .f32) (x2 : Vec F S1x14x16x1408 .i8) (x3 : Vec F S1x14x16x1408 .bf16) (x4 : Vec F S7x7x1408 .i8) (x5 : Vec F S1x1408 .f32) (x6 : Vec F S1x1408 .f32) (x7 : Vec F S1x1408 .f32) (x8 : Vec F S1x1408 .f32) (x9 : Vec F S704x5632 .i8) (x10 : Vec F S11x5632 .bf16) (x11 : Vec F S1x5632 .f32) (x12 : Vec F S1x5632 .f32) (x13 : Vec F S1x5632 .f32) (x14 : Vec F S2816x1408 .i8) (x15 : Vec F S44x1408 .bf16) (x16 : Vec F S1x1408 .f32) (E : Set ℕ) :
    BodyRes (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16
    ⊢ wp frame (wpE (defs₀ (F := F)) Variants.none c none) E (cc0_convnext_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33)
        (fun _ => BodyRes (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16) := by
  simp only [cc0_convnext_block_eq_skeleton]; unfold cc0_convnext_block_skel
  simp only [k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton]
  unfold BodyRes owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
  sl_exec (disch := first | sl_exact hc)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  iexists _, _; isplitr; swap; · iexact H32
  ipureintro; rfl

end Cert.Kernel.Gen

end
-- ==== Proof.FrameKernel.lean ====
/- The frame of `Cert.Kernel`: the kernel terminates and leaves its arguments as they were, whatever the memory holds. Nothing is said of
   what the outputs and the scratch buffers hold. -/
module

public import proofs.«01_k».proof.Proof.RunKernel
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Scratch buffer 0, the body's argument 25. -/
abbrev scM0_0 := Memref.whole cc0_scratch0
/-- Scratch buffer 1, the body's argument 26. -/
abbrev scM0_1 := Memref.whole cc0_scratch1
/-- Scratch buffer 2, the body's argument 27. -/
abbrev scM0_2 := Memref.whole cc0_scratch2
/-- Scratch buffer 3, the body's argument 28. -/
abbrev scM0_3 := Memref.whole cc0_scratch3
/-- Scratch buffer 4, the body's argument 29. -/
abbrev scM0_4 := Memref.whole cc0_scratch4
/-- Scratch buffer 5, the body's argument 30. -/
abbrev scM0_5 := Memref.whole cc0_scratch5
/-- Scratch buffer 6, the body's argument 31. -/
abbrev scM0_6 := Memref.whole cc0_scratch6
/-- Scratch buffer 7, the body's argument 32. -/
abbrev scM0_7 := Memref.whole cc0_scratch7
/-- Scratch buffer 8, the body's argument 33. -/
abbrev scM0_8 := Memref.whole cc0_scratch8

/-- What a launch hands the region besides the windows: the scratch buffers and the generator, each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The arguments are unchanged after a run of the pipeline, for any relational proof data over the arrays' contents at entry. -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c),
      (Pipeline.RDat.FramePost.arr_in h c 3 rfl).trans ((hA c 3).trans (V_main_arg2 m c)),
      (Pipeline.RDat.FramePost.arr_in h c 4 rfl).trans ((hA c 4).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 9 rfl).trans ((hA c 9).trans (V_main_arg8 m c)),
      (Pipeline.RDat.FramePost.arr_in h c 10 rfl).trans ((hA c 10).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      (Pipeline.RDat.FramePost.arr_in h c 14 rfl).trans ((hA c 14).trans (V_main_arg13 m c)),
      (Pipeline.RDat.FramePost.arr_in h c 15 rfl).trans ((hA c 15).trans (V_main_arg14 m c)),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-- The body at any point, whatever the buffers hold: the inputs come back as they were. -/
theorem frame_body (c : Dev nD) (t : Fin cfg0.N) (R : sProp 𝕄)
    (Y : (w : Fin 24) → (cfg0.win w).block.Idx → Elt F (cfg0.win w).elt) :
    iprop(Pipeline.ΦA spec0 c ∗ R ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22) ∗ owns (c : Thread nD τ) (st0_23 t) fullShare (Y 23))
      ⊢ wp frame (wpE defs₀ Variants.none c none) Set.univ (bodyAt0 t) (fun _ =>
        iprop(Pipeline.ΦA spec0 c ∗ R ∗ (∃ X, ⌜0 < 17 → Y 0 = X⌝ ∗ owns (c : Thread nD τ) (st0_0 t) fullShare X) ∗ (∃ X, ⌜1 < 17 → Y 1 = X⌝ ∗ owns (c : Thread nD τ) (st0_1 t) fullShare X) ∗ (∃ X, ⌜2 < 17 → Y 2 = X⌝ ∗ owns (c : Thread nD τ) (st0_2 t) fullShare X) ∗ (∃ X, ⌜3 < 17 → Y 3 = X⌝ ∗ owns (c : Thread nD τ) (st0_3 t) fullShare X) ∗ (∃ X, ⌜4 < 17 → Y 4 = X⌝ ∗ owns (c : Thread nD τ) (st0_4 t) fullShare X) ∗ (∃ X, ⌜5 < 17 → Y 5 = X⌝ ∗ owns (c : Thread nD τ) (st0_5 t) fullShare X) ∗ (∃ X, ⌜6 < 17 → Y 6 = X⌝ ∗ owns (c : Thread nD τ) (st0_6 t) fullShare X) ∗ (∃ X, ⌜7 < 17 → Y 7 = X⌝ ∗ owns (c : Thread nD τ) (st0_7 t) fullShare X) ∗ (∃ X, ⌜8 < 17 → Y 8 = X⌝ ∗ owns (c : Thread nD τ) (st0_8 t) fullShare X) ∗ (∃ X, ⌜9 < 17 → Y 9 = X⌝ ∗ owns (c : Thread nD τ) (st0_9 t) fullShare X) ∗ (∃ X, ⌜10 < 17 → Y 10 = X⌝ ∗ owns (c : Thread nD τ) (st0_10 t) fullShare X) ∗ (∃ X, ⌜11 < 17 → Y 11 = X⌝ ∗ owns (c : Thread nD τ) (st0_11 t) fullShare X) ∗ (∃ X, ⌜12 < 17 → Y 12 = X⌝ ∗ owns (c : Thread nD τ) (st0_12 t) fullShare X) ∗ (∃ X, ⌜13 < 17 → Y 13 = X⌝ ∗ owns (c : Thread nD τ) (st0_13 t) fullShare X) ∗ (∃ X, ⌜14 < 17 → Y 14 = X⌝ ∗ owns (c : Thread nD τ) (st0_14 t) fullShare X) ∗ (∃ X, ⌜15 < 17 → Y 15 = X⌝ ∗ owns (c : Thread nD τ) (st0_15 t) fullShare X) ∗ (∃ X, ⌜16 < 17 → Y 16 = X⌝ ∗ owns (c : Thread nD τ) (st0_16 t) fullShare X) ∗ (∃ X, ⌜17 < 17 → Y 17 = X⌝ ∗ owns (c : Thread nD τ) (st0_17 t) fullShare X) ∗ (∃ X, ⌜18 < 17 → Y 18 = X⌝ ∗ owns (c : Thread nD τ) (st0_18 t) fullShare X) ∗ (∃ X, ⌜19 < 17 → Y 19 = X⌝ ∗ owns (c : Thread nD τ) (st0_19 t) fullShare X) ∗ (∃ X, ⌜20 < 17 → Y 20 = X⌝ ∗ owns (c : Thread nD τ) (st0_20 t) fullShare X) ∗ (∃ X, ⌜21 < 17 → Y 21 = X⌝ ∗ owns (c : Thread nD τ) (st0_21 t) fullShare X) ∗ (∃ X, ⌜22 < 17 → Y 22 = X⌝ ∗ owns (c : Thread nD τ) (st0_22 t) fullShare X) ∗ (∃ X, ⌜23 < 17 → Y 23 = X⌝ ∗ owns (c : Thread nD τ) (st0_23 t) fullShare X))) := by
  rw [PhiA0_eq]
  have hrun : BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16)
      ⊢ wp frame (wpE defs₀ Variants.none c none) Set.univ (bodyAt0 t) (fun _ => BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16)) := by
    by_cases hc : k0_cond1 (grid0.coords t) = 1#1
    · exact run_first c _ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) hc (Y 0) (Y 1) (Y 2) (Y 3) (Y 4) (Y 5) (Y 6) (Y 7) (Y 8) (Y 9) (Y 10) (Y 11) (Y 12) (Y 13) (Y 14) (Y 15) (Y 16) _
    · exact run_later c _ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) hc (Y 0) (Y 1) (Y 2) (Y 3) (Y 4) (Y 5) (Y 6) (Y 7) (Y 8) (Y 9) (Y 10) (Y 11) (Y 12) (Y 13) (Y 14) (Y 15) (Y 16) _
  have hfr : iprop(BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) ∗ ((∃ r, prngReg c r) ∗ R))
      ⊢ wp frame (wpE defs₀ Variants.none c none) Set.univ (bodyAt0 t) (fun _ => iprop(BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) ∗ ((∃ r, prngReg c r) ∗ R))) :=
    (BI.sep_mono_l hrun).trans (Idealize.SL.Sem.wp_frame_r _ _ _)
  have hpre : iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) ∗ R ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22) ∗ owns (c : Thread nD τ) (st0_23 t) fullShare (Y 23))
      ⊢ iprop(BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) ∗ ((∃ r, prngReg c r) ∗ R)) := by
    unfold BodyRes
    iintro ⟨⟨⟨S0, S1, S2, S3, S4, S5, S6, S7, S8⟩, Hg⟩, HR, H0, H1, H2, H3, H4, H5, H6, H7, H8, H9, H10, H11, H12, H13, H14, H15, H16, H17, H18, H19, H20, H21, H22, H23⟩
    isplitr [Hg HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [Hg]; · iexact Hg
    iexact HR
  have hpost : iprop(BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) ∗ ((∃ r, prngReg c r) ∗ R))
      ⊢ iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) ∗ R ∗ (∃ X, ⌜0 < 17 → Y 0 = X⌝ ∗ owns (c : Thread nD τ) (st0_0 t) fullShare X) ∗ (∃ X, ⌜1 < 17 → Y 1 = X⌝ ∗ owns (c : Thread nD τ) (st0_1 t) fullShare X) ∗ (∃ X, ⌜2 < 17 → Y 2 = X⌝ ∗ owns (c : Thread nD τ) (st0_2 t) fullShare X) ∗ (∃ X, ⌜3 < 17 → Y 3 = X⌝ ∗ owns (c : Thread nD τ) (st0_3 t) fullShare X) ∗ (∃ X, ⌜4 < 17 → Y 4 = X⌝ ∗ owns (c : Thread nD τ) (st0_4 t) fullShare X) ∗ (∃ X, ⌜5 < 17 → Y 5 = X⌝ ∗ owns (c : Thread nD τ) (st0_5 t) fullShare X) ∗ (∃ X, ⌜6 < 17 → Y 6 = X⌝ ∗ owns (c : Thread nD τ) (st0_6 t) fullShare X) ∗ (∃ X, ⌜7 < 17 → Y 7 = X⌝ ∗ owns (c : Thread nD τ) (st0_7 t) fullShare X) ∗ (∃ X, ⌜8 < 17 → Y 8 = X⌝ ∗ owns (c : Thread nD τ) (st0_8 t) fullShare X) ∗ (∃ X, ⌜9 < 17 → Y 9 = X⌝ ∗ owns (c : Thread nD τ) (st0_9 t) fullShare X) ∗ (∃ X, ⌜10 < 17 → Y 10 = X⌝ ∗ owns (c : Thread nD τ) (st0_10 t) fullShare X) ∗ (∃ X, ⌜11 < 17 → Y 11 = X⌝ ∗ owns (c : Thread nD τ) (st0_11 t) fullShare X) ∗ (∃ X, ⌜12 < 17 → Y 12 = X⌝ ∗ owns (c : Thread nD τ) (st0_12 t) fullShare X) ∗ (∃ X, ⌜13 < 17 → Y 13 = X⌝ ∗ owns (c : Thread nD τ) (st0_13 t) fullShare X) ∗ (∃ X, ⌜14 < 17 → Y 14 = X⌝ ∗ owns (c : Thread nD τ) (st0_14 t) fullShare X) ∗ (∃ X, ⌜15 < 17 → Y 15 = X⌝ ∗ owns (c : Thread nD τ) (st0_15 t) fullShare X) ∗ (∃ X, ⌜16 < 17 → Y 16 = X⌝ ∗ owns (c : Thread nD τ) (st0_16 t) fullShare X) ∗ (∃ X, ⌜17 < 17 → Y 17 = X⌝ ∗ owns (c : Thread nD τ) (st0_17 t) fullShare X) ∗ (∃ X, ⌜18 < 17 → Y 18 = X⌝ ∗ owns (c : Thread nD τ) (st0_18 t) fullShare X) ∗ (∃ X, ⌜19 < 17 → Y 19 = X⌝ ∗ owns (c : Thread nD τ) (st0_19 t) fullShare X) ∗ (∃ X, ⌜20 < 17 → Y 20 = X⌝ ∗ owns (c : Thread nD τ) (st0_20 t) fullShare X) ∗ (∃ X, ⌜21 < 17 → Y 21 = X⌝ ∗ owns (c : Thread nD τ) (st0_21 t) fullShare X) ∗ (∃ X, ⌜22 < 17 → Y 22 = X⌝ ∗ owns (c : Thread nD τ) (st0_22 t) fullShare X) ∗ (∃ X, ⌜23 < 17 → Y 23 = X⌝ ∗ owns (c : Thread nD τ) (st0_23 t) fullShare X)) := by
    unfold BodyRes
    iintro ⟨⟨H0, H1, H2, H3, H4, H5, H6, H7, H8, H9, H10, H11, H12, H13, H14, H15, H16, H17, H18, H19, H20, H21, H22, H23, S0, S1, S2, S3, S4, S5, S6, S7, S8⟩, Hg, HR⟩
    isplitl [S0 S1 S2 S3 S4 S5 S6 S7 S8 Hg]
    · isplitl [S0 S1 S2 S3 S4 S5 S6 S7 S8]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      iexact Hg
    isplitl [HR]; · iexact HR
    isplitl [H0]; · iexists _; isplitr; (· ipureintro; exact fun _ => rfl); iexact H0
    isplitl [H1]; · iexists _; isplitr; (· ipureintro; exact fun _ => rfl); iexact H1
    isplitl [H2]; · iexists _; isplitr; (· ipureintro; exact fun _ => rfl); iexact H2
    isplitl [H3]; · iexists _; isplitr; (· ipureintro; exact fun _ => rfl); iexact H3
    isplitl [H4]; · iexists _; isplitr; (· ipureintro; exact fun _ => rfl); iexact H4
    isplitl [H5]; · iexists _; isplitr; (· ipureintro; exact fun _ => rfl); iexact H5
    isplitl [H6]; · iexists _; isplitr; (· ipureintro; exact fun _ => rfl); iexact H6
    isplitl [H7]; · iexists _; isplitr; (· ipureintro; exact fun _ => rfl); iexact H7
    isplitl [H8]; · iexists _; isplitr; (· ipureintro; exact fun _ => rfl); iexact H8
    isplitl [H9]; · iexists _; isplitr; (· ipureintro; exact fun _ => rfl); iexact H9
    isplitl [H10]; · iexists _; isplitr; (· ipureintro; exact fun _ => rfl); iexact H10
    isplitl [H11]; · iexists _; isplitr; (· ipureintro; exact fun _ => rfl); iexact H11
    isplitl [H12]; · iexists _; isplitr; (· ipureintro; exact fun _ => rfl); iexact H12
    isplitl [H13]; · iexists _; isplitr; (· ipureintro; exact fun _ => rfl); iexact H13
    isplitl [H14]; · iexists _; isplitr; (· ipureintro; exact fun _ => rfl); iexact H14
    isplitl [H15]; · iexists _; isplitr; (· ipureintro; exact fun _ => rfl); iexact H15
    isplitl [H16]; · iexists _; isplitr; (· ipureintro; exact fun _ => rfl); iexact H16
    isplitl [H17]; · icases H17 with ⟨%d, H17⟩; iexists d; isplitr; (· ipureintro; intro h; omega); iexact H17
    isplitl [H18]; · icases H18 with ⟨%d, H18⟩; iexists d; isplitr; (· ipureintro; intro h; omega); iexact H18
    isplitl [H19]; · icases H19 with ⟨%d, H19⟩; iexists d; isplitr; (· ipureintro; intro h; omega); iexact H19
    isplitl [H20]; · icases H20 with ⟨%d, H20⟩; iexists d; isplitr; (· ipureintro; intro h; omega); iexact H20
    isplitl [H21]; · icases H21 with ⟨%d, H21⟩; iexists d; isplitr; (· ipureintro; intro h; omega); iexact H21
    isplitl [H22]; · icases H22 with ⟨%d, H22⟩; iexists d; isplitr; (· ipureintro; intro h; omega); iexact H22
    icases H23 with ⟨%d, H23⟩; iexists d; isplitr; (· ipureintro; intro h; omega); iexact H23
  exact hpre.trans (hfr.trans (Idealize.SL.Sem.wp_mono _ _ _ (fun _ => hpost)))

/-- The proof data: an input window is left as found, an output window at anything, the scratch buffers hold anything. -/
def rdat (c : Dev nD) : RDat τ (Elt F) Unit ℕ (UR sig nD τ) ℕ (cfgs 0) c where
  A w := V m c (Pipeline.arrRef spec0 w)
  after w _ Y X := w.val < 17 → Y = X
  Φ _ := Pipeline.ΦA spec0 c
  q _ := fullShare
  owed _ := 0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : (rdat (F := F) m c).BodyObligation (defs₀ (F := F)) Variants.none () Set.univ := fun t Y _ => by
  rw [bigSep_W0, bigSep_W0, defs₀_row]
  exact triple_restated (frame_body c t _ Y) rfl .rfl fun _ => .rfl

set_option backward.isDefEq.respectTransparency.types false in
/-- The run: the pipeline ends, its inputs as they were, every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The kernel ends, its arguments as they were, every semaphore counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) ∧ r.2.sem = fun _ => 0) :=
  θ_run_and (rframe_of m ρ (rdat m) (fun _ _ => rfl) ((θ_run defs _ _).mono (fun _ h => h.1) (run_main_quiescent m ρ)))
    ((θ_run defs _ _).mono (fun _ h => h.2) (run_main_quiescent m ρ))

end Cert.Kernel.Gen
-- ==== Proof.ConvKernelIdeal.lean ====
/- The depthwise convolution's loop over the channel blocks, for `Cert.KernelIdeal`: an outer loop of eleven trips with a loop of two
   trips inside. One trip copies a block of 128 channels of the image into the zero-bordered strip and convolves it, sixteen pixels
   by sixteen. The generated kit leaves the outer loop's invariant to be stated by hand: here it is, with the contents of the two
   buffers a trip writes (the strip, the convolution's result) given by recursion over the trips. -/
module

public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra the generated invariants are stated at. -/
local notation "𝕄G" => MT nD τ sig Unit (Elt F) ℕ (UR sig nD τ) ℕ

/-- What one trip touches: the image's scale, the image, the channel scales, the biases and the taps, which it reads, and the strip
    (`arg27`) and the result (`arg29`), which it writes. -/
abbrev Trip_k0_t3 (c : Dev nD) (arg1 : Memref sig .tc .smem S1 .f32) (arg3 : Memref sig .tc .vmem S1x14x16x1408 .i8) (arg6 : Memref sig .tc .vmem S1x1408 .f32) (arg7 : Memref sig .tc .vmem S1x1408 .f32) (arg28 : Memref sig .tc .vmem S7x7x1408 .f32) (arg27 : Memref sig .tc .vmem S14x32x128 .f32) (arg29 : Memref sig .tc .vmem S224x1408 .f32)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (f_arg27 : BufTy.Contents (Elt F) arg27.view.ty) (f_arg29 : BufTy.Contents (Elt F) arg29.view.ty) : sProp 𝕄G :=
  iprop((arg1.view.loc (c : Thread nD τ) ↦[arg1.view.set]{fullShare} X_arg1) ∗ (arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg28.view.loc (c : Thread nD τ) ↦[arg28.view.set]{fullShare} X_arg28)
    ∗ (arg27.view.loc (c : Thread nD τ) ↦[arg27.view.set]{fullShare} f_arg27) ∗ (arg29.view.loc (c : Thread nD τ) ↦[arg29.view.set]{fullShare} f_arg29))

/-- ONE TRIP at a symbolic `k`: the pieces it writes into the strip and into the result, found by running it. The result's pieces
    depend on what the strip held, whose border the trip does not write. -/
@[irreducible] def trip_k0_t3 (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (k : Fin k0_t3_loop.trips) (f_arg27 : BufTy.Contents (Elt F) arg27.view.ty) :
    { L : List (View.Piece (Elt F) S14x32x128 .f32) × List (View.Piece (Elt F) S224x1408 .f32) //
      ∀ (E : Set ℕ) (f_arg29 : BufTy.Contents (Elt F) arg29.view.ty),
      Trip_k0_t3 (F := F) c arg1 arg3 arg6 arg7 arg28 arg27 arg29 X_arg1 X_arg3 X_arg6 X_arg7 X_arg28 f_arg27 f_arg29
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 k PUnit.unit)
          (fun _ => Trip_k0_t3 (F := F) c arg1 arg3 arg6 arg7 arg28 arg27 arg29 X_arg1 X_arg3 X_arg6 X_arg7 X_arg28 (arg27.view.writes (Elt F) f_arg27 L.1)
            (arg29.view.writes (Elt F) f_arg29 L.2)) } := by
  have hk : k.val < 11 := Nat.lt_of_lt_of_le k.isLt k0_t3_abs.2.1
  refine ⟨(?_, ?_), fun E f_arg29 => ?run⟩
  case run =>
    unfold k0_t3_body
    iintro ⟨HR_arg1, HR_arg3, HR_arg6, HR_arg7, HR_arg28, HW_arg27, HW_arg29⟩
    sl_exec
    sl_step
    sl_close

/-- Trip `k`'s pieces for the strip put in front of the pieces `prev` of the trips before it. -/
@[irreducible] def pbStrip_k0_t3Step (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (k : ℕ) (prev : List (View.Piece (Elt F) S14x32x128 .f32)) :
    List (View.Piece (Elt F) S14x32x128 .f32) :=
  if h : k < k0_t3_loop.trips then
    (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 ⟨k, h⟩ (arg27.view.writes (Elt F) G_arg27 prev)).1.1 ++ prev
  else prev

/-- The pieces written into the strip by the trips before `k`, last first. -/
def pbStrip_k0_t3 (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) : ℕ → List (View.Piece (Elt F) S14x32x128 .f32)
  | 0 => []
  | k + 1 => pbStrip_k0_t3Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k (pbStrip_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k)

theorem pbStrip_k0_t3_succ (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (k : Fin k0_t3_loop.trips) :
    pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 (k.val + 1)
      = (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 k
          (arg27.view.writes (Elt F) G_arg27 (pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k.val))).1.1
        ++ pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k.val := by
  rw [pbStrip_k0_t3.eq_2]; unfold pbStrip_k0_t3Step; exact dif_pos k.isLt

/-- Trip `k`'s pieces for the result put in front of the pieces `prev` of the trips before it. -/
@[irreducible] def pbOut_k0_t3Step (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (k : ℕ) (prev : List (View.Piece (Elt F) S224x1408 .f32)) :
    List (View.Piece (Elt F) S224x1408 .f32) :=
  if h : k < k0_t3_loop.trips then
    (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 ⟨k, h⟩
      (arg27.view.writes (Elt F) G_arg27 (pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k))).1.2 ++ prev
  else prev

/-- The pieces written into the convolution's result by the trips before `k`, last first. -/
def pbOut_k0_t3 (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) : ℕ → List (View.Piece (Elt F) S224x1408 .f32)
  | 0 => []
  | k + 1 => pbOut_k0_t3Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k (pbOut_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k)

theorem pbOut_k0_t3_succ (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (k : Fin k0_t3_loop.trips) :
    pbOut_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 (k.val + 1)
      = (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 k
          (arg27.view.writes (Elt F) G_arg27 (pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k.val))).1.2
        ++ pbOut_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k.val := by
  rw [pbOut_k0_t3.eq_2]; unfold pbOut_k0_t3Step; exact dif_pos k.isLt

/-- THE INVARIANT before trip `k`: what is read at its contents, the strip and the result with the pieces of the trips
   before `k` written. -/
abbrev inv_k0_t3 (𝒱 : Variants) (c : Dev nD) (bd : Option 𝒱.V) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (G_arg29 : BufTy.Contents (Elt F) arg29.view.ty) (k : ℕ) (_u : PUnit) : sProp 𝕄G :=
  iprop((arg1.view.loc (c : Thread nD τ) ↦[arg1.view.set]{fullShare} X_arg1) ∗ (arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg28.view.loc (c : Thread nD τ) ↦[arg28.view.set]{fullShare} X_arg28)
    ∗ (∃ f, (arg27.view.loc (c : Thread nD τ) ↦[arg27.view.set]{fullShare} f) ∗ ⌜f = arg27.view.writes (Elt F) G_arg27 (pbStrip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k)⌝)
    ∗ (∃ f, (arg29.view.loc (c : Thread nD τ) ↦[arg29.view.set]{fullShare} f) ∗ ⌜f = arg29.view.writes (Elt F) G_arg29 (pbOut_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 k)⌝))

set_option warn.classDefReducibility false in
/-- THE LOOP BY ITS INVARIANT. -/
@[sl_loop] def loopInv_k0_t3 (𝒱 : Variants) (c : Dev nD) (bd : Option 𝒱.V) (E : Set ℕ) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (X_arg1 : BufTy.Contents (Elt F) arg1.view.ty) (X_arg3 : BufTy.Contents (Elt F) arg3.view.ty) (X_arg6 : BufTy.Contents (Elt F) arg6.view.ty) (X_arg7 : BufTy.Contents (Elt F) arg7.view.ty) (X_arg28 : BufTy.Contents (Elt F) arg28.view.ty)
    (G_arg27 : BufTy.Contents (Elt F) arg27.view.ty) (G_arg29 : BufTy.Contents (Elt F) arg29.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 where
  inv := inv_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 G_arg27 G_arg29
  step k acc := by
    iintro ⟨HR_arg1, HR_arg3, HR_arg6, HR_arg7, HR_arg28, ⟨%f_arg27, HW_arg27, %h_arg27⟩, ⟨%f_arg29, HW_arg29, %h_arg29⟩⟩
    iapply (wp_wand_r Idealize.ShloMosaic.frame (wpE (defs₀ (F := F)) 𝒱 (c : Thread nD τ) bd) E)
    isplitl [HR_arg1 HR_arg3 HR_arg6 HR_arg7 HR_arg28 HW_arg27 HW_arg29]
    · iapply ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X_arg1 X_arg3 X_arg6 X_arg7 X_arg28 k f_arg27).2 E f_arg29)
      isplitl [HR_arg1]; · iexact HR_arg1
      isplitl [HR_arg3]; · iexact HR_arg3
      isplitl [HR_arg6]; · iexact HR_arg6
      isplitl [HR_arg7]; · iexact HR_arg7
      isplitl [HR_arg28]; · iexact HR_arg28
      isplitl [HW_arg27]; · iexact HW_arg27
      iexact HW_arg29
    · iintro %_ ⟨HR_arg1, HR_arg3, HR_arg6, HR_arg7, HR_arg28, HW_arg27, HW_arg29⟩
      isplitl [HR_arg1]; · iexact HR_arg1
      isplitl [HR_arg3]; · iexact HR_arg3
      isplitl [HR_arg6]; · iexact HR_arg6
      isplitl [HR_arg7]; · iexact HR_arg7
      isplitl [HR_arg28]; · iexact HR_arg28
      rw [pbStrip_k0_t3_succ, pbOut_k0_t3_succ]
      isplitl [HW_arg27]
      · iexists _; isplitl [HW_arg27]; · iexact HW_arg27
        ipureintro; rw [h_arg27, ← View.writes_append]
      · iexists _; isplitl [HW_arg29]; · iexact HW_arg29
        ipureintro; rw [h_arg27, h_arg29, ← View.writes_append]

end Cert.KernelIdeal.Gen

end
-- ==== Proof.RunKernelIdeal.lean ====
/- The kernel's body run once, for `Cert.KernelIdeal`, on any memory: the inputs end as they were, the outputs and the scratch buffers at
   some contents. The body's only branch asks whether the point is the first one. -/
module

public import proofs.«01_k».proof.Proof.ConvKernelIdeal
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the body is handed and gives back: the inputs at `x·`, the outputs and the scratch buffers at some contents. -/
abbrev BodyRes (c : Dev nD)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (x0 : Vec F S1 .f32) (x1 : Vec F S1 .f32) (x2 : Vec F S1x14x16x1408 .i8) (x3 : Vec F S1x14x16x1408 .bf16) (x4 : Vec F S7x7x1408 .i8) (x5 : Vec F S1x1408 .f32) (x6 : Vec F S1x1408 .f32) (x7 : Vec F S1x1408 .f32) (x8 : Vec F S1x1408 .f32) (x9 : Vec F S704x5632 .i8) (x10 : Vec F S11x5632 .bf16) (x11 : Vec F S1x5632 .f32) (x12 : Vec F S1x5632 .f32) (x13 : Vec F S1x5632 .f32) (x14 : Vec F S2816x1408 .i8) (x15 : Vec F S44x1408 .bf16) (x16 : Vec F S1x1408 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d))

set_option maxHeartbeats 4000000 in
/-- The body at the first point. -/
theorem run_first (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (hc : k0_cond1 i = 1#1) (x0 : Vec F S1 .f32) (x1 : Vec F S1 .f32) (x2 : Vec F S1x14x16x1408 .i8) (x3 : Vec F S1x14x16x1408 .bf16) (x4 : Vec F S7x7x1408 .i8) (x5 : Vec F S1x1408 .f32) (x6 : Vec F S1x1408 .f32) (x7 : Vec F S1x1408 .f32) (x8 : Vec F S1x1408 .f32) (x9 : Vec F S704x5632 .i8) (x10 : Vec F S11x5632 .bf16) (x11 : Vec F S1x5632 .f32) (x12 : Vec F S1x5632 .f32) (x13 : Vec F S1x5632 .f32) (x14 : Vec F S2816x1408 .i8) (x15 : Vec F S44x1408 .bf16) (x16 : Vec F S1x1408 .f32) (E : Set ℕ) :
    BodyRes (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16
    ⊢ wp frame (wpE (defs₀ (F := F)) Variants.none c none) E (cc0_convnext_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33)
        (fun _ => BodyRes (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16) := by
  simp only [cc0_convnext_block_eq_skeleton]; unfold cc0_convnext_block_skel
  simp only [k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton]
  unfold BodyRes owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
  sl_exec (disch := first | sl_exact hc)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  iexists _, _; isplitr; swap; · iexact H32
  ipureintro; rfl

set_option maxHeartbeats 4000000 in
/-- The body at a later point. -/
theorem run_later (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (hc : ¬k0_cond1 i = 1#1) (x0 : Vec F S1 .f32) (x1 : Vec F S1 .f32) (x2 : Vec F S1x14x16x1408 .i8) (x3 : Vec F S1x14x16x1408 .bf16) (x4 : Vec F S7x7x1408 .i8) (x5 : Vec F S1x1408 .f32) (x6 : Vec F S1x1408 .f32) (x7 : Vec F S1x1408 .f32) (x8 : Vec F S1x1408 .f32) (x9 : Vec F S704x5632 .i8) (x10 : Vec F S11x5632 .bf16) (x11 : Vec F S1x5632 .f32) (x12 : Vec F S1x5632 .f32) (x13 : Vec F S1x5632 .f32) (x14 : Vec F S2816x1408 .i8) (x15 : Vec F S44x1408 .bf16) (x16 : Vec F S1x1408 .f32) (E : Set ℕ) :
    BodyRes (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16
    ⊢ wp frame (wpE (defs₀ (F := F)) Variants.none c none) E (cc0_convnext_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33)
        (fun _ => BodyRes (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 x0 x1 x2 x3 x4 x5 x6 x7 x8 x9 x10 x11 x12 x13 x14 x15 x16) := by
  simp only [cc0_convnext_block_eq_skeleton]; unfold cc0_convnext_block_skel
  simp only [k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton]
  unfold BodyRes owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
  sl_exec (disch := first | sl_exact hc)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  isplitl [H27]
  · iexists _, _; isplitr; swap; · iexact H27
    ipureintro; rfl
  isplitl [H28]
  · iexists _, _; isplitr; swap; · iexact H28
    ipureintro; rfl
  isplitl [H29]
  · iexists _, _; isplitr; swap; · iexact H29
    ipureintro; rfl
  isplitl [H30]
  · iexists _, _; isplitr; swap; · iexact H30
    ipureintro; rfl
  isplitl [H31]
  · iexists _, _; isplitr; swap; · iexact H31
    ipureintro; rfl
  iexists _, _; isplitr; swap; · iexact H32
  ipureintro; rfl

end Cert.KernelIdeal.Gen

end
-- ==== Proof.FrameKernelIdeal.lean ====
/- The frame of `Cert.KernelIdeal`: the kernel terminates and leaves its arguments as they were, whatever the memory holds. Nothing is said of
   what the outputs and the scratch buffers hold. -/
module

public import proofs.«01_k».proof.Proof.RunKernelIdeal
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Scratch buffer 0, the body's argument 25. -/
abbrev scM0_0 := Memref.whole cc0_scratch0
/-- Scratch buffer 1, the body's argument 26. -/
abbrev scM0_1 := Memref.whole cc0_scratch1
/-- Scratch buffer 2, the body's argument 27. -/
abbrev scM0_2 := Memref.whole cc0_scratch2
/-- Scratch buffer 3, the body's argument 28. -/
abbrev scM0_3 := Memref.whole cc0_scratch3
/-- Scratch buffer 4, the body's argument 29. -/
abbrev scM0_4 := Memref.whole cc0_scratch4
/-- Scratch buffer 5, the body's argument 30. -/
abbrev scM0_5 := Memref.whole cc0_scratch5
/-- Scratch buffer 6, the body's argument 31. -/
abbrev scM0_6 := Memref.whole cc0_scratch6
/-- Scratch buffer 7, the body's argument 32. -/
abbrev scM0_7 := Memref.whole cc0_scratch7
/-- Scratch buffer 8, the body's argument 33. -/
abbrev scM0_8 := Memref.whole cc0_scratch8

/-- What a launch hands the region besides the windows: the scratch buffers and the generator, each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The arguments are unchanged after a run of the pipeline, for any relational proof data over the arrays' contents at entry. -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c),
      (Pipeline.RDat.FramePost.arr_in h c 3 rfl).trans ((hA c 3).trans (V_main_arg2 m c)),
      (Pipeline.RDat.FramePost.arr_in h c 4 rfl).trans ((hA c 4).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 9 rfl).trans ((hA c 9).trans (V_main_arg8 m c)),
      (Pipeline.RDat.FramePost.arr_in h c 10 rfl).trans ((hA c 10).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      (Pipeline.RDat.FramePost.arr_in h c 14 rfl).trans ((hA c 14).trans (V_main_arg13 m c)),
      (Pipeline.RDat.FramePost.arr_in h c 15 rfl).trans ((hA c 15).trans (V_main_arg14 m c)),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-- The body at any point, whatever the buffers hold: the inputs come back as they were. -/
theorem frame_body (c : Dev nD) (t : Fin cfg0.N) (R : sProp 𝕄)
    (Y : (w : Fin 24) → (cfg0.win w).block.Idx → Elt F (cfg0.win w).elt) :
    iprop(Pipeline.ΦA spec0 c ∗ R ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22) ∗ owns (c : Thread nD τ) (st0_23 t) fullShare (Y 23))
      ⊢ wp frame (wpE defs₀ Variants.none c none) Set.univ (bodyAt0 t) (fun _ =>
        iprop(Pipeline.ΦA spec0 c ∗ R ∗ (∃ X, ⌜0 < 17 → Y 0 = X⌝ ∗ owns (c : Thread nD τ) (st0_0 t) fullShare X) ∗ (∃ X, ⌜1 < 17 → Y 1 = X⌝ ∗ owns (c : Thread nD τ) (st0_1 t) fullShare X) ∗ (∃ X, ⌜2 < 17 → Y 2 = X⌝ ∗ owns (c : Thread nD τ) (st0_2 t) fullShare X) ∗ (∃ X, ⌜3 < 17 → Y 3 = X⌝ ∗ owns (c : Thread nD τ) (st0_3 t) fullShare X) ∗ (∃ X, ⌜4 < 17 → Y 4 = X⌝ ∗ owns (c : Thread nD τ) (st0_4 t) fullShare X) ∗ (∃ X, ⌜5 < 17 → Y 5 = X⌝ ∗ owns (c : Thread nD τ) (st0_5 t) fullShare X) ∗ (∃ X, ⌜6 < 17 → Y 6 = X⌝ ∗ owns (c : Thread nD τ) (st0_6 t) fullShare X) ∗ (∃ X, ⌜7 < 17 → Y 7 = X⌝ ∗ owns (c : Thread nD τ) (st0_7 t) fullShare X) ∗ (∃ X, ⌜8 < 17 → Y 8 = X⌝ ∗ owns (c : Thread nD τ) (st0_8 t) fullShare X) ∗ (∃ X, ⌜9 < 17 → Y 9 = X⌝ ∗ owns (c : Thread nD τ) (st0_9 t) fullShare X) ∗ (∃ X, ⌜10 < 17 → Y 10 = X⌝ ∗ owns (c : Thread nD τ) (st0_10 t) fullShare X) ∗ (∃ X, ⌜11 < 17 → Y 11 = X⌝ ∗ owns (c : Thread nD τ) (st0_11 t) fullShare X) ∗ (∃ X, ⌜12 < 17 → Y 12 = X⌝ ∗ owns (c : Thread nD τ) (st0_12 t) fullShare X) ∗ (∃ X, ⌜13 < 17 → Y 13 = X⌝ ∗ owns (c : Thread nD τ) (st0_13 t) fullShare X) ∗ (∃ X, ⌜14 < 17 → Y 14 = X⌝ ∗ owns (c : Thread nD τ) (st0_14 t) fullShare X) ∗ (∃ X, ⌜15 < 17 → Y 15 = X⌝ ∗ owns (c : Thread nD τ) (st0_15 t) fullShare X) ∗ (∃ X, ⌜16 < 17 → Y 16 = X⌝ ∗ owns (c : Thread nD τ) (st0_16 t) fullShare X) ∗ (∃ X, ⌜17 < 17 → Y 17 = X⌝ ∗ owns (c : Thread nD τ) (st0_17 t) fullShare X) ∗ (∃ X, ⌜18 < 17 → Y 18 = X⌝ ∗ owns (c : Thread nD τ) (st0_18 t) fullShare X) ∗ (∃ X, ⌜19 < 17 → Y 19 = X⌝ ∗ owns (c : Thread nD τ) (st0_19 t) fullShare X) ∗ (∃ X, ⌜20 < 17 → Y 20 = X⌝ ∗ owns (c : Thread nD τ) (st0_20 t) fullShare X) ∗ (∃ X, ⌜21 < 17 → Y 21 = X⌝ ∗ owns (c : Thread nD τ) (st0_21 t) fullShare X) ∗ (∃ X, ⌜22 < 17 → Y 22 = X⌝ ∗ owns (c : Thread nD τ) (st0_22 t) fullShare X) ∗ (∃ X, ⌜23 < 17 → Y 23 = X⌝ ∗ owns (c : Thread nD τ) (st0_23 t) fullShare X))) := by
  rw [PhiA0_eq]
  have hrun : BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16)
      ⊢ wp frame (wpE defs₀ Variants.none c none) Set.univ (bodyAt0 t) (fun _ => BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16)) := by
    by_cases hc : k0_cond1 (grid0.coords t) = 1#1
    · exact run_first c _ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) hc (Y 0) (Y 1) (Y 2) (Y 3) (Y 4) (Y 5) (Y 6) (Y 7) (Y 8) (Y 9) (Y 10) (Y 11) (Y 12) (Y 13) (Y 14) (Y 15) (Y 16) _
    · exact run_later c _ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) hc (Y 0) (Y 1) (Y 2) (Y 3) (Y 4) (Y 5) (Y 6) (Y 7) (Y 8) (Y 9) (Y 10) (Y 11) (Y 12) (Y 13) (Y 14) (Y 15) (Y 16) _
  have hfr : iprop(BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) ∗ ((∃ r, prngReg c r) ∗ R))
      ⊢ wp frame (wpE defs₀ Variants.none c none) Set.univ (bodyAt0 t) (fun _ => iprop(BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) ∗ ((∃ r, prngReg c r) ∗ R))) :=
    (BI.sep_mono_l hrun).trans (Idealize.SL.Sem.wp_frame_r _ _ _)
  have hpre : iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) ∗ R ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15) ∗ owns (c : Thread nD τ) (st0_16 t) fullShare (Y 16) ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22) ∗ owns (c : Thread nD τ) (st0_23 t) fullShare (Y 23))
      ⊢ iprop(BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) ∗ ((∃ r, prngReg c r) ∗ R)) := by
    unfold BodyRes
    iintro ⟨⟨⟨S0, S1, S2, S3, S4, S5, S6, S7, S8⟩, Hg⟩, HR, H0, H1, H2, H3, H4, H5, H6, H7, H8, H9, H10, H11, H12, H13, H14, H15, H16, H17, H18, H19, H20, H21, H22, H23⟩
    isplitr [Hg HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [Hg]; · iexact Hg
    iexact HR
  have hpost : iprop(BodyRes c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) ∗ ((∃ r, prngReg c r) ∗ R))
      ⊢ iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) ∗ R ∗ (∃ X, ⌜0 < 17 → Y 0 = X⌝ ∗ owns (c : Thread nD τ) (st0_0 t) fullShare X) ∗ (∃ X, ⌜1 < 17 → Y 1 = X⌝ ∗ owns (c : Thread nD τ) (st0_1 t) fullShare X) ∗ (∃ X, ⌜2 < 17 → Y 2 = X⌝ ∗ owns (c : Thread nD τ) (st0_2 t) fullShare X) ∗ (∃ X, ⌜3 < 17 → Y 3 = X⌝ ∗ owns (c : Thread nD τ) (st0_3 t) fullShare X) ∗ (∃ X, ⌜4 < 17 → Y 4 = X⌝ ∗ owns (c : Thread nD τ) (st0_4 t) fullShare X) ∗ (∃ X, ⌜5 < 17 → Y 5 = X⌝ ∗ owns (c : Thread nD τ) (st0_5 t) fullShare X) ∗ (∃ X, ⌜6 < 17 → Y 6 = X⌝ ∗ owns (c : Thread nD τ) (st0_6 t) fullShare X) ∗ (∃ X, ⌜7 < 17 → Y 7 = X⌝ ∗ owns (c : Thread nD τ) (st0_7 t) fullShare X) ∗ (∃ X, ⌜8 < 17 → Y 8 = X⌝ ∗ owns (c : Thread nD τ) (st0_8 t) fullShare X) ∗ (∃ X, ⌜9 < 17 → Y 9 = X⌝ ∗ owns (c : Thread nD τ) (st0_9 t) fullShare X) ∗ (∃ X, ⌜10 < 17 → Y 10 = X⌝ ∗ owns (c : Thread nD τ) (st0_10 t) fullShare X) ∗ (∃ X, ⌜11 < 17 → Y 11 = X⌝ ∗ owns (c : Thread nD τ) (st0_11 t) fullShare X) ∗ (∃ X, ⌜12 < 17 → Y 12 = X⌝ ∗ owns (c : Thread nD τ) (st0_12 t) fullShare X) ∗ (∃ X, ⌜13 < 17 → Y 13 = X⌝ ∗ owns (c : Thread nD τ) (st0_13 t) fullShare X) ∗ (∃ X, ⌜14 < 17 → Y 14 = X⌝ ∗ owns (c : Thread nD τ) (st0_14 t) fullShare X) ∗ (∃ X, ⌜15 < 17 → Y 15 = X⌝ ∗ owns (c : Thread nD τ) (st0_15 t) fullShare X) ∗ (∃ X, ⌜16 < 17 → Y 16 = X⌝ ∗ owns (c : Thread nD τ) (st0_16 t) fullShare X) ∗ (∃ X, ⌜17 < 17 → Y 17 = X⌝ ∗ owns (c : Thread nD τ) (st0_17 t) fullShare X) ∗ (∃ X, ⌜18 < 17 → Y 18 = X⌝ ∗ owns (c : Thread nD τ) (st0_18 t) fullShare X) ∗ (∃ X, ⌜19 < 17 → Y 19 = X⌝ ∗ owns (c : Thread nD τ) (st0_19 t) fullShare X) ∗ (∃ X, ⌜20 < 17 → Y 20 = X⌝ ∗ owns (c : Thread nD τ) (st0_20 t) fullShare X) ∗ (∃ X, ⌜21 < 17 → Y 21 = X⌝ ∗ owns (c : Thread nD τ) (st0_21 t) fullShare X) ∗ (∃ X, ⌜22 < 17 → Y 22 = X⌝ ∗ owns (c : Thread nD τ) (st0_22 t) fullShare X) ∗ (∃ X, ⌜23 < 17 → Y 23 = X⌝ ∗ owns (c : Thread nD τ) (st0_23 t) fullShare X)) := by
    unfold BodyRes
    iintro ⟨⟨H0, H1, H2, H3, H4, H5, H6, H7, H8, H9, H10, H11, H12, H13, H14, H15, H16, H17, H18, H19, H20, H21, H22, H23, S0, S1, S2, S3, S4, S5, S6, S7, S8⟩, Hg, HR⟩
    isplitl [S0 S1 S2 S3 S4 S5 S6 S7 S8 Hg]
    · isplitl [S0 S1 S2 S3 S4 S5 S6 S7 S8]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      iexact Hg
    isplitl [HR]; · iexact HR
    isplitl [H0]; · iexists _; isplitr; (· ipureintro; exact fun _ => rfl); iexact H0
    isplitl [H1]; · iexists _; isplitr; (· ipureintro; exact fun _ => rfl); iexact H1
    isplitl [H2]; · iexists _; isplitr; (· ipureintro; exact fun _ => rfl); iexact H2
    isplitl [H3]; · iexists _; isplitr; (· ipureintro; exact fun _ => rfl); iexact H3
    isplitl [H4]; · iexists _; isplitr; (· ipureintro; exact fun _ => rfl); iexact H4
    isplitl [H5]; · iexists _; isplitr; (· ipureintro; exact fun _ => rfl); iexact H5
    isplitl [H6]; · iexists _; isplitr; (· ipureintro; exact fun _ => rfl); iexact H6
    isplitl [H7]; · iexists _; isplitr; (· ipureintro; exact fun _ => rfl); iexact H7
    isplitl [H8]; · iexists _; isplitr; (· ipureintro; exact fun _ => rfl); iexact H8
    isplitl [H9]; · iexists _; isplitr; (· ipureintro; exact fun _ => rfl); iexact H9
    isplitl [H10]; · iexists _; isplitr; (· ipureintro; exact fun _ => rfl); iexact H10
    isplitl [H11]; · iexists _; isplitr; (· ipureintro; exact fun _ => rfl); iexact H11
    isplitl [H12]; · iexists _; isplitr; (· ipureintro; exact fun _ => rfl); iexact H12
    isplitl [H13]; · iexists _; isplitr; (· ipureintro; exact fun _ => rfl); iexact H13
    isplitl [H14]; · iexists _; isplitr; (· ipureintro; exact fun _ => rfl); iexact H14
    isplitl [H15]; · iexists _; isplitr; (· ipureintro; exact fun _ => rfl); iexact H15
    isplitl [H16]; · iexists _; isplitr; (· ipureintro; exact fun _ => rfl); iexact H16
    isplitl [H17]; · icases H17 with ⟨%d, H17⟩; iexists d; isplitr; (· ipureintro; intro h; omega); iexact H17
    isplitl [H18]; · icases H18 with ⟨%d, H18⟩; iexists d; isplitr; (· ipureintro; intro h; omega); iexact H18
    isplitl [H19]; · icases H19 with ⟨%d, H19⟩; iexists d; isplitr; (· ipureintro; intro h; omega); iexact H19
    isplitl [H20]; · icases H20 with ⟨%d, H20⟩; iexists d; isplitr; (· ipureintro; intro h; omega); iexact H20
    isplitl [H21]; · icases H21 with ⟨%d, H21⟩; iexists d; isplitr; (· ipureintro; intro h; omega); iexact H21
    isplitl [H22]; · icases H22 with ⟨%d, H22⟩; iexists d; isplitr; (· ipureintro; intro h; omega); iexact H22
    icases H23 with ⟨%d, H23⟩; iexists d; isplitr; (· ipureintro; intro h; omega); iexact H23
  exact hpre.trans (hfr.trans (Idealize.SL.Sem.wp_mono _ _ _ (fun _ => hpost)))

/-- The proof data: an input window is left as found, an output window at anything, the scratch buffers hold anything. -/
def rdat (c : Dev nD) : RDat τ (Elt F) Unit ℕ (UR sig nD τ) ℕ (cfgs 0) c where
  A w := V m c (Pipeline.arrRef spec0 w)
  after w _ Y X := w.val < 17 → Y = X
  Φ _ := Pipeline.ΦA spec0 c
  q _ := fullShare
  owed _ := 0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : (rdat (F := F) m c).BodyObligation (defs₀ (F := F)) Variants.none () Set.univ := fun t Y _ => by
  rw [bigSep_W0, bigSep_W0, defs₀_row]
  exact triple_restated (frame_body c t _ Y) rfl .rfl fun _ => .rfl

set_option backward.isDefEq.respectTransparency.types false in
/-- The run: the pipeline ends, its inputs as they were, every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The kernel ends, its arguments as they were, every semaphore counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) ∧ r.2.sem = fun _ => 0) :=
  θ_run_and (rframe_of m ρ (rdat m) (fun _ _ => rfl) ((θ_run defs _ _).mono (fun _ h => h.1) (run_main_quiescent m ρ)))
    ((θ_run defs _ _).mono (fun _ h => h.2) (run_main_quiescent m ρ))

end Cert.KernelIdeal.Gen
-- ==== Proof.RefFrame.lean ====
/- The frame of `Cert.ReferenceIdeal`: the reference terminates, leaves its arguments as they were and has no counter to leave behind. -/
module

public import proofs.«01_k».proof.Proof.Gen.ReferenceIdeal.Run
public import Idealize.ShloMosaic.Lib.Quiescent
public import Idealize.ShloMosaic.Lib.Claim

@[expose] public section

set_option maxRecDepth 16384

noncomputable section

namespace Cert.ReferenceIdeal

open Idealize.ShloMosaic Idealize.ShloMosaic.TcCoe Idealize.SL.Sem

variable {F : FTy → Type} [FloatOps F]

/-- Every run of the reference from zero counters ends with its seventeen arguments unchanged and its counters zero: the run
    of its operations says the first, and it declares no semaphore. -/
theorem quiescent (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run (defs (F := F)) _ _).mono
    (fun r h => ⟨fun c => (h c).2.2.2.2.2.2.2, sem_eq_zero_of_no_sems (by decide) r.2⟩)
    (Value.run (F := F) m ρ)

end Cert.ReferenceIdeal
-- ==== Proof.Tiles.lean ====
/- Reading a buffer after a list of stores: when every stored piece agrees with one function `G` of the buffer's index, the buffer reads
   `G` where a piece lies and what it held before everywhere else. -/
module

public import Idealize.ShloMosaic.Lib.Pointwise
public import Idealize.ShloMosaic.Lib.WritesUnit
public import Idealize.ShloMosaic.Lib.VecWindow

@[expose] public section

noncomputable section

namespace Cert.Tiles

open Idealize.ShloMosaic

variable {sig : RefSig} {κ : Kind} {sp : Space} {s : Shape} {e : EltTy} {Val : EltTy → Type}

/-- Every piece of `L` holds `G` at the indices it is stored at, and `D` says which indices some piece covers. -/
def Tiles (G : s.Idx → Val e) (D : s.Idx → Prop) (L : List (View.Piece Val s e)) : Prop :=
  (∀ p ∈ L, ∀ x : p.1.shape.Idx, p.2 x = G (p.1.emb x)) ∧ ∀ y, D y ↔ ∃ p ∈ L, y ∈ p.1.set

theorem Tiles.read_of_mem {G : s.Idx → Val e} {D : s.Idx → Prop} {L : List (View.Piece Val s e)} (h : Tiles G D L)
    (v : View sig κ sp s e) (f : v.ty.Contents Val) (y : s.Idx) (hy : D y) : v.read Val (v.writes Val f L) y = G y :=
  View.read_writes_apply_of_pieces v f G L h.1 y ((h.2 y).1 hy)

theorem Tiles.read_of_not_mem {G : s.Idx → Val e} {D : s.Idx → Prop} {L : List (View.Piece Val s e)} (h : Tiles G D L)
    (v : View sig κ sp s e) (f : v.ty.Contents Val) (y : s.Idx) (hy : ¬D y) :
    v.read Val (v.writes Val f L) y = v.read Val f y := by
  have hm : ∀ p ∈ L, y ∉ p.1.set := fun p hp hy' => hy ((h.2 y).2 ⟨p, hp, hy'⟩)
  clear h hy
  induction L with
  | nil => rfl
  | cons p L ih =>
    rw [View.read_writes_cons_miss v f p L y (hm p List.mem_cons_self)]
    exact ih fun q hq => hm q (List.mem_cons_of_mem _ hq)

theorem Tiles.nil (G : s.Idx → Val e) : Tiles G (fun _ => False) ([] : List (View.Piece Val s e)) :=
  ⟨fun _ h => absurd h List.not_mem_nil, fun _ => ⟨False.elim, fun ⟨_, h, _⟩ => absurd h List.not_mem_nil⟩⟩

theorem Tiles.append {G : s.Idx → Val e} {D D' : s.Idx → Prop} {L L' : List (View.Piece Val s e)} (h : Tiles G D L) (h' : Tiles G D' L') :
    Tiles G (fun y => D y ∨ D' y) (L ++ L') := by
  refine ⟨fun p hp => ?_, fun y => ?_⟩
  · rcases List.mem_append.1 hp with hp | hp
    exacts [h.1 p hp, h'.1 p hp]
  · show D y ∨ D' y ↔ _
    rw [h.2, h'.2]
    simp only [List.mem_append]
    constructor
    · rintro (⟨p, hp, hy⟩ | ⟨p, hp, hy⟩)
      exacts [⟨p, .inl hp, hy⟩, ⟨p, .inr hp, hy⟩]
    · rintro ⟨p, hp | hp, hy⟩
      exacts [.inl ⟨p, hp, hy⟩, .inr ⟨p, hp, hy⟩]

theorem Tiles.dom {G : s.Idx → Val e} {D D' : s.Idx → Prop} {L : List (View.Piece Val s e)} (h : Tiles G D L) (hD : ∀ y, D' y ↔ D y) :
    Tiles G D' L :=
  ⟨h.1, fun y => (hD y).trans (h.2 y)⟩

/-- A mapped list of pieces, each with its own domain. -/
theorem Tiles.map {α : Type} {G : s.Idx → Val e} {D : α → s.Idx → Prop} {P : α → View.Piece Val s e} (h : ∀ a, Tiles G (D a) [P a])
    (l : List α) : Tiles G (fun y => ∃ a ∈ l, D a y) (l.map P) := by
  induction l with
  | nil => exact (Tiles.nil G).dom fun y => by simp
  | cons a l ih => exact ((h a).append ih).dom fun y => by simp

section Unit

variable {off off' size : Fin s.rank → ℕ} (inb : ∀ a, off a + size a ≤ s.size a)

/-- One stored piece of unit stride. -/
theorem Tiles.unit (heq : off = off') (w : (Rect.unit off size inb).shape.Idx → Val e) (G : s.Idx → Val e)
    (h : ∀ (x : (Rect.unit off size inb).shape.Idx) (y : s.Idx), (∀ a, (y a).val = off' a + (x a).val) → w x = G y) :
    Tiles G (fun y => ∀ a, off' a ≤ (y a).val ∧ (y a).val < off' a + size a) [⟨Rect.unit off size inb, w⟩] := by
  subst heq
  refine ⟨fun p hp x => ?_, fun y => ?_⟩
  · obtain rfl := List.mem_singleton.1 hp
    exact h x _ fun a => by
      show off a + 1 * (x a).val = _
      omega
  · simp only [List.mem_singleton, exists_eq_left]
    exact Rect.mem_set_unit.symm

end Unit

/-- One stored piece of a matrix. -/
theorem Tiles.unit2 {N0 N1 n0 n1 : ℕ} {off : Fin 2 → ℕ} {o0 o1 : ℕ} (heq : off = ![o0, o1])
    (inb : ∀ a, off a + (![n0, n1] : Fin 2 → ℕ) a ≤ (⟨2, ![N0, N1]⟩ : Shape).size a)
    (w : (Rect.unit (s := ⟨2, ![N0, N1]⟩) off ![n0, n1] inb).shape.Idx → Val e) (G : (⟨2, ![N0, N1]⟩ : Shape).Idx → Val e)
    (h : ∀ (r : Fin n0) (c : Fin n1) (hr : o0 + r.val < N0) (hc : o1 + c.val < N1), w (ix2 r c) = G (ix2 ⟨o0 + r.val, hr⟩ ⟨o1 + c.val, hc⟩)) :
    Tiles (s := ⟨2, ![N0, N1]⟩) G (fun y => (o0 ≤ (y 0).val ∧ (y 0).val < o0 + n0) ∧ (o1 ≤ (y 1).val ∧ (y 1).val < o1 + n1))
      [⟨Rect.unit off ![n0, n1] inb, w⟩] := by
  refine (Tiles.unit inb heq w G fun x y hy => ?_).dom fun y => ?_
  · have h0 := hy 0
    have h1 := hy 1
    have e : y = ix2 ⟨o0 + (x 0).val, h0.symm.trans_lt (y 0).isLt⟩ ⟨o1 + (x 1).val, h1.symm.trans_lt (y 1).isLt⟩ :=
      (eq_ix2 y).trans (by congr 1 <;> exact Fin.ext (by assumption))
    rw [e]
    exact (congrArg w (eq_ix2 x)).trans (h (x 0) (x 1) _ _)
  · rw [Fin.forall_fin_two]; rfl

/-- One stored piece of an array of rank three. -/
theorem Tiles.unit3 {N0 N1 N2 n0 n1 n2 : ℕ} {off : Fin 3 → ℕ} {o0 o1 o2 : ℕ} (heq : off = ![o0, o1, o2])
    (inb : ∀ a, off a + (![n0, n1, n2] : Fin 3 → ℕ) a ≤ (⟨3, ![N0, N1, N2]⟩ : Shape).size a)
    (w : (Rect.unit (s := ⟨3, ![N0, N1, N2]⟩) off ![n0, n1, n2] inb).shape.Idx → Val e) (G : (⟨3, ![N0, N1, N2]⟩ : Shape).Idx → Val e)
    (h : ∀ (r : Fin n0) (c : Fin n1) (d : Fin n2) (hr : o0 + r.val < N0) (hc : o1 + c.val < N1) (hd : o2 + d.val < N2),
      w (ix3 r c d) = G (ix3 ⟨o0 + r.val, hr⟩ ⟨o1 + c.val, hc⟩ ⟨o2 + d.val, hd⟩)) :
    Tiles (s := ⟨3, ![N0, N1, N2]⟩) G (fun y => (o0 ≤ (y 0).val ∧ (y 0).val < o0 + n0) ∧ (o1 ≤ (y 1).val ∧ (y 1).val < o1 + n1)
        ∧ (o2 ≤ (y 2).val ∧ (y 2).val < o2 + n2))
      [⟨Rect.unit off ![n0, n1, n2] inb, w⟩] := by
  refine (Tiles.unit inb heq w G fun x y hy => ?_).dom fun y => ?_
  · have h0 := hy 0
    have h1 := hy 1
    have h2 := hy 2
    have e : y = ix3 ⟨o0 + (x 0).val, h0.symm.trans_lt (y 0).isLt⟩ ⟨o1 + (x 1).val, h1.symm.trans_lt (y 1).isLt⟩ ⟨o2 + (x 2).val, h2.symm.trans_lt (y 2).isLt⟩ :=
      (eq_ix3 y).trans (by congr 1 <;> exact Fin.ext (by assumption))
    rw [e]
    exact (congrArg w (eq_ix3 x)).trans (h (x 0) (x 1) (x 2) _ _ _)
  · rw [Fin.forall_fin_succ, Fin.forall_fin_two]; rfl

/-- One stored piece of an array of rank four. -/
theorem Tiles.unit4 {N0 N1 N2 N3 n0 n1 n2 n3 : ℕ} {off : Fin 4 → ℕ} {o0 o1 o2 o3 : ℕ} (heq : off = ![o0, o1, o2, o3])
    (inb : ∀ a, off a + (![n0, n1, n2, n3] : Fin 4 → ℕ) a ≤ (⟨4, ![N0, N1, N2, N3]⟩ : Shape).size a)
    (w : (Rect.unit (s := ⟨4, ![N0, N1, N2, N3]⟩) off ![n0, n1, n2, n3] inb).shape.Idx → Val e)
    (G : (⟨4, ![N0, N1, N2, N3]⟩ : Shape).Idx → Val e)
    (h : ∀ (r : Fin n0) (c : Fin n1) (d : Fin n2) (b : Fin n3) (hr : o0 + r.val < N0) (hc : o1 + c.val < N1) (hd : o2 + d.val < N2)
      (hb : o3 + b.val < N3), w (ix4 r c d b) = G (ix4 ⟨o0 + r.val, hr⟩ ⟨o1 + c.val, hc⟩ ⟨o2 + d.val, hd⟩ ⟨o3 + b.val, hb⟩)) :
    Tiles (s := ⟨4, ![N0, N1, N2, N3]⟩) G (fun y => (o0 ≤ (y 0).val ∧ (y 0).val < o0 + n0) ∧ (o1 ≤ (y 1).val ∧ (y 1).val < o1 + n1)
        ∧ (o2 ≤ (y 2).val ∧ (y 2).val < o2 + n2) ∧ (o3 ≤ (y 3).val ∧ (y 3).val < o3 + n3))
      [⟨Rect.unit off ![n0, n1, n2, n3] inb, w⟩] := by
  refine (Tiles.unit inb heq w G fun x y hy => ?_).dom fun y => ?_
  · have h0 := hy 0
    have h1 := hy 1
    have h2 := hy 2
    have h3 := hy 3
    have e : y = ix4 ⟨o0 + (x 0).val, h0.symm.trans_lt (y 0).isLt⟩ ⟨o1 + (x 1).val, h1.symm.trans_lt (y 1).isLt⟩ ⟨o2 + (x 2).val, h2.symm.trans_lt (y 2).isLt⟩
        ⟨o3 + (x 3).val, h3.symm.trans_lt (y 3).isLt⟩ :=
      (eq_ix4 y).trans (by congr 1 <;> exact Fin.ext (by assumption))
    rw [e]
    exact (congrArg w (eq_ix4 x)).trans (h (x 0) (x 1) (x 2) (x 3) _ _ _ _)
  · rw [Fin.forall_fin_succ, Fin.forall_fin_succ, Fin.forall_fin_two]; rfl

/-- A load of part of a matrix, read at an index. -/
theorem load2 {N0 N1 n0 n1 : ℕ} (v : View sig κ sp ⟨2, ![N0, N1]⟩ e) (f : v.ty.Contents Val) {off : Fin 2 → ℕ} {o0 o1 : ℕ} (heq : off = ![o0, o1])
    (inb : ∀ a, off a + (![n0, n1] : Fin 2 → ℕ) a ≤ (⟨2, ![N0, N1]⟩ : Shape).size a) (r : Fin n0) (c : Fin n1)
    (hr : o0 + r.val < N0) (hc : o1 + c.val < N1) :
    v.readAt Val (Rect.unit (s := ⟨2, ![N0, N1]⟩) off ![n0, n1] inb).toLoadRect f (ix2 r c) = v.read Val f (ix2 ⟨o0 + r.val, hr⟩ ⟨o1 + c.val, hc⟩) := by
  subst heq
  refine congrArg (v.read Val f) (funext fun a => Fin.ext ?_)
  refine Fin.cases ?_ (fun a => ?_) a
  · show o0 + 1 * r.val = o0 + r.val; omega
  · obtain rfl : a = 0 := Subsingleton.elim _ _
    show o1 + 1 * c.val = o1 + c.val; omega

/-- A load of part of an array of rank three, read at an index. -/
theorem load3 {N0 N1 N2 n0 n1 n2 : ℕ} (v : View sig κ sp ⟨3, ![N0, N1, N2]⟩ e) (f : v.ty.Contents Val) {off : Fin 3 → ℕ} {o0 o1 o2 : ℕ}
    (heq : off = ![o0, o1, o2]) (inb : ∀ a, off a + (![n0, n1, n2] : Fin 3 → ℕ) a ≤ (⟨3, ![N0, N1, N2]⟩ : Shape).size a)
    (r : Fin n0) (c : Fin n1) (d : Fin n2) (hr : o0 + r.val < N0) (hc : o1 + c.val < N1) (hd : o2 + d.val < N2) :
    v.readAt Val (Rect.unit (s := ⟨3, ![N0, N1, N2]⟩) off ![n0, n1, n2] inb).toLoadRect f (ix3 r c d)
      = v.read Val f (ix3 ⟨o0 + r.val, hr⟩ ⟨o1 + c.val, hc⟩ ⟨o2 + d.val, hd⟩) := by
  subst heq
  refine congrArg (v.read Val f) (funext fun a => Fin.ext ?_)
  refine Fin.cases ?_ (fun a => Fin.cases ?_ (fun a => ?_) a) a
  · show o0 + 1 * r.val = o0 + r.val; omega
  · show o1 + 1 * c.val = o1 + c.val; omega
  · obtain rfl : a = 0 := Subsingleton.elim _ _
    show o2 + 1 * d.val = o2 + d.val; omega

/-- A load of part of an array of rank four, read at an index. -/
theorem load4 {N0 N1 N2 N3 n0 n1 n2 n3 : ℕ} (v : View sig κ sp ⟨4, ![N0, N1, N2, N3]⟩ e) (f : v.ty.Contents Val) {off : Fin 4 → ℕ}
    {o0 o1 o2 o3 : ℕ} (heq : off = ![o0, o1, o2, o3])
    (inb : ∀ a, off a + (![n0, n1, n2, n3] : Fin 4 → ℕ) a ≤ (⟨4, ![N0, N1, N2, N3]⟩ : Shape).size a)
    (r : Fin n0) (c : Fin n1) (d : Fin n2) (b : Fin n3) (hr : o0 + r.val < N0) (hc : o1 + c.val < N1) (hd : o2 + d.val < N2) (hb : o3 + b.val < N3) :
    v.readAt Val (Rect.unit (s := ⟨4, ![N0, N1, N2, N3]⟩) off ![n0, n1, n2, n3] inb).toLoadRect f (ix4 r c d b)
      = v.read Val f (ix4 ⟨o0 + r.val, hr⟩ ⟨o1 + c.val, hc⟩ ⟨o2 + d.val, hd⟩ ⟨o3 + b.val, hb⟩) := by
  subst heq
  refine congrArg (v.read Val f) (funext fun a => Fin.ext ?_)
  refine Fin.cases ?_ (fun a => Fin.cases ?_ (fun a => Fin.cases ?_ (fun a => ?_) a) a) a
  · show o0 + 1 * r.val = o0 + r.val; omega
  · show o1 + 1 * c.val = o1 + c.val; omega
  · show o2 + 1 * d.val = o2 + d.val; omega
  · obtain rfl : a = 0 := Subsingleton.elim _ _
    show o3 + 1 * b.val = o3 + b.val; omega

/-- `load2` with the index of the buffer named. -/
theorem load2' {N0 N1 n0 n1 : ℕ} (v : View sig κ sp ⟨2, ![N0, N1]⟩ e) (f : v.ty.Contents Val) {off : Fin 2 → ℕ} {o0 o1 : ℕ} (heq : off = ![o0, o1])
    (inb : ∀ a, off a + (![n0, n1] : Fin 2 → ℕ) a ≤ (⟨2, ![N0, N1]⟩ : Shape).size a) (r : Fin n0) (c : Fin n1)
    (r' : Fin N0) (c' : Fin N1) (hr : r'.val = o0 + r.val) (hc : c'.val = o1 + c.val) :
    v.readAt Val (Rect.unit (s := ⟨2, ![N0, N1]⟩) off ![n0, n1] inb).toLoadRect f (ix2 r c) = v.read Val f (ix2 r' c') := by
  refine (load2 v f heq inb r c (hr.symm.trans_lt r'.isLt) (hc.symm.trans_lt c'.isLt)).trans ?_
  congr 2 <;> exact Fin.ext (by simp [hr, hc])

/-- `load3` with the index of the buffer named. -/
theorem load3' {N0 N1 N2 n0 n1 n2 : ℕ} (v : View sig κ sp ⟨3, ![N0, N1, N2]⟩ e) (f : v.ty.Contents Val) {off : Fin 3 → ℕ} {o0 o1 o2 : ℕ}
    (heq : off = ![o0, o1, o2]) (inb : ∀ a, off a + (![n0, n1, n2] : Fin 3 → ℕ) a ≤ (⟨3, ![N0, N1, N2]⟩ : Shape).size a)
    (r : Fin n0) (c : Fin n1) (d : Fin n2) (r' : Fin N0) (c' : Fin N1) (d' : Fin N2) (hr : r'.val = o0 + r.val) (hc : c'.val = o1 + c.val)
    (hd : d'.val = o2 + d.val) :
    v.readAt Val (Rect.unit (s := ⟨3, ![N0, N1, N2]⟩) off ![n0, n1, n2] inb).toLoadRect f (ix3 r c d) = v.read Val f (ix3 r' c' d') := by
  refine (load3 v f heq inb r c d (hr.symm.trans_lt r'.isLt) (hc.symm.trans_lt c'.isLt) (hd.symm.trans_lt d'.isLt)).trans ?_
  congr 2 <;> exact Fin.ext (by simp [hr, hc, hd])

/-- `load4` with the index of the buffer named. -/
theorem load4' {N0 N1 N2 N3 n0 n1 n2 n3 : ℕ} (v : View sig κ sp ⟨4, ![N0, N1, N2, N3]⟩ e) (f : v.ty.Contents Val) {off : Fin 4 → ℕ}
    {o0 o1 o2 o3 : ℕ} (heq : off = ![o0, o1, o2, o3])
    (inb : ∀ a, off a + (![n0, n1, n2, n3] : Fin 4 → ℕ) a ≤ (⟨4, ![N0, N1, N2, N3]⟩ : Shape).size a)
    (r : Fin n0) (c : Fin n1) (d : Fin n2) (b : Fin n3) (r' : Fin N0) (c' : Fin N1) (d' : Fin N2) (b' : Fin N3)
    (hr : r'.val = o0 + r.val) (hc : c'.val = o1 + c.val) (hd : d'.val = o2 + d.val) (hb : b'.val = o3 + b.val) :
    v.readAt Val (Rect.unit (s := ⟨4, ![N0, N1, N2, N3]⟩) off ![n0, n1, n2, n3] inb).toLoadRect f (ix4 r c d b)
      = v.read Val f (ix4 r' c' d' b') := by
  refine (load4 v f heq inb r c d b (hr.symm.trans_lt r'.isLt) (hc.symm.trans_lt c'.isLt) (hd.symm.trans_lt d'.isLt)
    (hb.symm.trans_lt b'.isLt)).trans ?_
  congr 2 <;> exact Fin.ext (by simp [hr, hc, hd, hb])

end Cert.Tiles

end
-- ==== Proof.Spec.lean ====
/- What the kernel computes, said with real scalars: each stage of the block as a function of the stage before it. Both programs are
   read down to these functions. -/
module

public import Idealize.ShloMosaic.Lib.Pointwise

@[expose] public section

noncomputable section

namespace Cert.Spec

open Idealize.ShloMosaic

/-- An image with three rows and three columns of zeros around it, read at a padded position. -/
def xp (x : Fin 14 → Fin 16 → EReal) (a b : ℕ) : EReal :=
  if h : (3 ≤ a ∧ a < 17) ∧ 3 ≤ b ∧ b < 19 then x ⟨a - 3, by omega⟩ ⟨b - 3, by omega⟩ else 0

/-- The depthwise convolution of one channel at pixel `(h, w)`, before its scale. -/
def convSum (x : Fin 14 → Fin 16 → EReal) (wt : Fin 7 → Fin 7 → EReal) (h w : ℕ) : EReal :=
  ∑ q : Fin 49, xp x (h + q.val / 7) (w + q.val % 7) * wt ⟨q.val / 7, by omega⟩ ⟨q.val % 7, by omega⟩

/-- The depthwise convolution with its scale and bias, at pixel `p = 16 h + w` and channel `c`. -/
def conv (x : Fin 14 → Fin 16 → Fin 1408 → EReal) (wt : Fin 7 → Fin 7 → Fin 1408 → EReal) (xs : EReal) (dws dwb : Fin 1408 → EReal)
    (p : Fin 224) (c : Fin 1408) : EReal :=
  convSum (fun h w => x h w c) (fun a b => wt a b c) (p.val / 16) (p.val % 16) * (xs * dws c) + dwb c

/-- The rounded, clipped code of a value already divided by its scale. -/
def code (x : EReal) : BitVec 8 :=
  FloatOps.fptosi (F := Ideal) (φ := .f32) 8 (min (Ideal.ofBits .f32 1123942400#32) (max (Ideal.ofBits .f32 3271426048#32)
    (Ideal.liftRound Ideal.roundHalfEven x)))

/-- The scale of a row: its largest magnitude over 127, or one where that is zero. -/
def scale {n : ℕ} (row : Fin n → EReal) : EReal :=
  let m := Finset.univ.fold max (Ideal.ofBits .f32 4286578688#32) fun x => FloatOps.absf (F := Ideal) (φ := .f32) (row x)
  if m = 0 then 1 else Ideal.div m (Ideal.ofBits .f32 1123942400#32)

/-- A value's code under the scale of its row. -/
def rowCode {n : ℕ} (row : Fin n → EReal) (k : Fin n) : BitVec 8 := code (row k * Ideal.div 1 (scale row))

/-- Layer normalisation of a row: `ic` is one over its length. -/
def ln (ic : EReal) (row g b : Fin 1408 → EReal) (k : Fin 1408) : EReal :=
  let mean := (∑ x, row x) * ic
  (row k - mean) * Ideal.div 1 (Ideal.sqrt ((∑ x, (row x - mean) * (row x - mean)) * ic + Ideal.ofBits .f32 897988541#32)) * g k + b k

/-- The exact GELU. -/
def gelu (v : EReal) : EReal :=
  Ideal.ofBits .f32 1056964608#32 * v * (1 + Ideal.erf (v * Ideal.ofBits .f32 1060439283#32))

/-- A dense layer on codes: the contraction times the row's scale, plus the bias. -/
def dense {n m : ℕ} (a : Fin n → EReal) (w : Fin n → Fin m → EReal) (s : EReal) (b : Fin m → EReal) (k : Fin m) : EReal :=
  (∑ c, a c * w c k) * s + b k

/-- The column norms of the hidden layer. -/
def colNorm (h : Fin 224 → Fin 5632 → EReal) (k : Fin 5632) : EReal := Ideal.sqrt (∑ p, h p k * h p k)

/-- Global response normalisation's factor: `ih` is one over the number of columns. -/
def respond (ih : EReal) (g : Fin 5632 → EReal) (k : Fin 5632) : EReal :=
  Ideal.div (g k) ((∑ x, g x) * ih + Ideal.ofBits .f32 897988541#32)

/-- Global response normalisation of one value. -/
def grn (v nx g b : EReal) : EReal := g * (v * nx) + b + v

/-- The signed nibble of a byte: the low one for parity zero, the high one otherwise. -/
def nib (b : BitVec 8) (parity : ℕ) : BitVec 32 :=
  let u : BitVec 32 := if parity = 0 then IntOp.andi (b.setWidth 32) 15#32 else IntOp.shrsi ArithUnit.vector (b.setWidth 32) 4#32
  Scalar.select (IntOp.cmpi CmpIPredicate.sge u 8#32) (IntOp.subi u 16#32) u

/-- A widened four-bit weight: its signed nibble times its group's scale. Byte row `r` holds rows `2 r` and `2 r + 1`; a group is 128 rows. -/
def wide {m g K N : ℕ} (P : Fin m → Fin N → BitVec 8) (S : Fin g → Fin N → EReal) (hm : K = 2 * m) (hg : K = 128 * g) (r : Fin K) (n : Fin N) :
    EReal :=
  FloatOps.sitofp (F := Ideal) .bf16 (w := 32) (nib (P ⟨r.val / 2, by omega⟩ n) (r.val % 2)) * S ⟨r.val / 128, by omega⟩ n

end Cert.Spec

end
-- ==== Proof.ConvRows.lean ====
/- The convolution's loops, read as values: one trip stores, for each of the fourteen output rows, the sum over the taps that fall inside the
   image, scaled and shifted; all trips together leave the convolution of the whole image. -/
module
public import proofs.«01_k».proof.Proof.ConvKernelIdeal
public import proofs.«01_k».proof.Proof.Tiles
public import proofs.«01_k».proof.Proof.Spec
public import Idealize.ShloMosaic.Lib.Pointwise
@[expose] public section
set_option maxRecDepth 16384
noncomputable section
namespace Cert.KernelIdeal.Gen

open Idealize.ShloMosaic Idealize.ShloMosaic.TcCoe Idealize.ShloMosaic.Tactic
variable {F : FTy → Type} [FloatOps F] [Named F]
/-- The offset of the strip's load: row `r`, from column 5 on. -/
def offS (r : ℕ) : Fin k0_t4_loop.trips → BitVec 32 → Fin 3 → ℕ :=
  match r with
  | 0 => k0_off181 | 1 => k0_off189 | 2 => k0_off197 | 3 => k0_off205 | 4 => k0_off221 | 5 => k0_off229 | 6 => k0_off237
  | 7 => k0_off238 | 8 => k0_off239 | 9 => k0_off240 | 10 => k0_off241 | 11 => k0_off242 | 12 => k0_off243 | _ => k0_off244

/-- The offset of the weight's load: tap `(di, dj)`, that is number `7 * di + dj`. -/
def offW (q : ℕ) : Fin k0_t3_loop.trips → Fin 3 → ℕ :=
  match q with
  | 0 => k0_off230 | 1 => k0_off231 | 2 => k0_off232 | 3 => k0_off233 | 4 => k0_off234 | 5 => k0_off235 | 6 => k0_off236
  | 7 => k0_off222 | 8 => k0_off223 | 9 => k0_off224 | 10 => k0_off225 | 11 => k0_off226 | 12 => k0_off227 | 13 => k0_off228
  | 14 => k0_off214 | 15 => k0_off215 | 16 => k0_off216 | 17 => k0_off217 | 18 => k0_off218 | 19 => k0_off219 | 20 => k0_off220
  | 21 => k0_off182 | 22 => k0_off183 | 23 => k0_off184 | 24 => k0_off185 | 25 => k0_off186 | 26 => k0_off187 | 27 => k0_off188
  | 28 => k0_off190 | 29 => k0_off191 | 30 => k0_off192 | 31 => k0_off193 | 32 => k0_off194 | 33 => k0_off195 | 34 => k0_off196
  | 35 => k0_off198 | 36 => k0_off199 | 37 => k0_off200 | 38 => k0_off201 | 39 => k0_off202 | 40 => k0_off203 | 41 => k0_off204
  | 42 => k0_off206 | 43 => k0_off207 | 44 => k0_off208 | 45 => k0_off209 | 46 => k0_off210 | 47 => k0_off211 | _ => k0_off212

theorem offS_eq : ∀ (r : Fin 14) (k : Fin k0_t4_loop.trips) (j : Fin 7),
    offS r.val k (BitVec.ofNat 32 j.val) = ![r.val, 8 * k.val + j.val + 5, 0] := by decide +kernel

theorem offW_eq : ∀ (q : Fin 49) (j : Fin k0_t3_loop.trips), offW q.val j = ![q.val / 7, q.val % 7, 128 * j.val] := by
  decide +kernel

theorem offS_inb (r : Fin 14) (k : Fin k0_t4_loop.trips) (j : Fin 7) :
    ∀ a, offS r.val k (BitVec.ofNat 32 j.val) a + S1x8x128.size a ≤ S14x32x128.size a := by
  revert r k j; decide +kernel

theorem offW_inb (q : Fin 49) (j : Fin k0_t3_loop.trips) : ∀ a, offW q.val j a + S1x1x128.size a ≤ S7x7x1408.size a := by
  revert q j; decide +kernel

/-- One tap's product: a strip row shifted by the tap's column, times the tap's weights. -/
def tap (A : Vec F S1x8x128 .f32) (B : Vec F S1x1x128 .f32) : FVec F S8x128 .f32 :=
  mulf (shapeCast S8x128 A shapeCasts_S1x8x128_S8x128)
    (broadcastTo S8x128 (shapeCast S1x128 B shapeCasts_S1x1x128_S1x128) broadcasts_S1x128_S8x128)

/-- The taps of output row `h` that fall inside the image, as numbers `7 * di + dj`. -/
def taps (h : ℕ) : List ℕ := (List.range 49).filter fun q => Nat.ble 3 (h + q / 7) && Nat.ble (h + q / 7) 16

/-- The products of a list of taps added up from the first. -/
def addAll (f : ℕ → FVec F S8x128 .f32) : List ℕ → FVec F S8x128 .f32
  | [] => broadcast S8x128 (FloatOps.ofBits .f32 0#32)
  | q :: l => l.foldl (fun acc q => addf acc (f q)) (f q)

/-- Output row `h` of the convolution from the loads of the strip and of the weights. -/
def convRow (S : Fin 14 → Fin 7 → Vec F S1x8x128 .f32) (W : Fin 49 → Vec F S1x1x128 .f32)
    (v420 : Elt F .f32) (v422 v427 : Vec F S1x128 .f32) (h : ℕ) : FVec F S8x128 .f32 :=
  shapeCast S8x128 (addf (mulf (addAll (fun q => tap (S (Fin.ofNat 14 (h + q / 7 - 3)) (Fin.ofNat 7 (q % 7))) (W (Fin.ofNat 49 q))) (taps h))
    (broadcastTo S8x128 (k0_pay497 v420 v422) broadcasts_S1x128_S8x128))
    (broadcastTo S8x128 (k0_pay498 v427) broadcasts_S1x128_S8x128)) shapeCasts_S8x128_S8x128

section
variable (arg27 : Memref sig .tc .vmem S14x32x128 .f32) (arg28 : Memref sig .tc .vmem S7x7x1408 .f32)
  (j : Fin k0_t3_loop.trips) (k : Fin k0_t4_loop.trips) (v420 : Elt F .f32) (v422 v427 : Vec F S1x128 .f32)
  (X27 : BufTy.Contents (Elt F) arg27.view.ty) (X28 : BufTy.Contents (Elt F) arg28.view.ty)

/-- The load of the strip's row `r` shifted by `dj`. -/
def ldS (r : Fin 14) (dj : Fin 7) : Vec F S1x8x128 .f32 :=
  View.readAt (Elt F) arg27.view (Rect.unit (s := S14x32x128) (offS r.val k (BitVec.ofNat 32 dj.val)) S1x8x128.size (offS_inb r k dj)).toLoadRect X27

/-- The load of tap `q`'s weights. -/
def ldW (q : Fin 49) : Vec F S1x1x128 .f32 :=
  View.readAt (Elt F) arg28.view (Rect.unit (s := S7x7x1408) (offW q.val j) S1x1x128.size (offW_inb q j)).toLoadRect X28

/-- A load of the strip, read at an index. -/
theorem ldS_apply (r : Fin 14) (dj : Fin 7) (s : Fin 8) (l : Fin 128) (hc : 8 * k.val + dj.val + 5 + s.val < 32) :
    ldS arg27 k X27 r dj (ix3 0 s l) = arg27.view.read (Elt F) X27 (ix3 r ⟨8 * k.val + dj.val + 5 + s.val, hc⟩ l) := by
  unfold ldS
  refine (Cert.Tiles.load3 arg27.view X27 (offS_eq r k dj) (offS_inb r k dj) 0 s l (by simpa using r.isLt) hc (by omega)).trans ?_
  congr 2; exact Fin.ext (Nat.zero_add _)

/-- A load of the weights, read at an index. -/
theorem ldW_apply (q : Fin 49) (l : Fin 128) (hc : 128 * j.val + l.val < 1408) :
    ldW arg28 j X28 q (ix3 0 0 l)
      = arg28.view.read (Elt F) X28 (ix3 ⟨q.val / 7, by omega⟩ ⟨q.val % 7, by omega⟩ ⟨128 * j.val + l.val, hc⟩) := by
  unfold ldW
  exact Cert.Tiles.load3 arg28.view X28 (offW_eq q j) (offW_inb q j) 0 0 l (by simp; omega) (by simp; omega) hc
end

section Ideal
theorem addAll_apply (f : ℕ → FVec Ideal S8x128 .f32) (l : List ℕ) (s : Fin 8) (b : Fin 128) :
    addAll f l (ix2 s b) = (l.map fun q => f q (ix2 s b)).sum := by
  have h : ∀ (l : List ℕ) (a : FVec Ideal S8x128 .f32), (l.foldl (fun acc q => addf acc (f q)) a) (ix2 s b)
      = a (ix2 s b) + (l.map fun q => f q (ix2 s b)).sum := by
    intro l
    induction l with
    | nil => intro a; simp
    | cons q l ih => intro a; rw [List.foldl_cons, ih]; simp only [List.map_cons, List.sum_cons]; rw [← add_assoc]; rfl
  cases l with
  | nil => simp [addAll]; pointwise
  | cons q l => rw [addAll, h]; rfl

theorem tap_apply (A : Vec Ideal S1x8x128 .f32) (B : Vec Ideal S1x1x128 .f32) (s : Fin 8) (l : Fin 128) :
    tap (F := Ideal) A B (ix2 s l) = (A (ix3 0 s l) : EReal) * B (ix3 0 0 l) := by
  pointwise [tap]

theorem convRow_apply (S : Fin 14 → Fin 7 → Vec Ideal S1x8x128 .f32) (W : Fin 49 → Vec Ideal S1x1x128 .f32)
    (v420 : Elt Ideal .f32) (v422 v427 : Vec Ideal S1x128 .f32) (h : ℕ) (s : Fin 8) (l : Fin 128) :
    convRow (F := Ideal) S W v420 v422 v427 h (ix2 s l)
      = ((taps h).map fun q => (S (Fin.ofNat 14 (h + q / 7 - 3)) (Fin.ofNat 7 (q % 7)) (ix3 0 s l) : EReal) * W (Fin.ofNat 49 q) (ix3 0 0 l)).sum
        * ((v420 : EReal) * v422 (ix2 0 l)) + v427 (ix2 0 l) := by
  pointwise [convRow, k0_pay497, k0_pay498, addAll_apply, tap_apply]

theorem sum_filter (p : ℕ → Bool) (g : ℕ → EReal) (l : List ℕ) : ((l.filter p).map g).sum = (l.map fun q => if p q then g q else 0).sum := by
  induction l with
  | nil => rfl
  | cons q l ih => by_cases h : p q <;> simp [List.filter_cons, h, ih]

theorem sum_range (g : ℕ → EReal) (n : ℕ) : ((List.range n).map g).sum = ∑ q : Fin n, g q.val := by
  exact (show ((List.range n).map g).sum = ∑ q ∈ Finset.range n, g q from rfl).trans (Finset.sum_range g)

/-- One stored row of the convolution: with the zero-bordered image block in the strip it is the convolution of the image. -/
theorem convRow_spec (arg27 : Memref sig .tc .vmem S14x32x128 .f32) (arg28 : Memref sig .tc .vmem S7x7x1408 .f32)
    (j : Fin k0_t3_loop.trips) (k : Fin k0_t4_loop.trips) (X27 : BufTy.Contents (Elt Ideal) arg27.view.ty)
    (X28 : BufTy.Contents (Elt Ideal) arg28.view.ty) (x : Fin 14 → Fin 16 → Fin 1408 → EReal) (dws dwb : Fin 1408 → EReal)
    (v420 : Elt Ideal .f32) (v422 v427 : Vec Ideal S1x128 .f32) (h : Fin 14) (s : Fin 8) (l : Fin 128)
    (hS : ∀ (r : Fin 14) (b : Fin 32), arg27.view.read (Elt Ideal) X27 (ix3 r b l)
      = if hb : 8 ≤ b.val ∧ b.val < 24 then x r ⟨b.val - 8, by omega⟩ ⟨128 * j.val + l.val, by have := j.isLt; have : k0_t3_loop.trips = 11 := rfl; omega⟩ else (0 : EReal))
    (p : Fin 224) (d : Fin 1408) (hp : p.val = 16 * h.val + 8 * k.val + s.val) (hd : d.val = 128 * j.val + l.val)
    (h422 : v422 (ix2 0 l) = dws d) (h427 : v427 (ix2 0 l) = dwb d) :
    convRow (F := Ideal) (ldS arg27 k X27) (ldW arg28 j X28) v420 v422 v427 h.val (ix2 s l)
      = Cert.Spec.conv x (fun a b d => arg28.view.read (Elt Ideal) X28 (ix3 a b d)) v420 dws dwb p d := by
  have hk : k.val < 2 := k.isLt
  rw [convRow_apply, h422, h427]
  unfold Cert.Spec.conv Cert.Spec.convSum
  congr 2
  rw [taps, sum_filter, sum_range]
  refine Finset.sum_congr rfl fun q _ => ?_
  have e16 : p.val / 16 = h.val := by omega
  have e16' : p.val % 16 = 8 * k.val + s.val := by omega
  rw [e16, e16']
  have hq7 : q.val % 7 < 7 := Nat.mod_lt _ (by norm_num)
  have hqq : q.val / 7 < 7 := by omega
  unfold Cert.Spec.xp
  by_cases hr : 3 ≤ h.val + q.val / 7 ∧ h.val + q.val / 7 ≤ 16
  · have e1 : (Fin.ofNat 14 (h.val + q.val / 7 - 3)) = (⟨h.val + q.val / 7 - 3, by omega⟩ : Fin 14) := Fin.ext (Nat.mod_eq_of_lt (by omega))
    have e2 : (Fin.ofNat 7 (q.val % 7)) = (⟨q.val % 7, hq7⟩ : Fin 7) := Fin.ext (Nat.mod_eq_of_lt hq7)
    have e3 : (Fin.ofNat 49 q.val) = q := Fin.ext (Nat.mod_eq_of_lt q.isLt)
    have hcond : (Nat.ble 3 (h.val + q.val / 7) && Nat.ble (h.val + q.val / 7) 16) = true := by
      rw [Nat.ble_eq_true_of_le hr.1, Nat.ble_eq_true_of_le hr.2]; rfl
    rw [if_pos hcond, e1, e2, e3]
    have hb : 8 * k.val + q.val % 7 + 5 + s.val < 32 := by omega
    have hdd : 128 * j.val + l.val < 1408 := by omega
    rw [ldS_apply arg27 k X27 ⟨h.val + q.val / 7 - 3, by omega⟩ ⟨q.val % 7, hq7⟩ s l hb, ldW_apply arg28 j X28 q l hdd, hS]
    obtain rfl : d = ⟨128 * j.val + l.val, hdd⟩ := Fin.ext hd
    congr 1
    by_cases hc : 8 ≤ 8 * k.val + q.val % 7 + 5 + s.val ∧ 8 * k.val + q.val % 7 + 5 + s.val < 24
    · rw [dif_pos hc, dif_pos (by omega)]
      congr 1; exact Fin.ext (by simp; omega)
    · rw [dif_neg hc, dif_neg (by omega)]
  · have hcond : (Nat.ble 3 (h.val + q.val / 7) && Nat.ble (h.val + q.val / 7) 16) = false := by
      rw [Bool.and_eq_false_iff]
      rcases Nat.lt_or_ge (h.val + q.val / 7) 3 with h3 | h3
      · left; exact Bool.eq_false_iff.2 fun h => absurd (Nat.le_of_ble_eq_true h) (by omega)
      · right; exact Bool.eq_false_iff.2 fun h => absurd (Nat.le_of_ble_eq_true h) (by omega)
    rw [hcond, dif_neg (by omega)]
    simp

end Ideal

section Trips
variable (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)

set_option maxHeartbeats 4000000 in
/-- The pieces one trip of the inner loop stores: output rows 13 down to 0. -/
theorem trip4_eq (j : Fin k0_t3_loop.trips) (v321 : BitVec 32) (k : Fin k0_t4_loop.trips) (v420 : Elt F .f32) (v422 v427 : Vec F S1x128 .f32)
    (X27 : BufTy.Contents (Elt F) arg27.view.ty) (X28 : BufTy.Contents (Elt F) arg28.view.ty) :
    tripL_k0_t4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 j v321 v420 v422 v427 X27 X28 k
    = ([13, 12, 11, 10, 9, 8, 7, 6, 5, 4, 3, 2, 1, 0] : List (Fin 14)).map fun h =>
        ⟨Rect.unit (k0_off213 j k (BitVec.ofNat 32 (16 * h.val))) S8x128.size (k0_off213_inb j k h),
          convRow (ldS arg27 k X27) (ldW arg28 j X28) v420 v422 v427 h.val⟩ := by
  unfold tripL_k0_t4 trip_k0_t4
  rfl

/-- The offset of the image's row `h` in the load of channel block `j`. -/
def offX (h : ℕ) : Fin k0_t3_loop.trips → Fin 4 → ℕ :=
  match h with
  | 0 => k0_off166 | 1 => k0_off167 | 2 => k0_off168 | 3 => k0_off169 | 4 => k0_off170 | 5 => k0_off171 | 6 => k0_off172
  | 7 => k0_off173 | 8 => k0_off174 | 9 => k0_off175 | 10 => k0_off176 | 11 => k0_off177 | 12 => k0_off178 | _ => k0_off179

theorem offX_eq : ∀ (h : Fin 14) (j : Fin k0_t3_loop.trips), offX h.val j = ![0, h.val, 0, 128 * j.val] := by decide +kernel

theorem offX_inb (h : Fin 14) (j : Fin k0_t3_loop.trips) : ∀ a, offX h.val j a + S1x1x16x128.size a ≤ S1x14x16x1408.size a := by
  revert h j; decide +kernel

theorem stripInb (h : Fin 14) : ∀ a, (![h.val, 8, 0] : Fin 3 → ℕ) a + S1x16x128.size a ≤ S14x32x128.size a := by
  revert h; decide +kernel

/-- The image rows copied into the strip for channel block `j`: rows 13 down to 0. -/
def stripL (X3 : BufTy.Contents (Elt F) arg3.view.ty) (j : Fin k0_t3_loop.trips) : List (View.Piece (Elt F) S14x32x128 .f32) :=
  ([13, 12, 11, 10, 9, 8, 7, 6, 5, 4, 3, 2, 1, 0] : List (Fin 14)).map fun h =>
    ⟨Rect.unit ![h.val, 8, 0] S1x16x128.size (stripInb h),
      k0_pay495 (View.readAt (Elt F) arg3.view (Rect.unit (s := S1x14x16x1408) (offX h.val j) S1x1x16x128.size (offX_inb h j)).toLoadRect X3)⟩

variable (X1 : BufTy.Contents (Elt F) arg1.view.ty) (X3 : BufTy.Contents (Elt F) arg3.view.ty) (X6 : BufTy.Contents (Elt F) arg6.view.ty)
  (X7 : BufTy.Contents (Elt F) arg7.view.ty) (X28 : BufTy.Contents (Elt F) arg28.view.ty) (X27 : BufTy.Contents (Elt F) arg27.view.ty)

set_option maxHeartbeats 4000000 in
/-- The pieces one trip of the outer loop stores into the strip. -/
theorem trip3_strip (k : Fin k0_t3_loop.trips) :
    (trip_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X1 X3 X6 X7 X28 k X27).1.1 = stripL arg3 X3 k := by
  unfold trip_k0_t3
  rfl

set_option maxHeartbeats 4000000 in
/-- The pieces one trip of the outer loop stores into the result: those of its inner loop. -/
theorem trip3_out (k : Fin k0_t3_loop.trips) : ∃ v321,
    (trip_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X1 X3 X6 X7 X28 k X27).1.2
      = pb_k0_t4 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 k v321
          (trip_k0_t3.sl.r arg1 X1)
          (View.readAt (Elt F) arg6.view (Rect.unit (s := S1x1408) (k0_off180 k) S1x128.size (k0_off180_inb k)).toLoadRect X6)
          (View.readAt (Elt F) arg7.view (Rect.unit (s := S1x1408) (k0_off180 k) S1x128.size (k0_off180_inb k)).toLoadRect X7)
          (arg27.view.writes (Elt F) X27 (stripL arg3 X3 k)) X28 k0_t4_loop.trips := by
  unfold trip_k0_t3
  exact ⟨_, rfl⟩
end Trips

section Values
variable (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
variable (X1 : BufTy.Contents (Elt Ideal) arg1.view.ty) (X3 : BufTy.Contents (Elt Ideal) arg3.view.ty) (X6 : BufTy.Contents (Elt Ideal) arg6.view.ty)
  (X7 : BufTy.Contents (Elt Ideal) arg7.view.ty) (X28 : BufTy.Contents (Elt Ideal) arg28.view.ty) (X27 : BufTy.Contents (Elt Ideal) arg27.view.ty)

/-- The strip is zero left and right of the image. -/
def Border (X27 : BufTy.Contents (Elt Ideal) arg27.view.ty) : Prop :=
  ∀ (r : Fin 14) (b : Fin 32) (l : Fin 128), ¬(8 ≤ b.val ∧ b.val < 24) → arg27.view.read (Elt Ideal) X27 (ix3 r b l) = (0 : EReal)

/-- The image's codes as numbers. -/
def imgOf (h : Fin 14) (w : Fin 16) (d : Fin 1408) : EReal :=
  FloatOps.sitofp (F := Ideal) .f32 (w := 8) (arg3.view.read (Elt Ideal) X3 (ix4 0 h w d))

/-- What the convolution leaves, as a function of the buffers it reads. -/
def convG : S224x1408.Idx → Elt Ideal .f32 := fun y =>
  Cert.Spec.conv (imgOf arg3 X3) (fun a b d => arg28.view.read (Elt Ideal) X28 (ix3 a b d)) (trip_k0_t3.sl.r arg1 X1)
    (fun d => arg6.view.read (Elt Ideal) X6 (ix2 0 d)) (fun d => arg7.view.read (Elt Ideal) X7 (ix2 0 d)) (y 0) (y 1)

/-- The stores of one channel block into the strip. -/
theorem stripL_tiles (j : Fin k0_t3_loop.trips) :
    Cert.Tiles.Tiles (s := S14x32x128)
      (fun y : S14x32x128.Idx => if hb : 8 ≤ (y 1).val ∧ (y 1).val < 24 then
        imgOf arg3 X3 (y 0) ⟨(y 1).val - 8, by omega⟩
          ⟨128 * j.val + (y 2).val, by have := j.isLt; have : k0_t3_loop.trips = 11 := rfl; have h2 : (y 2).val < 128 := (y 2).isLt; omega⟩ else (0 : EReal))
      (fun y => 8 ≤ (y 1).val ∧ (y 1).val < 24) (stripL (F := Ideal) arg3 X3 j) := by
  unfold stripL
  refine (Cert.Tiles.Tiles.map (D := fun (h : Fin 14) (y : S14x32x128.Idx) =>
      (h.val ≤ (y 0).val ∧ (y 0).val < h.val + 1) ∧ (8 ≤ (y 1).val ∧ (y 1).val < 8 + 16) ∧ (0 ≤ (y 2).val ∧ (y 2).val < 0 + 128)) (fun h => ?_) _).dom
    fun y => ?_
  · refine Cert.Tiles.Tiles.unit3 rfl _ _ _ fun r w l hr hw hl => ?_
    have e : (k0_pay495 (F := Ideal) (View.readAt (Elt Ideal) arg3.view (Rect.unit (s := S1x14x16x1408) (offX h.val j) S1x1x16x128.size
        (offX_inb h j)).toLoadRect X3)) (ix3 r w l) = FloatOps.sitofp (F := Ideal) .f32 (w := 8) (View.readAt (Elt Ideal) arg3.view
          (Rect.unit (s := S1x14x16x1408) (offX h.val j) S1x1x16x128.size (offX_inb h j)).toLoadRect X3 (ix4 0 0 w l)) := by
      pointwise [k0_pay495]
    have hj : j.val < 11 := j.isLt
    refine e.trans ?_
    rw [dif_pos (by show 8 ≤ 8 + w.val ∧ 8 + w.val < 24; omega)]
    unfold imgOf
    refine congrArg _ ((Cert.Tiles.load4 arg3.view X3 (offX_eq h j) (offX_inb h j) 0 0 w l (by simp) (by simp) (by omega) (by omega)).trans ?_)
    congr 2
    all_goals apply Fin.ext <;> simp <;> omega
  · have h0 : (y 0).val < 14 := (y 0).isLt
    have h2 : (y 2).val < 128 := (y 2).isLt
    constructor
    · intro hy
      refine ⟨y 0, ?_, ?_⟩
      · have : ∀ a : Fin 14, a ∈ ([13, 12, 11, 10, 9, 8, 7, 6, 5, 4, 3, 2, 1, 0] : List (Fin 14)) := by decide
        exact this _
      · omega
    · rintro ⟨h, _, hh⟩; omega

theorem pb4_tiles (j : Fin k0_t3_loop.trips) (v321 : BitVec 32) (v422 v427 : Vec Ideal S1x128 .f32)
    (hS : ∀ (r : Fin 14) (b : Fin 32) (l : Fin 128), arg27.view.read (Elt Ideal) X27 (ix3 r b l)
      = if hb : 8 ≤ b.val ∧ b.val < 24 then imgOf arg3 X3 r ⟨b.val - 8, by omega⟩
          ⟨128 * j.val + l.val, by have := j.isLt; have : k0_t3_loop.trips = 11 := rfl; omega⟩ else (0 : EReal))
    (h422 : ∀ (l : Fin 128) (d : Fin 1408), d.val = 128 * j.val + l.val → v422 (ix2 0 l) = arg6.view.read (Elt Ideal) X6 (ix2 0 d))
    (h427 : ∀ (l : Fin 128) (d : Fin 1408), d.val = 128 * j.val + l.val → v427 (ix2 0 l) = arg7.view.read (Elt Ideal) X7 (ix2 0 d)) (n : ℕ) (hn : n ≤ 2) :
    Cert.Tiles.Tiles (s := S224x1408) (convG arg1 arg3 arg6 arg7 arg28 X1 X3 X6 X7 X28)
      (fun y => (y 0).val % 16 < 8 * n ∧ 128 * j.val ≤ (y 1).val ∧ (y 1).val < 128 * j.val + 128)
      (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 j v321 (trip_k0_t3.sl.r arg1 X1) v422 v427 X27 X28 n) := by
  induction n with
  | zero => exact (Cert.Tiles.Tiles.nil _).dom fun y => by simp
  | succ n ih =>
    have hn' : n < 2 := hn
    let k : Fin k0_t4_loop.trips := ⟨n, hn'⟩
    have hs := pb_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 j v321 (trip_k0_t3.sl.r arg1 X1) v422 v427 X27 X28 k
    rw [show n + 1 = k.val + 1 from rfl, hs, trip4_eq]
    refine ((Cert.Tiles.Tiles.map (D := fun (h : Fin 14) (y : S224x1408.Idx) =>
      (16 * h.val + 8 * k.val ≤ (y 0).val ∧ (y 0).val < 16 * h.val + 8 * k.val + 8)
        ∧ (128 * j.val ≤ (y 1).val ∧ (y 1).val < 128 * j.val + 128)) (fun h => ?_) _).append (ih (by omega))).dom fun y => ?_
    · refine Cert.Tiles.Tiles.unit2 (k0_off213_eq j k h) _ _ _ fun s l hs hl => ?_
      exact convRow_spec arg27 arg28 j k X27 X28 (imgOf arg3 X3) _ _ _ v422 v427 h s l (fun r b => hS r b l) _ _ rfl rfl
        (h422 l _ rfl) (h427 l _ rfl)
    · have h0 : (y 0).val < 224 := (y 0).isLt
      have hk : k.val = n := rfl
      constructor
      · intro hy
        by_cases h8 : (y 0).val % 16 < 8 * n
        · right; omega
        · left
          refine ⟨⟨(y 0).val / 16, by omega⟩, ?_, ?_⟩
          · have : ∀ a : Fin 14, a ∈ ([13, 12, 11, 10, 9, 8, 7, 6, 5, 4, 3, 2, 1, 0] : List (Fin 14)) := by decide
            exact this _
          · simp only [hk]; omega
      · rintro (⟨h, _, hh⟩ | hh)
        · have := h.isLt; omega
        · omega

/-- The strip's border stays zero through the trips. -/
theorem strip_border (hb : Border arg27 X27) (n : ℕ) (hn : n ≤ 11) :
    Border arg27 (arg27.view.writes (Elt Ideal) X27 (pbStrip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X1 X3 X6 X7 X28 X27 n)) := by
  induction n with
  | zero => exact hb
  | succ n ih =>
    let k : Fin k0_t3_loop.trips := ⟨n, hn⟩
    rw [show n + 1 = k.val + 1 from rfl, pbStrip_k0_t3_succ, trip3_strip, View.writes_append]
    intro r b l h
    refine ((stripL_tiles arg3 X3 k).read_of_not_mem arg27.view _ _ h).trans ?_
    exact ih (by omega) r b l h

/-- The strip during trip `k`: the image's channel block, with zeros around. -/
theorem strip_trip (hb : Border arg27 X27) (k : Fin k0_t3_loop.trips) (r : Fin 14) (b : Fin 32) (l : Fin 128) :
    arg27.view.read (Elt Ideal) (arg27.view.writes (Elt Ideal) X27 (stripL (F := Ideal) arg3 X3 k)) (ix3 r b l)
      = if hb : 8 ≤ b.val ∧ b.val < 24 then imgOf arg3 X3 r ⟨b.val - 8, by omega⟩
          ⟨128 * k.val + l.val, by have := k.isLt; have : k0_t3_loop.trips = 11 := rfl; omega⟩ else (0 : EReal) := by
  by_cases h : 8 ≤ b.val ∧ b.val < 24
  · exact (stripL_tiles arg3 X3 k).read_of_mem arg27.view X27 (ix3 r b l) h
  · rw [dif_neg h]
    exact ((stripL_tiles arg3 X3 k).read_of_not_mem arg27.view X27 (ix3 r b l) h).trans (hb r b l h)

/-- The convolution's loop: the first `128 n` channels hold the convolution. -/
theorem conv_tiles (hb : Border arg27 X27) (n : ℕ) (hn : n ≤ 11) :
    Cert.Tiles.Tiles (s := S224x1408) (convG arg1 arg3 arg6 arg7 arg28 X1 X3 X6 X7 X28) (fun y => (y 1).val < 128 * n)
      (pbOut_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X1 X3 X6 X7 X28 X27 n) := by
  induction n with
  | zero => exact (Cert.Tiles.Tiles.nil _).dom fun y => by simp
  | succ n ih =>
    let k : Fin k0_t3_loop.trips := ⟨n, hn⟩
    have hbn := strip_border c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X1 X3 X6 X7 X28 X27 hb n (by omega)
    rw [show n + 1 = k.val + 1 from rfl, pbOut_k0_t3_succ]
    obtain ⟨v321, e⟩ := trip3_out c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X1 X3 X6 X7 X28 (arg27.view.writes (Elt Ideal) X27
      (pbStrip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X1 X3 X6 X7 X28 X27 k.val)) k
    rw [e]
    refine ((pb4_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X1 X3 X6 X7 X28 _ k v321 _ _ (strip_trip arg3 arg27 X3 _ hbn k) ?_ ?_ 2 le_rfl).append (ih (by omega))).dom fun y => ?_
    · intro l d hd
      refine (Cert.Tiles.load2 arg6.view X6 (k0_off180_eq k) (k0_off180_inb k) 0 l (by simp) (by omega)).trans ?_
      congr 2; exact Fin.ext hd.symm
    · intro l d hd
      refine (Cert.Tiles.load2 arg7.view X7 (k0_off180_eq k) (k0_off180_inb k) 0 l (by simp) (by omega)).trans ?_
      congr 2; exact Fin.ext hd.symm
    · have hk : k.val = n := rfl
      have : (y 0).val % 16 < 16 := Nat.mod_lt _ (by norm_num)
      omega

theorem conv_read (hb : Border arg27 X27) (f : BufTy.Contents (Elt Ideal) arg29.view.ty) :
    arg29.view.read (Elt Ideal) (arg29.view.writes (Elt Ideal) f
        (pbOut_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X1 X3 X6 X7 X28 X27 11))
      = convG arg1 arg3 arg6 arg7 arg28 X1 X3 X6 X7 X28 :=
  funext fun y => (conv_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X1 X3 X6 X7 X28 X27 hb 11 le_rfl).read_of_mem arg29.view f y (y 1).isLt

end Values
end Cert.KernelIdeal.Gen
end
-- ==== Proof.Pay.lean ====
/- Each payload of the kernel read at an index: the scalar functions of the specification. -/
module

public import proofs.«01_k».proof.Proof.Gen.KernelIdeal.Loops
public import Idealize.ShloMosaic.Lib.Pointwise
public import proofs.«01_k».proof.Proof.Spec

@[expose] public section

set_option maxRecDepth 16384

noncomputable section

namespace Cert.KernelIdeal.Gen

open Idealize.ShloMosaic Idealize.ShloMosaic.TcCoe Idealize.ShloMosaic.Tactic Cert.Spec

/-- One over 1408, as the kernel names it. -/
def invC : EReal := Named.named (F := Ideal) (φ := .f32) κ "inv_c" 976891532#32

/-- One over 5632, as the kernel names it. -/
def invHid : EReal := Named.named (F := Ideal) (φ := .f32) κ "inv_hid" 960114316#32

/-- One normalised row of a block of sixteen. -/
def lnRow (A : FVec Ideal S16x1408 .f32) (g b : FVec Ideal S1x1408 .f32) (r : Fin 16) : Fin 1408 → EReal :=
  ln invC (fun x => A (ix2 r x)) (fun x => g (ix2 0 x)) fun x => b (ix2 0 x)

theorem pay486_apply (A : FVec Ideal S16x1408 .f32) (g b : FVec Ideal S1x1408 .f32) (r : Fin 16) (k : Fin 1408) :
    k0_pay486 (F := Ideal) A g b (ix2 r k) = lnRow A g b r k := by
  pointwise [k0_pay486, lnRow, ln, invC]

theorem pay487_apply (A : FVec Ideal S16x1408 .f32) (g b : FVec Ideal S1x1408 .f32) (r : Fin 16) :
    k0_pay487 (F := Ideal) A g b (ix2 r 0) = scale (lnRow A g b r) := by
  pointwise [k0_pay487, scale, pay486_apply]

theorem pay501_apply (v : FVec Ideal S16x1408 .f32) (s : FVec Ideal S16x1 .f32) (cst : Ideal .f32) (r : Fin 16) (k : Fin 1408) :
    k0_pay501 (F := Ideal) v s cst (ix2 r k) = code ((v (ix2 r k) : EReal) * Ideal.div cst (s (ix2 r 0))) := by
  pointwise [k0_pay501, code]

theorem pay502_apply (v : FVec Ideal S16x1408 .f32) (s : FVec Ideal S16x1 .f32) (cst : Ideal .f32) (r : Fin 16) (k : Fin 1408) :
    k0_pay502 (F := Ideal) v s cst (ix4 0 0 r k) = code ((v (ix2 r k) : EReal) * Ideal.div cst (s (ix2 r 0))) := by
  pointwise [k0_pay502, pay501_apply]

theorem pay503_apply (v : FVec Ideal S16x1408 .f32) (s : FVec Ideal S16x1 .f32) (cst : Ideal .f32) (r : Fin 16) (k : Fin 1408) :
    k0_pay503 (F := Ideal) v s cst (ix2 r k)
      = FloatOps.sitofp (F := Ideal) .bf16 (w := 8) (code ((v (ix2 r k) : EReal) * Ideal.div cst (s (ix2 r 0)))) := by
  pointwise [k0_pay503, pay501_apply]

/-- The mask of the diagonal picks one summand. -/
theorem diag (s : Fin 16 → EReal) (r : Fin 16) : ∑ x : Fin 16, Scalar.select (k0_pay500 (ix2 x r)) (s x) (0 : EReal) = s r := by
  rw [Finset.sum_eq_single r]
  · have : k0_pay500 (ix2 r r) = 1#1 := by revert r; decide +kernel
    rw [this]; rfl
  · intro x _ hx
    have : k0_pay500 (ix2 x r) = 0#1 := by revert x r; decide +kernel
    rw [this]; rfl
  · exact fun h => absurd (Finset.mem_univ r) h

theorem pay504_apply (s : FVec Ideal S16x1 .f32) (r : Fin 16) : k0_pay504 (F := Ideal) s (ix3 0 0 r) = s (ix2 r 0) := by
  pointwise [k0_pay504]
  exact diag (fun x => s (ix2 x 0)) r

theorem pay505_apply (s : FVec Ideal S16x1 .f32) (r : Fin 16) (k : Fin 128) : k0_pay505 (F := Ideal) s (ix2 r k) = s (ix2 r 0) := by
  pointwise [k0_pay505]

/-- One row of the hidden layer's tile. -/
def hidRow (A : FVec Ideal S224x1408 .bf16) (W : FVec Ideal S1408x512 .bf16) (S : FVec Ideal S224x1 .f32) (B : FVec Ideal S1x512 .f32)
    (p : Fin 224) (k : Fin 512) : EReal :=
  gelu (dense (fun c => A (ix2 p c)) (fun c k => W (ix2 c k)) (S (ix2 p 0)) (fun k => B (ix2 0 k)) k)

theorem pay506_apply (A : FVec Ideal S224x1408 .bf16) (W : FVec Ideal S1408x512 .bf16) (S : FVec Ideal S224x1 .f32) (B : FVec Ideal S1x512 .f32)
    (p : Fin 224) (k : Fin 512) : k0_pay506 (F := Ideal) A W S B (ix2 p k) = hidRow A W S B p k := by
  pointwise [k0_pay506, hidRow, gelu, dense]
  rfl

theorem pay507_apply (A : FVec Ideal S224x1408 .bf16) (W : FVec Ideal S1408x512 .bf16) (S : FVec Ideal S224x1 .f32) (B : FVec Ideal S1x512 .f32)
    (p : Fin 224) (k : Fin 512) : k0_pay507 (F := Ideal) A W S B (ix2 p k) = hidRow A W S B p k := by
  pointwise [k0_pay507, pay506_apply]

theorem pay508_apply (A : FVec Ideal S224x1408 .bf16) (W : FVec Ideal S1408x512 .bf16) (S : FVec Ideal S224x1 .f32) (B : FVec Ideal S1x512 .f32)
    (k : Fin 512) : k0_pay508 (F := Ideal) A W S B (ix2 0 k) = Ideal.sqrt (∑ p : Fin 224, hidRow A W S B p k * hidRow A W S B p k) := by
  pointwise [k0_pay508, pay506_apply]

theorem pay509_apply (v : FVec Ideal S1x5632 .f32) (k : Fin 5632) :
    k0_pay509 (F := Ideal) v (ix2 0 k) = respond invHid (fun x => v (ix2 0 x)) k := by
  pointwise [k0_pay509, respond, invHid]
  rw [Fin.sum_univ_one]

/-- One row of the hidden layer after the response normalisation. -/
def grnRow (V : FVec Ideal S16x5632 .f32) (g nx b : FVec Ideal S1x5632 .f32) (r : Fin 16) (k : Fin 5632) : EReal :=
  grn (V (ix2 r k)) (nx (ix2 0 k)) (g (ix2 0 k)) (b (ix2 0 k))

theorem pay488_apply (V : FVec Ideal S16x5632 .f32) (g nx b : FVec Ideal S1x5632 .f32) (r : Fin 16) (k : Fin 5632) :
    k0_pay488 (F := Ideal) V g nx b (ix2 r k) = grnRow V g nx b r k := by
  pointwise [k0_pay488, grnRow, grn]

theorem pay489_apply (V : FVec Ideal S16x5632 .f32) (g nx b : FVec Ideal S1x5632 .f32) (r : Fin 16) :
    k0_pay489 (F := Ideal) V g nx b (ix2 r 0) = scale (grnRow V g nx b r) := by
  pointwise [k0_pay489, scale, pay488_apply]

theorem pay490_apply (V : FVec Ideal S16x5632 .f32) (g nx b : FVec Ideal S1x5632 .f32) (r : Fin 16) (k : Fin 5632) :
    k0_pay490 (F := Ideal) V g nx b (ix2 r k) = rowCode (grnRow V g nx b r) k := by
  pointwise [k0_pay490, rowCode, code, pay488_apply, pay489_apply]

theorem pay510_apply (v : IVec S16x5632 8) (r : Fin 16) (k : Fin 5632) : k0_pay510 v (ix4 0 0 r k) = v (ix2 r k) := by
  pointwise [k0_pay510]

theorem pay511_apply (v : IVec S16x5632 8) (r : Fin 16) (k : Fin 5632) :
    k0_pay511 (F := Ideal) v (ix2 r k) = FloatOps.sitofp (F := Ideal) .bf16 (w := 8) (v (ix2 r k)) := by
  pointwise [k0_pay511]

theorem pay512_apply (s : FVec Ideal S16x1 .f32) (r : Fin 16) : k0_pay512 (F := Ideal) s (ix3 0 0 r) = s (ix2 r 0) := by
  pointwise [k0_pay512]
  exact diag (fun x => s (ix2 x 0)) r

theorem pay513_apply (s : FVec Ideal S16x1 .f32) (r : Fin 16) (k : Fin 128) : k0_pay513 (F := Ideal) s (ix2 r k) = s (ix2 r 0) := by
  pointwise [k0_pay513]

theorem pay514_apply (s : EReal) (k : Fin 1408) : k0_pay514 (F := Ideal) s (ix2 0 k) = Ideal.div 1 s := by
  pointwise [k0_pay514]

theorem pay515_apply (A : FVec Ideal S224x5632 .bf16) (W : FVec Ideal S5632x1408 .bf16) (S : FVec Ideal S224x1 .f32) (B : FVec Ideal S1x1408 .f32)
    (p : Fin 224) (k : Fin 1408) : k0_pay515 (F := Ideal) A W S B (ix2 p k)
      = dense (fun c => A (ix2 p c)) (fun c k => W (ix2 c k)) (S (ix2 p 0)) (fun k => B (ix2 0 k)) k := by
  pointwise [k0_pay515, dense]

end Cert.KernelIdeal.Gen

end
-- ==== Proof.Block.lean ====
/- One grid point's block of the kernel as a function of its input blocks: every stage of the specification applied to the stage before it. -/
module

public import proofs.«01_k».proof.Proof.Pay
public import proofs.«01_k».proof.Proof.Spec

@[expose] public section

set_option maxRecDepth 16384

noncomputable section

namespace Cert.KernelIdeal.Gen

open Idealize.ShloMosaic Idealize.ShloMosaic.TcCoe Cert.Spec

/-- The input blocks of a grid point, in the order of the kernel's windows. -/
structure In where
  x0 : Vec Ideal S1 .f32
  x1 : Vec Ideal S1 .f32
  x2 : Vec Ideal S1x14x16x1408 .i8
  x3 : Vec Ideal S1x14x16x1408 .bf16
  x4 : Vec Ideal S7x7x1408 .i8
  x5 : Vec Ideal S1x1408 .f32
  x6 : Vec Ideal S1x1408 .f32
  x7 : Vec Ideal S1x1408 .f32
  x8 : Vec Ideal S1x1408 .f32
  x9 : Vec Ideal S704x5632 .i8
  x10 : Vec Ideal S11x5632 .bf16
  x11 : Vec Ideal S1x5632 .f32
  x12 : Vec Ideal S1x5632 .f32
  x13 : Vec Ideal S1x5632 .f32
  x14 : Vec Ideal S2816x1408 .i8
  x15 : Vec Ideal S44x1408 .bf16
  x16 : Vec Ideal S1x1408 .f32

/-- The pixel `16 h + w`. -/
def pix (h : Fin 14) (w : Fin 16) : Fin 224 := ⟨16 * h.val + w.val, by omega⟩

namespace In

variable (B : In)

/-- The convolution's weights as numbers. -/
def dww (a b : Fin 7) (d : Fin 1408) : EReal := FloatOps.sitofp (F := Ideal) .f32 (w := 8) (B.x4 (ix3 a b d))

/-- The convolution. -/
def d (p : Fin 224) : Fin 1408 → EReal :=
  conv (fun h w d => FloatOps.sitofp (F := Ideal) .f32 (w := 8) (B.x2 (ix4 0 h w d))) B.dww (B.x0 (ix1 0)) (fun d => B.x5 (ix2 0 d))
    (fun d => B.x6 (ix2 0 d)) p

/-- Layer normalisation. -/
def n1 (p : Fin 224) : Fin 1408 → EReal := ln invC (B.d p) (fun x => B.x7 (ix2 0 x)) fun x => B.x8 (ix2 0 x)

/-- Its codes as numbers. -/
def a1 (p : Fin 224) (k : Fin 1408) : EReal := FloatOps.sitofp (F := Ideal) .bf16 (w := 8) (rowCode (B.n1 p) k)

/-- The first weight matrix. -/
def w1 (r : Fin 1408) (n : Fin 5632) : EReal := wide (fun r n => B.x9 (ix2 r n)) (fun g n => B.x10 (ix2 g n)) rfl rfl r n

/-- The hidden layer. -/
def h (p : Fin 224) (n : Fin 5632) : EReal := gelu (dense (B.a1 p) B.w1 (scale (B.n1 p)) (fun n => B.x11 (ix2 0 n)) n)

/-- Its column norms. -/
def gx (n : Fin 5632) : EReal := colNorm B.h n

/-- The response factor. -/
def nx (n : Fin 5632) : EReal := respond invHid B.gx n

/-- Response normalisation. -/
def g (p : Fin 224) (n : Fin 5632) : EReal := grn (B.h p n) (B.nx n) (B.x12 (ix2 0 n)) (B.x13 (ix2 0 n))

/-- Its codes as numbers. -/
def a2 (p : Fin 224) (k : Fin 5632) : EReal := FloatOps.sitofp (F := Ideal) .bf16 (w := 8) (rowCode (B.g p) k)

/-- The second weight matrix. -/
def w2 (r : Fin 5632) (n : Fin 1408) : EReal := wide (fun r n => B.x14 (ix2 r n)) (fun g n => B.x15 (ix2 g n)) rfl rfl r n

/-- The second dense layer. -/
def y (p : Fin 224) (k : Fin 1408) : EReal := dense (B.a2 p) B.w2 (scale (B.g p)) (fun k => B.x16 (ix2 0 k)) k

/-- The residual sum. -/
def r (h : Fin 14) (w : Fin 16) (k : Fin 1408) : EReal := (show EReal from B.x3 (ix4 0 h w k)) + B.y (pix h w) k

/-! The buffers. -/

def outV : Vec Ideal S1x14x16x1408 .bf16 := fun y => B.r (y 1) (y 2) (y 3)
def codesV : Vec Ideal S1x14x16x1408 .i8 := fun y => code (B.r (y 1) (y 2) (y 3) * Ideal.div 1 (B.x1 (ix1 0)))
def gxV : Vec Ideal S1x5632 .f32 := fun y => B.gx (y 1)
def a1cV : Vec Ideal S1x14x16x1408 .i8 := fun y => rowCode (B.n1 (pix (y 1) (y 2))) (y 3)
def a1sV : Vec Ideal S1x14x16 .f32 := fun y => scale (B.n1 (pix (y 1) (y 2)))
def a2cV : Vec Ideal S1x14x16x5632 .i8 := fun y => rowCode (B.g (pix (y 1) (y 2))) (y 3)
def a2sV : Vec Ideal S1x14x16 .f32 := fun y => scale (B.g (pix (y 1) (y 2)))
def w1V : Vec Ideal S1408x5632 .bf16 := fun y => B.w1 (y 0) (y 1)
def w2V : Vec Ideal S5632x1408 .bf16 := fun y => B.w2 (y 0) (y 1)
def dwwV : Vec Ideal S7x7x1408 .f32 := fun y => B.dww (y 0) (y 1) (y 2)
def dV : Vec Ideal S224x1408 .f32 := fun y => B.d (y 0) (y 1)
def a1V : Vec Ideal S224x1408 .bf16 := fun y => B.a1 (y 0) (y 1)
def hV : Vec Ideal S224x5632 .f32 := fun y => B.h (y 0) (y 1)
def a2V : Vec Ideal S224x5632 .bf16 := fun y => B.a2 (y 0) (y 1)
def nxV : Vec Ideal S1x5632 .f32 := fun y => B.nx (y 1)

/-- The column norms of all images, with row `b` replaced by this block's. -/
def gxRow (Y : Vec Ideal S6x5632 .f32) (b : ℕ) : Vec Ideal S6x5632 .f32 := fun y => if (y 0).val = b then B.gx (y 1) else Y y

end In

end Cert.KernelIdeal.Gen

end
-- ==== Proof.Rows.lean ====
/- The loops over rows and column tiles, read as values: layer normalisation with its codes and scales (fourteen trips of sixteen rows), the
   hidden layer with its column norms (eleven trips of 512 columns), and response normalisation with its codes and scales (fourteen trips of
   sixteen rows). -/
module

public import proofs.«01_k».proof.Proof.Block
public import proofs.«01_k».proof.Proof.Tiles

@[expose] public section

set_option maxRecDepth 16384

noncomputable section

namespace Cert.KernelIdeal.Gen

open Idealize.ShloMosaic Idealize.ShloMosaic.TcCoe Idealize.ShloMosaic.Tactic Cert.Spec Cert.Tiles

section
variable (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)

section Norm
variable (X8 : BufTy.Contents (Elt Ideal) arg8.view.ty) (X9 : BufTy.Contents (Elt Ideal) arg9.view.ty)
  (f21 : BufTy.Contents (Elt Ideal) arg21.view.ty) (f22 : BufTy.Contents (Elt Ideal) arg22.view.ty)
  (f29 : BufTy.Contents (Elt Ideal) arg29.view.ty) (f30 : BufTy.Contents (Elt Ideal) arg30.view.ty)

/-- The sixteen rows trip `k` loads. -/
def ld29 (k : Fin k0_t5_loop.trips) : Vec Ideal S16x1408 .f32 :=
  View.readAt (Elt Ideal) arg29.view (Rect.unit (s := S224x1408) (k0_off245 k) S16x1408.size (k0_off245_inb k)).toLoadRect f29

/-- The scale vector of the layer normalisation. -/
def ld8 : Vec Ideal S1x1408 .f32 :=
  View.readAt (Elt Ideal) arg8.view (Rect.unit (s := S1x1408) ![0, 0] S1x1408.size inb_S1x1408_S1x1408_0_0).toLoadRect X8

/-- The shift vector of the layer normalisation. -/
def ld9 : Vec Ideal S1x1408 .f32 :=
  View.readAt (Elt Ideal) arg9.view (Rect.unit (s := S1x1408) ![0, 0] S1x1408.size inb_S1x1408_S1x1408_0_0).toLoadRect X9

set_option maxHeartbeats 1000000 in
theorem trip5_eq (k : Fin k0_t5_loop.trips) :
    tripL_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X8 X9 k f21 f22 f29 f30
    = ([⟨Rect.unit (k0_off246 k) S1x1x16x1408.size (k0_off246_inb k), k0_pay502 (k0_pay486 (ld29 arg29 f29 k) (ld8 arg8 X8) (ld9 arg9 X9))
          (k0_pay487 (ld29 arg29 f29 k) (ld8 arg8 X8) (ld9 arg9 X9)) (Scalar.ofBits .f32 0x3F800000#32)⟩],
       [⟨Rect.unit (k0_off247 k) S1x1x16.size (k0_off247_inb k), k0_pay504 (k0_pay487 (ld29 arg29 f29 k) (ld8 arg8 X8) (ld9 arg9 X9))⟩],
       [⟨Rect.unit (k0_off248 k) S16x128.size (k0_off248_inb k), k0_pay505 (k0_pay487 (ld29 arg29 f29 k) (ld8 arg8 X8) (ld9 arg9 X9))⟩],
       [⟨Rect.unit (k0_off245 k) S16x1408.size (k0_off245_inb k), k0_pay503 (k0_pay486 (ld29 arg29 f29 k) (ld8 arg8 X8) (ld9 arg9 X9))
          (k0_pay487 (ld29 arg29 f29 k) (ld8 arg8 X8) (ld9 arg9 X9)) (Scalar.ofBits .f32 0x3F800000#32)⟩]) := by
  unfold tripL_k0_t5 trip_k0_t5
  rfl

/-- Row `p` after layer normalisation. -/
def lnOf (p : Fin 224) : Fin 1408 → EReal :=
  ln invC (fun x => arg29.view.read (Elt Ideal) f29 (ix2 p x)) (fun x => arg8.view.read (Elt Ideal) X8 (ix2 0 x))
    fun x => arg9.view.read (Elt Ideal) X9 (ix2 0 x)

theorem lnRow_eq (k : Fin k0_t5_loop.trips) (g29 : BufTy.Contents (Elt Ideal) arg29.view.ty) (r : Fin 16) (p : Fin 224) (hp : p.val = 16 * k.val + r.val)
    (h : ∀ x, arg29.view.read (Elt Ideal) g29 (ix2 p x) = arg29.view.read (Elt Ideal) f29 (ix2 p x)) :
    lnRow (ld29 arg29 g29 k) (ld8 arg8 X8) (ld9 arg9 X9) r = lnOf arg8 arg9 arg29 X8 X9 f29 p := by
  unfold lnRow lnOf
  congr 1
  · funext x
    exact (load2' arg29.view g29 (k0_off245_eq k) (k0_off245_inb k) r x p x hp (by simp)).trans (h x)
  · funext x
    exact load2' arg8.view X8 rfl inb_S1x1408_S1x1408_0_0 0 x 0 x rfl (by simp)
  · funext x
    exact load2' arg9.view X9 rfl inb_S1x1408_S1x1408_0_0 0 x 0 x rfl (by simp)

/-- The loop's four lists of stores after `n` trips: codes, scales as an image, scales along the rows, codes as numbers. -/
theorem norm_tiles (n : ℕ) (hn : n ≤ 14) :
    Tiles (s := S1x14x16x1408) (fun y => rowCode (lnOf arg8 arg9 arg29 X8 X9 f29 (pix (y 1) (y 2))) (y 3)) (fun y => (y 1).val < n)
      (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X8 X9 f21 f22 f29 f30 n).1
    ∧ Tiles (s := S1x14x16) (fun y => (scale (lnOf arg8 arg9 arg29 X8 X9 f29 (pix (y 1) (y 2))) : EReal)) (fun y => (y 1).val < n)
      (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X8 X9 f21 f22 f29 f30 n).2.1
    ∧ Tiles (s := S224x1408) (fun y => (scale (lnOf arg8 arg9 arg29 X8 X9 f29 (y 0)) : EReal)) (fun y => (y 0).val < 16 * n ∧ (y 1).val < 128)
      (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X8 X9 f21 f22 f29 f30 n).2.2.1
    ∧ Tiles (s := S224x1408) (fun y => FloatOps.sitofp (F := Ideal) .bf16 (w := 8) (rowCode (lnOf arg8 arg9 arg29 X8 X9 f29 (y 0)) (y 1)))
        (fun y => (y 0).val < 16 * n)
      (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X8 X9 f21 f22 f29 f30 n).2.2.2 := by
  induction n with
  | zero =>
    exact ⟨(Tiles.nil _).dom fun y => by simp, (Tiles.nil _).dom fun y => by simp, (Tiles.nil _).dom fun y => by simp,
      (Tiles.nil _).dom fun y => by simp⟩
  | succ n ih =>
    obtain ⟨h1, h2, h3, h4⟩ := ih (by omega)
    let k : Fin k0_t5_loop.trips := ⟨n, hn⟩
    have hk : k.val = n := rfl
    rw [show n + 1 = k.val + 1 from rfl, pb_k0_t5_succ, trip5_eq]
    have hrow : ∀ (r : Fin 16) (p : Fin 224), p.val = 16 * k.val + r.val → lnRow (ld29 arg29 (arg29.view.writes (Elt Ideal) f29
        (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X8 X9 f21 f22 f29 f30 k.val).2.2.1) k) (ld8 arg8 X8) (ld9 arg9 X9) r
        = lnOf arg8 arg9 arg29 X8 X9 f29 p := fun r p hp =>
      lnRow_eq arg8 arg9 arg29 X8 X9 f29 k _ r p hp fun x => h3.read_of_not_mem arg29.view f29 (ix2 p x) (by
        rintro ⟨h, _⟩; have h' : p.val < 16 * n := h; omega)
    have one : (Scalar.ofBits (F := Ideal) .f32 0x3F800000#32 : EReal) = 1 := by
      show Ideal.ofBits .f32 0x3F800000#32 = 1
      simp [Ideal.ofBits, Ideal.ieee, -EReal.coe_mul]; norm_num
    refine ⟨?_, ?_, ?_, ?_⟩
    · refine ((Tiles.unit4 (k0_off246_eq k) _ _ _ fun a b r x ha hb hr hx => ?_).append h1).dom fun y => ?_
      · obtain rfl : a = 0 := Subsingleton.elim _ _
        obtain rfl : b = 0 := Subsingleton.elim _ _
        refine (pay502_apply _ _ _ r x).trans ?_
        rw [pay486_apply, pay487_apply, one, hrow r (pix ⟨k.val, k.isLt⟩ r) rfl]
        refine (congrArg₂ (fun p x => rowCode (lnOf arg8 arg9 arg29 X8 X9 f29 p) x) (Fin.ext ?_) (Fin.ext ?_))
        · show 16 * k.val + r.val = 16 * (k.val + 0) + (0 + r.val); omega
        · show x.val = 0 + x.val; omega
      · have h0 : (y 0).val < 1 := (y 0).isLt
        have h2 : (y 2).val < 16 := (y 2).isLt
        have h3 : (y 3).val < 1408 := (y 3).isLt
        omega
    · refine ((Tiles.unit3 (k0_off247_eq k) _ _ _ fun a b r ha hb hr => ?_).append h2).dom fun y => ?_
      · obtain rfl : a = 0 := Subsingleton.elim _ _
        obtain rfl : b = 0 := Subsingleton.elim _ _
        refine (pay504_apply _ r).trans ?_
        rw [pay487_apply, hrow r (pix ⟨k.val, k.isLt⟩ r) rfl]
        refine congrArg (fun p => scale (lnOf arg8 arg9 arg29 X8 X9 f29 p)) (Fin.ext ?_)
        show 16 * k.val + r.val = 16 * (k.val + 0) + (0 + r.val); omega
      · have h0 : (y 0).val < 1 := (y 0).isLt
        have h2 : (y 2).val < 16 := (y 2).isLt
        omega
    · refine ((Tiles.unit2 (k0_off248_eq k) _ _ _ fun r x hr hx => ?_).append h3).dom fun y => ?_
      · refine (pay505_apply _ r x).trans ?_
        rw [pay487_apply, hrow r ⟨16 * k.val + r.val, hr⟩ rfl]
        rfl
      · omega
    · refine ((Tiles.unit2 (k0_off245_eq k) _ _ _ fun r x hr hx => ?_).append h4).dom fun y => ?_
      · refine (pay503_apply _ _ _ r x).trans ?_
        rw [pay486_apply, pay487_apply, one, hrow r ⟨16 * k.val + r.val, hr⟩ rfl]
        refine congrArg (fun x => FloatOps.sitofp (F := Ideal) .bf16 (w := 8) (rowCode (lnOf arg8 arg9 arg29 X8 X9 f29 ⟨16 * k.val + r.val, hr⟩) x))
          (Fin.ext ?_)
        show x.val = 0 + x.val; omega
      · have h1 : (y 1).val < 1408 := (y 1).isLt
        omega
end Norm

section Hidden
variable (X12 : BufTy.Contents (Elt Ideal) arg12.view.ty) (X25 : BufTy.Contents (Elt Ideal) arg25.view.ty)
  (X29 : BufTy.Contents (Elt Ideal) arg29.view.ty) (X30 : BufTy.Contents (Elt Ideal) arg30.view.ty)

set_option maxHeartbeats 1000000 in
theorem trip6_eq (k : Fin k0_t6_loop.trips) :
    tripL_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X12 X25 X29 X30 k
    = ([⟨Rect.unit (k0_off251 k) S224x512.size (k0_off251_inb k), k0_pay507
          (View.readAt (Elt Ideal) arg30.view (Rect.unit (s := S224x1408) ![0, 0] S224x1408.size inb_S224x1408_S224x1408_0_0).toLoadRect X30)
          (View.readAt (Elt Ideal) arg25.view (Rect.unit (s := S1408x5632) (k0_off249 k) S1408x512.size (k0_off249_inb k)).toLoadRect X25)
          (View.readAt (Elt Ideal) arg29.view (Rect.unit (s := S224x1408) ![0, 0] S224x1.size inb_S224x1408_S224x1_0_0).toLoadRect X29)
          (View.readAt (Elt Ideal) arg12.view (Rect.unit (s := S1x5632) (k0_off250 k) S1x512.size (k0_off250_inb k)).toLoadRect X12)⟩],
       [⟨Rect.unit (k0_off250 k) S1x512.size (k0_off250_inb k), k0_pay508
          (View.readAt (Elt Ideal) arg30.view (Rect.unit (s := S224x1408) ![0, 0] S224x1408.size inb_S224x1408_S224x1408_0_0).toLoadRect X30)
          (View.readAt (Elt Ideal) arg25.view (Rect.unit (s := S1408x5632) (k0_off249 k) S1408x512.size (k0_off249_inb k)).toLoadRect X25)
          (View.readAt (Elt Ideal) arg29.view (Rect.unit (s := S224x1408) ![0, 0] S224x1.size inb_S224x1408_S224x1_0_0).toLoadRect X29)
          (View.readAt (Elt Ideal) arg12.view (Rect.unit (s := S1x5632) (k0_off250 k) S1x512.size (k0_off250_inb k)).toLoadRect X12)⟩]) := by
  unfold tripL_k0_t6 trip_k0_t6
  rfl

/-- The hidden layer from the buffers it is computed from. -/
def hidOf (p : Fin 224) (n : Fin 5632) : EReal :=
  gelu (dense (fun d => arg30.view.read (Elt Ideal) X30 (ix2 p d)) (fun d n => arg25.view.read (Elt Ideal) X25 (ix2 d n))
    (arg29.view.read (Elt Ideal) X29 (ix2 p 0)) (fun n => arg12.view.read (Elt Ideal) X12 (ix2 0 n)) n)

theorem hidRow_eq (k : Fin k0_t6_loop.trips) (p : Fin 224) (l : Fin 512) (n : Fin 5632) (hn : n.val = 512 * k.val + l.val) :
    hidRow (View.readAt (Elt Ideal) arg30.view (Rect.unit (s := S224x1408) ![0, 0] S224x1408.size inb_S224x1408_S224x1408_0_0).toLoadRect X30)
      (View.readAt (Elt Ideal) arg25.view (Rect.unit (s := S1408x5632) (k0_off249 k) S1408x512.size (k0_off249_inb k)).toLoadRect X25)
      (View.readAt (Elt Ideal) arg29.view (Rect.unit (s := S224x1408) ![0, 0] S224x1.size inb_S224x1408_S224x1_0_0).toLoadRect X29)
      (View.readAt (Elt Ideal) arg12.view (Rect.unit (s := S1x5632) (k0_off250 k) S1x512.size (k0_off250_inb k)).toLoadRect X12) p l
      = hidOf arg12 arg25 arg29 arg30 X12 X25 X29 X30 p n := by
  unfold hidRow hidOf dense
  refine congrArg gelu ?_
  refine congrArg₂ (· + ·) (congrArg₂ (· * ·) (Finset.sum_congr rfl fun d _ => congrArg₂ (· * ·) ?_ ?_) ?_) ?_
  · exact load2' arg30.view X30 rfl inb_S224x1408_S224x1408_0_0 p d p d (by simp) (by simp)
  · exact load2' arg25.view X25 (k0_off249_eq k) (k0_off249_inb k) d l d n (by simp) hn
  · exact load2' arg29.view X29 rfl inb_S224x1408_S224x1_0_0 p 0 p 0 (by simp) rfl
  · exact load2' arg12.view X12 (k0_off250_eq k) (k0_off250_inb k) 0 l 0 n rfl hn

/-- The loop's two lists of stores after `n` trips: the hidden layer and its column norms. -/
theorem hidden_tiles (n : ℕ) (hn : n ≤ 11) :
    Tiles (s := S224x5632) (fun y => hidOf arg12 arg25 arg29 arg30 X12 X25 X29 X30 (y 0) (y 1)) (fun y => (y 1).val < 512 * n)
      (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X12 X25 X29 X30 n).1
    ∧ Tiles (s := S1x5632) (fun y => colNorm (hidOf arg12 arg25 arg29 arg30 X12 X25 X29 X30) (y 1)) (fun y => (y 1).val < 512 * n)
      (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X12 X25 X29 X30 n).2 := by
  induction n with
  | zero => exact ⟨(Tiles.nil _).dom fun y => by simp, (Tiles.nil _).dom fun y => by simp⟩
  | succ n ih =>
    obtain ⟨h1, h2⟩ := ih (by omega)
    let k : Fin k0_t6_loop.trips := ⟨n, hn⟩
    have hk : k.val = n := rfl
    rw [show n + 1 = k.val + 1 from rfl, pb_k0_t6_succ, trip6_eq]
    refine ⟨?_, ?_⟩
    · refine ((Tiles.unit2 (k0_off251_eq k) _ _ _ fun p l hp hl => ?_).append h1).dom fun y => ?_
      · refine (pay507_apply _ _ _ _ p l).trans ?_
        rw [hidRow_eq arg12 arg25 arg29 arg30 X12 X25 X29 X30 k p l ⟨512 * k.val + l.val, hl⟩ rfl]
        refine congrArg (fun p => hidOf arg12 arg25 arg29 arg30 X12 X25 X29 X30 p ⟨512 * k.val + l.val, hl⟩) (Fin.ext ?_)
        show p.val = 0 + p.val; omega
      · have h0 : (y 0).val < 224 := (y 0).isLt
        omega
    · refine ((Tiles.unit2 (k0_off250_eq k) _ _ _ fun p l hp hl => ?_).append h2).dom fun y => ?_
      · obtain rfl : p = 0 := Subsingleton.elim _ _
        refine (pay508_apply _ _ _ _ l).trans (congrArg Ideal.sqrt (Finset.sum_congr rfl fun p _ => ?_))
        rw [hidRow_eq arg12 arg25 arg29 arg30 X12 X25 X29 X30 k p l ⟨512 * k.val + l.val, hl⟩ rfl]
        rfl
      · have h0 : (y 0).val < 1 := (y 0).isLt
        omega
end Hidden

section Response
variable (X13 : BufTy.Contents (Elt Ideal) arg13.view.ty) (X14 : BufTy.Contents (Elt Ideal) arg14.view.ty)
  (X31 : BufTy.Contents (Elt Ideal) arg31.view.ty) (X33 : BufTy.Contents (Elt Ideal) arg33.view.ty)

/-- The sixteen rows trip `k` loads. -/
def ld31 (k : Fin k0_t7_loop.trips) : Vec Ideal S16x5632 .f32 :=
  View.readAt (Elt Ideal) arg31.view (Rect.unit (s := S224x5632) (k0_off253 k) S16x5632.size (k0_off253_inb k)).toLoadRect X31

/-- A row vector of the hidden width, loaded whole. -/
def ldH (a : Memref sig .tc .vmem S1x5632 .f32) (X : BufTy.Contents (Elt Ideal) a.view.ty) : Vec Ideal S1x5632 .f32 :=
  View.readAt (Elt Ideal) a.view (Rect.unit (s := S1x5632) ![0, 0] S1x5632.size inb_S1x5632_S1x5632_0_0).toLoadRect X

set_option maxHeartbeats 1000000 in
theorem trip7_eq (k : Fin k0_t7_loop.trips) :
    tripL_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X13 X14 X31 X33 k
    = ([⟨Rect.unit (k0_off254 k) S1x1x16x5632.size (k0_off254_inb k),
          k0_pay510 (k0_pay490 (F := Ideal) (ld31 arg31 X31 k) (ldH arg13 X13) (ldH arg33 X33) (ldH arg14 X14))⟩],
       [⟨Rect.unit (k0_off255 k) S1x1x16.size (k0_off255_inb k),
          k0_pay512 (k0_pay489 (ld31 arg31 X31 k) (ldH arg13 X13) (ldH arg33 X33) (ldH arg14 X14))⟩],
       [⟨Rect.unit (k0_off256 k) S16x128.size (k0_off256_inb k),
          k0_pay513 (k0_pay489 (ld31 arg31 X31 k) (ldH arg13 X13) (ldH arg33 X33) (ldH arg14 X14))⟩],
       [⟨Rect.unit (k0_off253 k) S16x5632.size (k0_off253_inb k),
          k0_pay511 (F := Ideal) (k0_pay490 (F := Ideal) (ld31 arg31 X31 k) (ldH arg13 X13) (ldH arg33 X33) (ldH arg14 X14))⟩]) := by
  unfold tripL_k0_t7 trip_k0_t7
  rfl

/-- Row `p` of the hidden layer after response normalisation. -/
def grnOf (p : Fin 224) (n : Fin 5632) : EReal :=
  grn (arg31.view.read (Elt Ideal) X31 (ix2 p n)) (arg33.view.read (Elt Ideal) X33 (ix2 0 n)) (arg13.view.read (Elt Ideal) X13 (ix2 0 n))
    (arg14.view.read (Elt Ideal) X14 (ix2 0 n))

theorem ldH_apply (a : Memref sig .tc .vmem S1x5632 .f32) (X : BufTy.Contents (Elt Ideal) a.view.ty) (n : Fin 5632) :
    ldH a X (ix2 0 n) = a.view.read (Elt Ideal) X (ix2 0 n) :=
  load2' a.view X rfl inb_S1x5632_S1x5632_0_0 0 n 0 n rfl (by simp)

theorem grnRow_eq (k : Fin k0_t7_loop.trips) (r : Fin 16) (p : Fin 224) (hp : p.val = 16 * k.val + r.val) :
    grnRow (ld31 arg31 X31 k) (ldH arg13 X13) (ldH arg33 X33) (ldH arg14 X14) r = grnOf arg13 arg14 arg31 arg33 X13 X14 X31 X33 p := by
  funext n
  unfold grnRow grnOf
  rw [ldH_apply, ldH_apply, ldH_apply]
  refine congrArg (fun v => grn v _ _ _) ?_
  exact load2' arg31.view X31 (k0_off253_eq k) (k0_off253_inb k) r n p n hp (by simp)

/-- The loop's four lists of stores after `n` trips: codes, scales as an image, scales along the rows, codes as numbers. -/
theorem response_tiles (n : ℕ) (hn : n ≤ 14) :
    Tiles (s := S1x14x16x5632) (fun y => rowCode (grnOf arg13 arg14 arg31 arg33 X13 X14 X31 X33 (pix (y 1) (y 2))) (y 3)) (fun y => (y 1).val < n)
      (pb_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X13 X14 X31 X33 n).1
    ∧ Tiles (s := S1x14x16) (fun y => (scale (grnOf arg13 arg14 arg31 arg33 X13 X14 X31 X33 (pix (y 1) (y 2))) : EReal)) (fun y => (y 1).val < n)
      (pb_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X13 X14 X31 X33 n).2.1
    ∧ Tiles (s := S224x1408) (fun y => (scale (grnOf arg13 arg14 arg31 arg33 X13 X14 X31 X33 (y 0)) : EReal))
        (fun y => (y 0).val < 16 * n ∧ (y 1).val < 128)
      (pb_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X13 X14 X31 X33 n).2.2.1
    ∧ Tiles (s := S224x5632) (fun y => FloatOps.sitofp (F := Ideal) .bf16 (w := 8) (rowCode (grnOf arg13 arg14 arg31 arg33 X13 X14 X31 X33 (y 0)) (y 1)))
        (fun y => (y 0).val < 16 * n)
      (pb_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 X13 X14 X31 X33 n).2.2.2 := by
  induction n with
  | zero =>
    exact ⟨(Tiles.nil _).dom fun y => by simp, (Tiles.nil _).dom fun y => by simp, (Tiles.nil _).dom fun y => by simp,
      (Tiles.nil _).dom fun y => by simp⟩
  | succ n ih =>
    obtain ⟨h1, h2, h3, h4⟩ := ih (by omega)
    let k : Fin k0_t7_loop.trips := ⟨n, hn⟩
    have hk : k.val = n := rfl
    rw [show n + 1 = k.val + 1 from rfl, pb_k0_t7_succ, trip7_eq]
    have hrow := fun (r : Fin 16) (p : Fin 224) (hp : p.val = 16 * k.val + r.val) =>
      grnRow_eq arg13 arg14 arg31 arg33 X13 X14 X31 X33 k r p hp
    refine ⟨?_, ?_, ?_, ?_⟩
    · refine ((Tiles.unit4 (k0_off254_eq k) _ _ _ fun a b r x ha hb hr hx => ?_).append h1).dom fun y => ?_
      · obtain rfl : a = 0 := Subsingleton.elim _ _
        obtain rfl : b = 0 := Subsingleton.elim _ _
        refine (pay510_apply _ r x).trans ?_
        rw [pay490_apply, hrow r (pix ⟨k.val, k.isLt⟩ r) rfl]
        refine (congrArg₂ (fun p x => rowCode (grnOf arg13 arg14 arg31 arg33 X13 X14 X31 X33 p) x) (Fin.ext ?_) (Fin.ext ?_))
        · show 16 * k.val + r.val = 16 * (k.val + 0) + (0 + r.val); omega
        · show x.val = 0 + x.val; omega
      · have h0 : (y 0).val < 1 := (y 0).isLt
        have h2 : (y 2).val < 16 := (y 2).isLt
        have h3 : (y 3).val < 5632 := (y 3).isLt
        omega
    · refine ((Tiles.unit3 (k0_off255_eq k) _ _ _ fun a b r ha hb hr => ?_).append h2).dom fun y => ?_
      · obtain rfl : a = 0 := Subsingleton.elim _ _
        obtain rfl : b = 0 := Subsingleton.elim _ _
        refine (pay512_apply _ r).trans ?_
        rw [pay489_apply, hrow r (pix ⟨k.val, k.isLt⟩ r) rfl]
        refine congrArg (fun p => scale (grnOf arg13 arg14 arg31 arg33 X13 X14 X31 X33 p)) (Fin.ext ?_)
        show 16 * k.val + r.val = 16 * (k.val + 0) + (0 + r.val); omega
      · have h0 : (y 0).val < 1 := (y 0).isLt
        have h2 : (y 2).val < 16 := (y 2).isLt
        omega
    · refine ((Tiles.unit2 (k0_off256_eq k) _ _ _ fun r x hr hx => ?_).append h3).dom fun y => ?_
      · refine (pay513_apply _ r x).trans ?_
        rw [pay489_apply, hrow r ⟨16 * k.val + r.val, hr⟩ rfl]
        rfl
      · omega
    · refine ((Tiles.unit2 (k0_off253_eq k) _ _ _ fun r x hr hx => ?_).append h4).dom fun y => ?_
      · refine (pay511_apply _ r x).trans ?_
        rw [pay490_apply, hrow r ⟨16 * k.val + r.val, hr⟩ rfl]
        refine congrArg (fun x => FloatOps.sitofp (F := Ideal) .bf16 (w := 8) (rowCode (grnOf arg13 arg14 arg31 arg33 X13 X14 X31 X33 ⟨16 * k.val + r.val, hr⟩) x))
          (Fin.ext ?_)
        show x.val = 0 + x.val; omega
      · have h1 : (y 1).val < 5632 := (y 1).isLt
        omega
end Response
end
end Cert.KernelIdeal.Gen

end
-- ==== Proof.Dequant.lean ====
/- Widening the four-bit weights, read as values: group by group and lane block by lane block, both weight matrices come out as their signed
   nibbles times the group's scale. -/
module

public import proofs.«01_k».proof.Proof.Gen.KernelIdeal.Loops
public import proofs.«01_k».proof.Proof.Spec
public import proofs.«01_k».proof.Proof.Tiles

@[expose] public section

set_option maxRecDepth 16384

noncomputable section

namespace Cert.KernelIdeal.Gen

open Idealize.ShloMosaic Idealize.ShloMosaic.TcCoe Idealize.ShloMosaic.Tactic Cert.Spec Cert.Tiles

variable {F : FTy → Type} [FloatOps F] [Named F]

/-- One group's 64 packed rows of 128 lanes, widened to 128 rows. -/
def deqBlk (P : Vec F S64x128 .i8) (sc : Vec F S1x128 .bf16) : FVec F S128x128 .bf16 :=
  k0_pay491 sc (andi (extui 32 P (by decide)) (broadcast S64x128 15#32)) (shrsi (extui 32 P (by decide)) (broadcast S64x128 4#32))

theorem deqBlk_apply (P : Vec Ideal S64x128 .i8) (sc : Vec Ideal S1x128 .bf16) (r l : Fin 128) :
    deqBlk (F := Ideal) P sc (ix2 r l)
      = FloatOps.sitofp (F := Ideal) .bf16 (w := 32) (nib (P (ix2 ⟨r.val / 2, by omega⟩ l)) (r.val % 2)) * sc (ix2 0 l) := by
  pointwise [deqBlk, k0_pay491, nib]
  rcases Nat.mod_two_eq_zero_or_one r.val with h | h <;> simp [h]

/-- The offset of group `g`'s packed rows. -/
def offP1 (g : ℕ) : Fin k0_t1_loop.trips → Fin 2 → ℕ :=
  match g with
  | 0 => k0_off1 | 1 => k0_off4 | 2 => k0_off7 | 3 => k0_off10 | 4 => k0_off13 | 5 => k0_off16 | 6 => k0_off19 | 7 => k0_off22
  | 8 => k0_off25 | 9 => k0_off28 | _ => k0_off31

/-- The offset of group `g`'s scales. -/
def offC1 (g : ℕ) : Fin k0_t1_loop.trips → Fin 2 → ℕ :=
  match g with
  | 0 => k0_off2 | 1 => k0_off5 | 2 => k0_off8 | 3 => k0_off11 | 4 => k0_off14 | 5 => k0_off17 | 6 => k0_off20 | 7 => k0_off23
  | 8 => k0_off26 | 9 => k0_off29 | _ => k0_off32

/-- The offset of group `g`'s widened rows. -/
def offD1 (g : ℕ) : Fin k0_t1_loop.trips → Fin 2 → ℕ :=
  match g with
  | 0 => k0_off3 | 1 => k0_off6 | 2 => k0_off9 | 3 => k0_off12 | 4 => k0_off15 | 5 => k0_off18 | 6 => k0_off21 | 7 => k0_off24
  | 8 => k0_off27 | 9 => k0_off30 | _ => k0_off33

theorem offP1_eq : ∀ (g : Fin 11) (k : Fin k0_t1_loop.trips), offP1 g.val k = ![64 * g.val, 128 * k.val] := by decide +kernel
theorem offC1_eq : ∀ (g : Fin 11) (k : Fin k0_t1_loop.trips), offC1 g.val k = ![g.val, 128 * k.val] := by decide +kernel
theorem offD1_eq : ∀ (g : Fin 11) (k : Fin k0_t1_loop.trips), offD1 g.val k = ![128 * g.val, 128 * k.val] := by decide +kernel
theorem offP1_inb (g : Fin 11) (k : Fin k0_t1_loop.trips) : ∀ a, offP1 g.val k a + S64x128.size a ≤ S704x5632.size a := by
  revert g k; decide +kernel
theorem offC1_inb (g : Fin 11) (k : Fin k0_t1_loop.trips) : ∀ a, offC1 g.val k a + S1x128.size a ≤ S11x5632.size a := by
  revert g k; decide +kernel
theorem offD1_inb (g : Fin 11) (k : Fin k0_t1_loop.trips) : ∀ a, offD1 g.val k a + S128x128.size a ≤ S1408x5632.size a := by
  revert g k; decide +kernel

/-- The groups, last first. -/
def groups1 : List (Fin 11) := (List.finRange 11).reverse

section
variable (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
  (h1 : k0_cond1 i = 1#1)

set_option maxHeartbeats 4000000 in
/-- One trip stores every group's rows of one lane block. -/
theorem trip1_eq (XP : BufTy.Contents (Elt F) arg10.view.ty) (XS : BufTy.Contents (Elt F) arg11.view.ty) (k : Fin k0_t1_loop.trips) :
    tripL_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 h1 XP XS k
    = groups1.map fun g => ⟨Rect.unit (offD1 g.val k) S128x128.size (offD1_inb g k),
        deqBlk (View.readAt (Elt F) arg10.view (Rect.unit (s := S704x5632) (offP1 g.val k) S64x128.size (offP1_inb g k)).toLoadRect XP)
          (View.readAt (Elt F) arg11.view (Rect.unit (s := S11x5632) (offC1 g.val k) S1x128.size (offC1_inb g k)).toLoadRect XS)⟩ := by
  unfold tripL_k0_t1 trip_k0_t1
  rfl

/-- All trips: the first `128 n` columns of the widened matrix. -/
theorem deq1_tiles (XP : BufTy.Contents (Elt Ideal) arg10.view.ty) (XS : BufTy.Contents (Elt Ideal) arg11.view.ty) (n : ℕ) (hn : n ≤ 44) :
    Tiles (s := S1408x5632) (fun y => wide (fun r n => arg10.view.read (Elt Ideal) XP (ix2 r n)) (fun g n => arg11.view.read (Elt Ideal) XS (ix2 g n))
        rfl rfl (y 0) (y 1)) (fun y => (y 1).val < 128 * n)
      (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 h1 XP XS n) := by
  induction n with
  | zero => exact (Tiles.nil _).dom fun y => by simp
  | succ n ih =>
    let k : Fin k0_t1_loop.trips := ⟨n, hn⟩
    have hk : k.val = n := rfl
    rw [show n + 1 = k.val + 1 from rfl, pb_k0_t1_succ, trip1_eq]
    refine ((Tiles.map (D := fun (g : Fin 11) (y : S1408x5632.Idx) => (128 * g.val ≤ (y 0).val ∧ (y 0).val < 128 * g.val + 128)
        ∧ (128 * k.val ≤ (y 1).val ∧ (y 1).val < 128 * k.val + 128)) (fun g => ?_) _).append (ih (by omega))).dom fun y => ?_
    · refine Tiles.unit2 (offD1_eq g k) _ _ _ fun r l hr hl => ?_
      refine (deqBlk_apply _ _ r l).trans ?_
      unfold wide
      have hg := g.isLt
      refine congrArg₂ (· * ·) (congrArg (FloatOps.sitofp (F := Ideal) .bf16 (w := 32)) (congrArg₂ nib ?_ ?_)) ?_
      · exact load2' arg10.view XP (offP1_eq g k) (offP1_inb g k) _ l _ _ (by show (128 * g.val + r.val) / 2 = 64 * g.val + r.val / 2; omega) rfl
      · show r.val % 2 = (128 * g.val + r.val) % 2; omega
      · exact load2' arg11.view XS (offC1_eq g k) (offC1_inb g k) 0 l _ _ (by show (128 * g.val + r.val) / 128 = g.val + 0; omega) rfl
    · have h0 : (y 0).val < 1408 := (y 0).isLt
      constructor
      · intro hy
        by_cases h8 : (y 1).val < 128 * n
        · exact .inr h8
        · refine .inl ⟨⟨(y 0).val / 128, by omega⟩, by simp [groups1], ?_⟩
          simp only [hk]; omega
      · rintro (⟨g, _, hh⟩ | hh) <;> omega
end

/-- The offset of group `g`'s packed rows. -/
def offP2 (g : ℕ) : Fin k0_t2_loop.trips → Fin 2 → ℕ :=
  match g with
  | 0 => k0_off34 | 1 => k0_off37 | 2 => k0_off40 | 3 => k0_off43 | 4 => k0_off46 | 5 => k0_off49 | 6 => k0_off52 | 7 => k0_off55
  | 8 => k0_off58 | 9 => k0_off61 | 10 => k0_off64 | 11 => k0_off67 | 12 => k0_off70 | 13 => k0_off73 | 14 => k0_off76 | 15 => k0_off79
  | 16 => k0_off82 | 17 => k0_off85 | 18 => k0_off88 | 19 => k0_off91 | 20 => k0_off94 | 21 => k0_off97 | 22 => k0_off100 | 23 => k0_off103
  | 24 => k0_off106 | 25 => k0_off109 | 26 => k0_off112 | 27 => k0_off115 | 28 => k0_off118 | 29 => k0_off121 | 30 => k0_off124 | 31 => k0_off127
  | 32 => k0_off130 | 33 => k0_off133 | 34 => k0_off136 | 35 => k0_off139 | 36 => k0_off142 | 37 => k0_off145 | 38 => k0_off148 | 39 => k0_off151
  | 40 => k0_off154 | 41 => k0_off157 | 42 => k0_off160 | _ => k0_off163

/-- The offset of group `g`'s scales. -/
def offC2 (g : ℕ) : Fin k0_t2_loop.trips → Fin 2 → ℕ :=
  match g with
  | 0 => k0_off35 | 1 => k0_off38 | 2 => k0_off41 | 3 => k0_off44 | 4 => k0_off47 | 5 => k0_off50 | 6 => k0_off53 | 7 => k0_off56
  | 8 => k0_off59 | 9 => k0_off62 | 10 => k0_off65 | 11 => k0_off68 | 12 => k0_off71 | 13 => k0_off74 | 14 => k0_off77 | 15 => k0_off80
  | 16 => k0_off83 | 17 => k0_off86 | 18 => k0_off89 | 19 => k0_off92 | 20 => k0_off95 | 21 => k0_off98 | 22 => k0_off101 | 23 => k0_off104
  | 24 => k0_off107 | 25 => k0_off110 | 26 => k0_off113 | 27 => k0_off116 | 28 => k0_off119 | 29 => k0_off122 | 30 => k0_off125 | 31 => k0_off128
  | 32 => k0_off131 | 33 => k0_off134 | 34 => k0_off137 | 35 => k0_off140 | 36 => k0_off143 | 37 => k0_off146 | 38 => k0_off149 | 39 => k0_off152
  | 40 => k0_off155 | 41 => k0_off158 | 42 => k0_off161 | _ => k0_off164

/-- The offset of group `g`'s widened rows. -/
def offD2 (g : ℕ) : Fin k0_t2_loop.trips → Fin 2 → ℕ :=
  match g with
  | 0 => k0_off36 | 1 => k0_off39 | 2 => k0_off42 | 3 => k0_off45 | 4 => k0_off48 | 5 => k0_off51 | 6 => k0_off54 | 7 => k0_off57
  | 8 => k0_off60 | 9 => k0_off63 | 10 => k0_off66 | 11 => k0_off69 | 12 => k0_off72 | 13 => k0_off75 | 14 => k0_off78 | 15 => k0_off81
  | 16 => k0_off84 | 17 => k0_off87 | 18 => k0_off90 | 19 => k0_off93 | 20 => k0_off96 | 21 => k0_off99 | 22 => k0_off102 | 23 => k0_off105
  | 24 => k0_off108 | 25 => k0_off111 | 26 => k0_off114 | 27 => k0_off117 | 28 => k0_off120 | 29 => k0_off123 | 30 => k0_off126 | 31 => k0_off129
  | 32 => k0_off132 | 33 => k0_off135 | 34 => k0_off138 | 35 => k0_off141 | 36 => k0_off144 | 37 => k0_off147 | 38 => k0_off150 | 39 => k0_off153
  | 40 => k0_off156 | 41 => k0_off159 | 42 => k0_off162 | _ => k0_off165

theorem offP2_eq : ∀ (g : Fin 44) (k : Fin k0_t2_loop.trips), offP2 g.val k = ![64 * g.val, 128 * k.val] := by decide +kernel
theorem offC2_eq : ∀ (g : Fin 44) (k : Fin k0_t2_loop.trips), offC2 g.val k = ![g.val, 128 * k.val] := by decide +kernel
theorem offD2_eq : ∀ (g : Fin 44) (k : Fin k0_t2_loop.trips), offD2 g.val k = ![128 * g.val, 128 * k.val] := by decide +kernel
theorem offP2_inb (g : Fin 44) (k : Fin k0_t2_loop.trips) : ∀ a, offP2 g.val k a + S64x128.size a ≤ S2816x1408.size a := by
  revert g k; decide +kernel
theorem offC2_inb (g : Fin 44) (k : Fin k0_t2_loop.trips) : ∀ a, offC2 g.val k a + S1x128.size a ≤ S44x1408.size a := by
  revert g k; decide +kernel
theorem offD2_inb (g : Fin 44) (k : Fin k0_t2_loop.trips) : ∀ a, offD2 g.val k a + S128x128.size a ≤ S5632x1408.size a := by
  revert g k; decide +kernel

/-- The groups, last first. -/
def groups2 : List (Fin 44) := (List.finRange 44).reverse

section
variable (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
  (h1 : k0_cond1 i = 1#1)

set_option maxHeartbeats 4000000 in
/-- One trip stores every group's rows of one lane block. -/
theorem trip2_eq (XP : BufTy.Contents (Elt F) arg15.view.ty) (XS : BufTy.Contents (Elt F) arg16.view.ty) (k : Fin k0_t2_loop.trips) :
    tripL_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 h1 XP XS k
    = groups2.map fun g => ⟨Rect.unit (offD2 g.val k) S128x128.size (offD2_inb g k),
        deqBlk (View.readAt (Elt F) arg15.view (Rect.unit (s := S2816x1408) (offP2 g.val k) S64x128.size (offP2_inb g k)).toLoadRect XP)
          (View.readAt (Elt F) arg16.view (Rect.unit (s := S44x1408) (offC2 g.val k) S1x128.size (offC2_inb g k)).toLoadRect XS)⟩ := by
  unfold tripL_k0_t2 trip_k0_t2
  rfl

/-- All trips: the first `128 n` columns of the widened matrix. -/
theorem deq2_tiles (XP : BufTy.Contents (Elt Ideal) arg15.view.ty) (XS : BufTy.Contents (Elt Ideal) arg16.view.ty) (n : ℕ) (hn : n ≤ 11) :
    Tiles (s := S5632x1408) (fun y => wide (fun r n => arg15.view.read (Elt Ideal) XP (ix2 r n)) (fun g n => arg16.view.read (Elt Ideal) XS (ix2 g n))
        rfl rfl (y 0) (y 1)) (fun y => (y 1).val < 128 * n)
      (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 h1 XP XS n) := by
  induction n with
  | zero => exact (Tiles.nil _).dom fun y => by simp
  | succ n ih =>
    let k : Fin k0_t2_loop.trips := ⟨n, hn⟩
    have hk : k.val = n := rfl
    rw [show n + 1 = k.val + 1 from rfl, pb_k0_t2_succ, trip2_eq]
    refine ((Tiles.map (D := fun (g : Fin 44) (y : S5632x1408.Idx) => (128 * g.val ≤ (y 0).val ∧ (y 0).val < 128 * g.val + 128)
        ∧ (128 * k.val ≤ (y 1).val ∧ (y 1).val < 128 * k.val + 128)) (fun g => ?_) _).append (ih (by omega))).dom fun y => ?_
    · refine Tiles.unit2 (offD2_eq g k) _ _ _ fun r l hr hl => ?_
      refine (deqBlk_apply _ _ r l).trans ?_
      unfold wide
      have hg := g.isLt
      refine congrArg₂ (· * ·) (congrArg (FloatOps.sitofp (F := Ideal) .bf16 (w := 32)) (congrArg₂ nib ?_ ?_)) ?_
      · exact load2' arg15.view XP (offP2_eq g k) (offP2_inb g k) _ l _ _ (by show (128 * g.val + r.val) / 2 = 64 * g.val + r.val / 2; omega) rfl
      · show r.val % 2 = (128 * g.val + r.val) % 2; omega
      · exact load2' arg16.view XS (offC2_eq g k) (offC2_inb g k) 0 l _ _ (by show (128 * g.val + r.val) / 128 = g.val + 0; omega) rfl
    · have h0 : (y 0).val < 5632 := (y 0).isLt
      constructor
      · intro hy
        by_cases h8 : (y 1).val < 128 * n
        · exact .inr h8
        · refine .inl ⟨⟨(y 0).val / 128, by omega⟩, by simp [groups2], ?_⟩
          simp only [hk]; omega
      · rintro (⟨g, _, hh⟩ | hh) <;> omega
end

end Cert.KernelIdeal.Gen

end
-- ==== Proof.Chain.lean ====
/- The stages of one grid point joined: from what the buffers hold before a stage to what they hold after it, in the block's terms. -/
module

public import proofs.«01_k».proof.Proof.ConvRows
public import proofs.«01_k».proof.Proof.Rows
public import proofs.«01_k».proof.Proof.Dequant

@[expose] public section

set_option maxRecDepth 16384

noncomputable section

namespace Cert.KernelIdeal.Gen

open Idealize.ShloMosaic Idealize.ShloMosaic.TcCoe Idealize.ShloMosaic.Tactic Cert.Spec Cert.Tiles

/-- The strip is zero left and right of the image. -/
def BorderV (X : Vec Ideal S14x32x128 .f32) : Prop :=
  ∀ (r : Fin 14) (b : Fin 32) (l : Fin 128), ¬(8 ≤ b.val ∧ b.val < 24) → X (ix3 r b l) = (0 : EReal)

section
variable (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
  (B : In)

/-- The convolution's loop leaves the convolution. -/
theorem step_conv (f27 : BufTy.Contents (Elt Ideal) arg28.view.ty) (f26 : BufTy.Contents (Elt Ideal) arg27.view.ty)
    (h28 : arg28.view.read (Elt Ideal) f27 = B.dwwV) (hb : BorderV (arg27.view.read (Elt Ideal) f26)) (n : ℕ) (hn : n = 11) :
    (∀ f, arg29.view.read (Elt Ideal) (arg29.view.writes (Elt Ideal) f (pbOut_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg1.unread B.x0)
      (harg3.unread B.x2) (harg6.unread B.x5) (harg7.unread B.x6) f27 f26 n)) = B.dV)
    ∧ BorderV (arg27.view.read (Elt Ideal) (arg27.view.writes (Elt Ideal) f26 (pbStrip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg1.unread B.x0)
      (harg3.unread B.x2) (harg6.unread B.x5) (harg7.unread B.x6) f27 f26 n))) := by
  subst hn
  refine ⟨fun f => ?_, strip_border c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 _ _ _ _ _ _ hb 11 le_rfl⟩
  refine (conv_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 _ _ _ _ _ _ hb f).trans (funext fun y => ?_)
  unfold convG In.dV In.d imgOf
  rw [harg3.read_unread, harg6.read_unread, harg7.read_unread, h28]
  have e : trip_k0_t3.sl.r (F := Ideal) arg1 (harg1.unread B.x0) = B.x0 (ix1 0) := by
    refine (congrArg (arg1.view.read (Elt Ideal) (harg1.unread B.x0)) (funext fun a => Fin.ext ?_)).trans (congrFun (harg1.read_unread B.x0) (ix1 0))
    obtain rfl : a = 0 := Subsingleton.elim _ _
    rfl
  rw [e]
  rfl

/-- Layer normalisation's loop. -/
theorem step_norm (g29 : BufTy.Contents (Elt Ideal) arg29.view.ty) (h29 : arg29.view.read (Elt Ideal) g29 = B.dV)
    (f21 : BufTy.Contents (Elt Ideal) arg21.view.ty) (f22 : BufTy.Contents (Elt Ideal) arg22.view.ty) (f30 : BufTy.Contents (Elt Ideal) arg30.view.ty)
    (n : ℕ) (hn : n = 14) :
    arg21.view.read (Elt Ideal) (arg21.view.writes (Elt Ideal) f21 (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg8.unread B.x7)
      (harg9.unread B.x8) f21 f22 g29 f30 n).1) = B.a1cV
    ∧ arg22.view.read (Elt Ideal) (arg22.view.writes (Elt Ideal) f22 (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg8.unread B.x7)
      (harg9.unread B.x8) f21 f22 g29 f30 n).2.1) = B.a1sV
    ∧ (∀ p : Fin 224, arg29.view.read (Elt Ideal) (arg29.view.writes (Elt Ideal) g29 (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33
      (harg8.unread B.x7) (harg9.unread B.x8) f21 f22 g29 f30 n).2.2.1) (ix2 p 0) = scale (B.n1 p))
    ∧ arg30.view.read (Elt Ideal) (arg30.view.writes (Elt Ideal) f30 (pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg8.unread B.x7)
      (harg9.unread B.x8) f21 f22 g29 f30 n).2.2.2) = B.a1V := by
  subst hn
  obtain ⟨t1, t2, t3, t4⟩ := norm_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg8.unread B.x7) (harg9.unread B.x8) f21 f22 g29 f30 14 le_rfl
  have e : ∀ p, lnOf arg8 arg9 arg29 (harg8.unread B.x7) (harg9.unread B.x8) g29 p = B.n1 p := by
    intro p
    unfold lnOf In.n1
    rw [harg8.read_unread, harg9.read_unread, h29]
    rfl
  refine ⟨funext fun y => ?_, funext fun y => ?_, fun p => ?_, funext fun y => ?_⟩
  · refine (t1.read_of_mem arg21.view f21 y (y 1).isLt).trans ?_
    rw [e]; rfl
  · refine (t2.read_of_mem arg22.view f22 y (y 1).isLt).trans ?_
    rw [e]; rfl
  · refine (t3.read_of_mem arg29.view g29 (ix2 p 0) ⟨p.isLt, by show (0 : ℕ) < 128; norm_num⟩).trans ?_
    exact congrArg scale (e p)
  · refine (t4.read_of_mem arg30.view f30 y (y 0).isLt).trans ?_
    exact congrArg (fun r => FloatOps.sitofp (F := Ideal) FTy.bf16 (rowCode r (y 1))) (e (y 0))

/-- The hidden layer's loop. -/
theorem step_hidden (g29 : BufTy.Contents (Elt Ideal) arg29.view.ty) (h29 : ∀ p : Fin 224, arg29.view.read (Elt Ideal) g29 (ix2 p 0) = scale (B.n1 p))
    (g30 : BufTy.Contents (Elt Ideal) arg30.view.ty) (h30 : arg30.view.read (Elt Ideal) g30 = B.a1V)
    (f25 : BufTy.Contents (Elt Ideal) arg25.view.ty) (h25 : arg25.view.read (Elt Ideal) f25 = B.w1V) (n : ℕ) (hn : n = 11) :
    (∀ f, arg31.view.read (Elt Ideal) (arg31.view.writes (Elt Ideal) f (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg12.unread B.x11) f25
      g29 g30 n).1) = B.hV)
    ∧ ∀ f, arg33.view.read (Elt Ideal) (arg33.view.writes (Elt Ideal) f (pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg12.unread B.x11) f25
      g29 g30 n).2) = B.gxV := by
  subst hn
  obtain ⟨t1, t2⟩ := hidden_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg12.unread B.x11) f25 g29 g30 11 le_rfl
  have e : hidOf arg12 arg25 arg29 arg30 (harg12.unread B.x11) f25 g29 g30 = B.h := by
    funext p n
    unfold hidOf In.h
    rw [harg12.read_unread, h29, h30, h25]
    rfl
  refine ⟨fun f => funext fun y => ?_, fun f => funext fun y => ?_⟩
  · refine (t1.read_of_mem arg31.view f y (y 1).isLt).trans ?_
    rw [e]; rfl
  · refine (t2.read_of_mem arg33.view f y (y 1).isLt).trans ?_
    rw [e]; rfl

/-- The response factor's store. -/
theorem step_factor (f : BufTy.Contents (Elt Ideal) arg33.view.ty) (L : List (View.Piece (Elt Ideal) S1x5632 .f32)) (v : Vec Ideal S1x5632 .f32)
    (hv : v = B.gxV) (inb : ∀ a, (![0, 0] : Fin 2 → ℕ) a + S1x5632.size a ≤ S1x5632.size a) :
    arg33.view.read (Elt Ideal) (arg33.view.writes (Elt Ideal) f (⟨Rect.unit (s := S1x5632) ![0, 0] S1x5632.size inb, k0_pay509 (F := Ideal) v⟩ :: L))
      = B.nxV := by
  subst hv
  have t : Tiles (s := S1x5632) (e := .f32) (Val := Elt Ideal) (fun y => B.nx (y 1)) (fun y => True)
      [⟨Rect.unit (s := S1x5632) ![0, 0] S1x5632.size inb, k0_pay509 (F := Ideal) B.gxV⟩] := by
    refine (Tiles.unit2 rfl inb _ _ fun a k ha hk => ?_).dom fun y => ?_
    · obtain rfl : a = 0 := Subsingleton.elim _ _
      refine (pay509_apply _ k).trans ?_
      show B.nx k = B.nx _
      congr 1; exact Fin.ext (Nat.zero_add _).symm
    · have h0 : (y 0).val < 1 := (y 0).isLt
      have h1 : (y 1).val < 5632 := (y 1).isLt
      simp; omega
  funext y
  have := t.read_of_mem arg33.view (arg33.view.writes (Elt Ideal) f L) y trivial
  rw [← View.writes_append] at this
  exact this

/-- Response normalisation's loop. -/
theorem step_response (g31 : BufTy.Contents (Elt Ideal) arg31.view.ty) (h31 : arg31.view.read (Elt Ideal) g31 = B.hV)
    (g33 : BufTy.Contents (Elt Ideal) arg33.view.ty) (h33 : arg33.view.read (Elt Ideal) g33 = B.nxV) (n : ℕ) (hn : n = 14) :
    (∀ f, arg23.view.read (Elt Ideal) (arg23.view.writes (Elt Ideal) f (pb_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg13.unread B.x12)
      (harg14.unread B.x13) g31 g33 n).1) = B.a2cV)
    ∧ (∀ f, arg24.view.read (Elt Ideal) (arg24.view.writes (Elt Ideal) f (pb_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg13.unread B.x12)
      (harg14.unread B.x13) g31 g33 n).2.1) = B.a2sV)
    ∧ (∀ f, ∀ p : Fin 224, arg29.view.read (Elt Ideal) (arg29.view.writes (Elt Ideal) f (pb_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33
      (harg13.unread B.x12) (harg14.unread B.x13) g31 g33 n).2.2.1) (ix2 p 0) = scale (B.g p))
    ∧ ∀ f, arg32.view.read (Elt Ideal) (arg32.view.writes (Elt Ideal) f (pb_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg13.unread B.x12)
      (harg14.unread B.x13) g31 g33 n).2.2.2) = B.a2V := by
  subst hn
  obtain ⟨t1, t2, t3, t4⟩ := response_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg13.unread B.x12) (harg14.unread B.x13) g31 g33 14 le_rfl
  have e : ∀ p, grnOf arg13 arg14 arg31 arg33 (harg13.unread B.x12) (harg14.unread B.x13) g31 g33 p = B.g p := by
    intro p
    funext n
    unfold grnOf In.g
    rw [harg13.read_unread, harg14.read_unread, h31, h33]
    rfl
  refine ⟨fun f => funext fun y => ?_, fun f => funext fun y => ?_, fun f p => ?_, fun f => funext fun y => ?_⟩
  · refine (t1.read_of_mem arg23.view f y (y 1).isLt).trans ?_
    rw [e]; rfl
  · refine (t2.read_of_mem arg24.view f y (y 1).isLt).trans ?_
    rw [e]; rfl
  · refine (t3.read_of_mem arg29.view f (ix2 p 0) ⟨p.isLt, by show (0 : ℕ) < 128; norm_num⟩).trans ?_
    exact congrArg scale (e p)
  · refine (t4.read_of_mem arg32.view f y (y 0).isLt).trans ?_
    exact congrArg (fun r => FloatOps.sitofp (F := Ideal) FTy.bf16 (rowCode r (y 1))) (e (y 0))

/-- The column norms' store into their row. -/
theorem step_gx (f : BufTy.Contents (Elt Ideal) arg20.view.ty) (v : Vec Ideal S1x5632 .f32) (hv : v = B.gxV) :
    arg20.view.read (Elt Ideal) (arg20.view.writes (Elt Ideal) f [⟨Rect.unit (s := S6x5632) (k0_off252 i) S1x5632.size (k0_off252_inb i), v⟩])
      = B.gxRow (arg20.view.read (Elt Ideal) f) (i 0).val := by
  subst hv
  have t : Tiles (s := S6x5632) (e := .f32) (Val := Elt Ideal) (fun y => B.gx (y 1)) (fun y => (y 0).val = (i 0).val)
      [⟨Rect.unit (s := S6x5632) (k0_off252 i) S1x5632.size (k0_off252_inb i), B.gxV⟩] := by
    refine (Tiles.unit2 (k0_off252_eq i) (k0_off252_inb i) _ _ fun a k ha hk => ?_).dom fun y => ?_
    · show B.gx k = B.gx _
      congr 1; exact Fin.ext (Nat.zero_add _).symm
    · have h1 : (y 1).val < 5632 := (y 1).isLt
      omega
  funext y
  unfold In.gxRow
  by_cases h : (y 0).val = (i 0).val
  · rw [if_pos h]; exact t.read_of_mem arg20.view f y h
  · rw [if_neg h]; exact t.read_of_not_mem arg20.view f y h

/-- The widening of the first weight matrix. -/
theorem step_w1 (h1 : k0_cond1 i = 1#1) (f : BufTy.Contents (Elt Ideal) arg25.view.ty) (n : ℕ) (hn : n = 44) :
    arg25.view.read (Elt Ideal) (arg25.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 h1 (harg10.unread B.x9)
      (harg11.unread B.x10) n)) = B.w1V := by
  subst hn
  funext y
  refine ((deq1_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 h1 (harg10.unread B.x9) (harg11.unread B.x10) 44 le_rfl).read_of_mem arg25.view f y (y 1).isLt).trans ?_
  rw [harg10.read_unread, harg11.read_unread]
  rfl

/-- The widening of the second weight matrix. -/
theorem step_w2 (h1 : k0_cond1 i = 1#1) (f : BufTy.Contents (Elt Ideal) arg26.view.ty) (n : ℕ) (hn : n = 11) :
    arg26.view.read (Elt Ideal) (arg26.view.writes (Elt Ideal) f (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 h1 (harg15.unread B.x14)
      (harg16.unread B.x15) n)) = B.w2V := by
  subst hn
  funext y
  refine ((deq2_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 h1 (harg15.unread B.x14) (harg16.unread B.x15) 11 le_rfl).read_of_mem arg26.view f y (y 1).isLt).trans ?_
  rw [harg15.read_unread, harg16.read_unread]
  rfl

end
end Cert.KernelIdeal.Gen

end
-- ==== Proof.OutRows.lean ====
/- The last stage of a grid point: the residual sum and its codes, row by row; and all the stages in a row. -/
module

public import proofs.«01_k».proof.Proof.Chain

@[expose] public section

set_option maxRecDepth 16384

noncomputable section

namespace Cert.KernelIdeal.Gen

open Idealize.ShloMosaic Idealize.ShloMosaic.TcCoe Idealize.ShloMosaic.Tactic Cert.Spec Cert.Tiles

/-- Image row `h` of the residual sum, from the loaded residual row. -/
def sumRow (y : FVec Ideal S224x1408 .f32) (xr : Vec Ideal S1x1x16x1408 .bf16) {o : ℕ} (hs : S224x1408.Slices ![o, 0] S16x1408) : FVec Ideal S16x1408 .f32 :=
  addf (extf .f32 (shapeCast S16x1408 xr shapeCasts_S1x1x16x1408_S16x1408) bitsLt_bf16_f32) (extractStridedSlice S16x1408 ![o, 0] y hs)

/-- What is stored of it. -/
def outRow (y : FVec Ideal S224x1408 .f32) (xr : Vec Ideal S1x1x16x1408 .bf16) {o : ℕ} (hs : S224x1408.Slices ![o, 0] S16x1408) : FVec Ideal S1x1x16x1408 .bf16 :=
  shapeCast S1x1x16x1408 (truncf .bf16 (sumRow y xr hs) bitsLt_bf16_f32) shapeCasts_S16x1408_S1x1x16x1408

/-- Its codes. -/
def codeRow (q : FVec Ideal S1x1408 .f32) (y : FVec Ideal S224x1408 .f32) (xr : Vec Ideal S1x1x16x1408 .bf16) {o : ℕ} (hs : S224x1408.Slices ![o, 0] S16x1408) :
    IVec S1x1x16x1408 8 :=
  shapeCast S1x1x16x1408 (fptosi (F := Ideal) (φ := .f32) 8 (minimumf (broadcast S16x1408 (Scalar.ofBits (F := Ideal) .f32 0x42FE0000#32))
    (maximumf (broadcast S16x1408 (Scalar.ofBits (F := Ideal) .f32 0xC2FE0000#32)) (roundeven (mulf (sumRow y xr hs)
      (broadcastTo S16x1408 q broadcasts_S1x1408_S16x1408)))))) shapeCasts_S16x1408_S1x1x16x1408

theorem sumRow_apply (y : FVec Ideal S224x1408 .f32) (xr : Vec Ideal S1x1x16x1408 .bf16) (h : Fin 14) (hs : S224x1408.Slices ![16 * h.val, 0] S16x1408)
    (w : Fin 16) (k : Fin 1408) : sumRow y xr hs (ix2 w k) = (show EReal from xr (ix4 0 0 w k)) + y (ix2 (pix h w) k) := by
  have e : extractStridedSlice S16x1408 ![16 * h.val, 0] y hs (ix2 w k) = y (ix2 (pix h w) k) := by
    refine congrArg y (funext fun a => Fin.ext ?_)
    refine Fin.cases ?_ (fun a => ?_) a
    · rfl
    · obtain rfl : a = 0 := Subsingleton.elim _ _
      exact Nat.zero_add _
  have e2 : shapeCast S16x1408 xr shapeCasts_S1x1x16x1408_S16x1408 (ix2 w k) = xr (ix4 0 0 w k) := by
    pointwise []
  show (show EReal from shapeCast S16x1408 xr shapeCasts_S1x1x16x1408_S16x1408 (ix2 w k)) + extractStridedSlice S16x1408 ![16 * h.val, 0] y hs (ix2 w k) = _
  rw [e, e2]

theorem outRow_apply (y : FVec Ideal S224x1408 .f32) (xr : Vec Ideal S1x1x16x1408 .bf16) (h : Fin 14) (hs : S224x1408.Slices ![16 * h.val, 0] S16x1408)
    (w : Fin 16) (k : Fin 1408) : outRow y xr hs (ix4 0 0 w k) = (show EReal from xr (ix4 0 0 w k)) + y (ix2 (pix h w) k) := by
  rw [← sumRow_apply y xr h hs w k]
  pointwise [outRow]

theorem codeRow_apply (q : FVec Ideal S1x1408 .f32) (y : FVec Ideal S224x1408 .f32) (xr : Vec Ideal S1x1x16x1408 .bf16) (h : Fin 14)
    (hs : S224x1408.Slices ![16 * h.val, 0] S16x1408) (w : Fin 16) (k : Fin 1408) :
    codeRow q y xr hs (ix4 0 0 w k) = code (((show EReal from xr (ix4 0 0 w k)) + y (ix2 (pix h w) k)) * q (ix2 0 k)) := by
  rw [← sumRow_apply y xr h hs w k]
  pointwise [codeRow, code]

theorem row_inb (h : Fin 14) (a : Fin 4) : (![0, h.val, 0, 0] : Fin 4 → ℕ) a + S1x1x16x1408.size a ≤ S1x14x16x1408.size a := by
  have := h.isLt
  revert a; intro a; fin_cases a <;> simp <;> omega

theorem row_slices (h : Fin 14) : S224x1408.Slices ![16 * h.val, 0] S16x1408 := by
  revert h; decide

section
variable (c : Dev nD) (i : grid0.Coords)
    (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
  (B : In)

/-- The residual row `h`, loaded. -/
def ldRow (X : BufTy.Contents (Elt Ideal) arg4.view.ty) (h : Fin 14) : Vec Ideal S1x1x16x1408 .bf16 :=
  View.readAt (Elt Ideal) arg4.view (Rect.unit (s := S1x14x16x1408) ![0, h.val, 0, 0] S1x1x16x1408.size (row_inb h)).toLoadRect X

/-- The rows, last first. -/
def rows : List (Fin 14) := [13, 12, 11, 10, 9, 8, 7, 6, 5, 4, 3, 2, 1, 0]

theorem mem_rows (h : Fin 14) : h ∈ rows := by revert h; decide

/-- The stores of the sum. -/
def outL (X : BufTy.Contents (Elt Ideal) arg4.view.ty) (y : FVec Ideal S224x1408 .f32) : List (View.Piece (Elt Ideal) S1x14x16x1408 .bf16) :=
  rows.map fun h => ⟨Rect.unit (s := S1x14x16x1408) ![0, h.val, 0, 0] S1x1x16x1408.size (row_inb h), outRow y (ldRow arg4 X h) (row_slices h)⟩

/-- The stores of the codes. -/
def codeL (X : BufTy.Contents (Elt Ideal) arg4.view.ty) (q : FVec Ideal S1x1408 .f32) (y : FVec Ideal S224x1408 .f32) :
    List (View.Piece (Elt Ideal) S1x14x16x1408 .i8) :=
  rows.map fun h => ⟨Rect.unit (s := S1x14x16x1408) ![0, h.val, 0, 0] S1x1x16x1408.size (row_inb h), codeRow q y (ldRow arg4 X h) (row_slices h)⟩

theorem ldRow_apply (h : Fin 14) (w : Fin 16) (k : Fin 1408) : ldRow arg4 (harg4.unread B.x3) h (ix4 0 0 w k) = B.x3 (ix4 0 h w k) :=
  (load4' arg4.view (harg4.unread B.x3) rfl (row_inb h) 0 0 w k 0 h w k rfl (by simp) (by simp) (by simp)).trans (congrFun (harg4.read_unread B.x3) _)

/-- A row's cells. -/
theorem row_dom {e : EltTy} (G : S1x14x16x1408.Idx → Elt Ideal e) (P : Fin 14 → S1x1x16x1408.Idx → Elt Ideal e)
    (hP : ∀ h w k, P h (ix4 0 0 w k) = G (ix4 0 h w k)) :
    Tiles (s := S1x14x16x1408) (e := e) (Val := Elt Ideal) G (fun y => True)
      (rows.map fun h => ⟨Rect.unit (s := S1x14x16x1408) ![0, h.val, 0, 0] S1x1x16x1408.size (row_inb h), P h⟩) := by
  refine (Tiles.map (D := fun (h : Fin 14) (y : S1x14x16x1408.Idx) => (y 1).val = h.val) (fun h => ?_) rows).dom fun y => ?_
  · refine (Tiles.unit4 rfl (row_inb h) (P h) G fun a b w k ha hb hw hk => ?_).dom fun y => ?_
    · obtain rfl : a = 0 := Subsingleton.elim _ _
      obtain rfl : b = 0 := Subsingleton.elim _ _
      refine (hP h w k).trans (congrArg G ?_)
      congr 1 <;> exact Fin.ext (by simp)
    · have h0 : (y 0).val < 1 := (y 0).isLt
      have h2 : (y 2).val < 16 := (y 2).isLt
      have h3 : (y 3).val < 1408 := (y 3).isLt
      omega
  · exact ⟨fun _ => ⟨⟨(y 1).val, (y 1).isLt⟩, mem_rows _, rfl⟩, fun _ => trivial⟩

/-- The sum's stores. -/
theorem step_out (y : FVec Ideal S224x1408 .f32) (hy : ∀ p k, y (ix2 p k) = B.y p k) (f : BufTy.Contents (Elt Ideal) arg18.view.ty) :
    arg18.view.read (Elt Ideal) (arg18.view.writes (Elt Ideal) f (outL arg4 (harg4.unread B.x3) y)) = B.outV := by
  funext z
  refine (row_dom (e := .bf16) B.outV _ (fun h w k => ?_)).read_of_mem arg18.view f z trivial
  refine (outRow_apply y _ h (row_slices h) w k).trans ?_
  rw [ldRow_apply, hy]; rfl

/-- The codes' stores. -/
theorem step_codes (q : FVec Ideal S1x1408 .f32) (hq : ∀ k, q (ix2 0 k) = Ideal.div 1 (B.x1 (ix1 0))) (y : FVec Ideal S224x1408 .f32)
    (hy : ∀ p k, y (ix2 p k) = B.y p k) (f : BufTy.Contents (Elt Ideal) arg19.view.ty) :
    arg19.view.read (Elt Ideal) (arg19.view.writes (Elt Ideal) f (codeL arg4 (harg4.unread B.x3) q y)) = B.codesV := by
  funext z
  refine (row_dom (e := .i8) B.codesV _ (fun h w k => ?_)).read_of_mem arg19.view f z trivial
  refine (codeRow_apply q y _ h (row_slices h) w k).trans ?_
  rw [ldRow_apply, hy, hq]; rfl

/-- The second dense layer. -/
theorem step_y (g32 : BufTy.Contents (Elt Ideal) arg32.view.ty) (h32 : arg32.view.read (Elt Ideal) g32 = B.a2V)
    (f26 : BufTy.Contents (Elt Ideal) arg26.view.ty) (h26 : arg26.view.read (Elt Ideal) f26 = B.w2V)
    (g29 : BufTy.Contents (Elt Ideal) arg29.view.ty) (h29 : ∀ p : Fin 224, arg29.view.read (Elt Ideal) g29 (ix2 p 0) = scale (B.g p)) (p : Fin 224) (k : Fin 1408) :
    k0_pay515 (F := Ideal) (View.readAt (Elt Ideal) arg32.view (Rect.unit (s := S224x5632) ![0, 0] S224x5632.size inb_S224x5632_S224x5632_0_0).toLoadRect g32)
      (View.readAt (Elt Ideal) arg26.view (Rect.unit (s := S5632x1408) ![0, 0] S5632x1408.size inb_S5632x1408_S5632x1408_0_0).toLoadRect f26)
      (View.readAt (Elt Ideal) arg29.view (Rect.unit (s := S224x1408) ![0, 0] S224x1.size inb_S224x1408_S224x1_0_0).toLoadRect g29)
      (View.readAt (Elt Ideal) arg17.view (Rect.unit (s := S1x1408) ![0, 0] S1x1408.size inb_S1x1408_S1x1408_0_0).toLoadRect (harg17.unread B.x16))
      (ix2 p k) = B.y p k := by
  refine (pay515_apply _ _ _ _ p k).trans ?_
  unfold In.y
  congr 1
  · funext x
    exact (load2' arg32.view g32 rfl inb_S224x5632_S224x5632_0_0 p x p x (by simp) (by simp)).trans (congrFun h32 _)
  · funext x k
    exact (load2' arg26.view f26 rfl inb_S5632x1408_S5632x1408_0_0 x k x k (by simp) (by simp)).trans (congrFun h26 _)
  · exact (load2' arg29.view g29 rfl inb_S224x1408_S224x1_0_0 p 0 p 0 (by simp) (by simp)).trans (h29 p)
  · funext k
    exact (load2' arg17.view (harg17.unread B.x16) rfl inb_S1x1408_S1x1408_0_0 0 k 0 k (by simp) (by simp)).trans (congrFun (harg17.read_unread B.x16) _)

/-- The inverse of the output's scale. -/
theorem step_q (k : Fin 1408) (z : S1.Idx) : k0_pay514 (F := Ideal)
    (View.readAt (Elt Ideal) arg2.view (Rect.unit (s := S1) ![0] S1.size inb_S1_S1_0).toLoadRect (harg2.unread B.x1) z)
      (ix2 0 k) = Ideal.div 1 (B.x1 (ix1 0)) := by
  refine (pay514_apply _ k).trans (congrArg (Ideal.div 1) ?_)
  refine (congrArg (arg2.view.read (Elt Ideal) (harg2.unread B.x1)) (funext fun a => Fin.ext ?_)).trans (congrFun (harg2.read_unread B.x1) (ix1 0))
  obtain rfl : a = 0 := Subsingleton.elim _ _
  show 0 + 1 * (z 0).val = 0
  have : (z 0).val < 1 := (z 0).isLt
  omega

/-- The column norms, loaded whole. -/
theorem step_gx_load (g33 : BufTy.Contents (Elt Ideal) arg33.view.ty) (h33 : arg33.view.read (Elt Ideal) g33 = B.gxV) :
    View.readAt (Elt Ideal) arg33.view (Rect.unit (s := S1x5632) ![0, 0] S1x5632.size inb_S1x5632_S1x5632_0_0).toLoadRect g33 = B.gxV := by
  rw [← h33]
  refine funext fun y => congrArg (arg33.view.read (Elt Ideal) g33) (funext fun a => Fin.ext ?_)
  refine Fin.cases ?_ (fun a => ?_) a
  · show 0 + 1 * (y 0).val = _; omega
  · obtain rfl : a = 0 := Subsingleton.elim _ _
    show 0 + 1 * (y 1).val = (y 1).val; omega

/-- Everything a point stores, from the scratch buffers' state at the convolution. -/
theorem point (f17 : BufTy.Contents (Elt Ideal) arg18.view.ty) (f18 : BufTy.Contents (Elt Ideal) arg19.view.ty) (f19 : BufTy.Contents (Elt Ideal) arg20.view.ty)
    (f20 : BufTy.Contents (Elt Ideal) arg21.view.ty) (f21 : BufTy.Contents (Elt Ideal) arg22.view.ty) (f22 : BufTy.Contents (Elt Ideal) arg23.view.ty)
    (f23 : BufTy.Contents (Elt Ideal) arg24.view.ty) (f24 : BufTy.Contents (Elt Ideal) arg25.view.ty) (h24 : arg25.view.read (Elt Ideal) f24 = B.w1V)
    (f25 : BufTy.Contents (Elt Ideal) arg26.view.ty) (h25 : arg26.view.read (Elt Ideal) f25 = B.w2V)
    (f26 : BufTy.Contents (Elt Ideal) arg27.view.ty) (hb : BorderV (arg27.view.read (Elt Ideal) f26))
    (f27 : BufTy.Contents (Elt Ideal) arg28.view.ty) (h27 : arg28.view.read (Elt Ideal) f27 = B.dwwV)
    (f28 : BufTy.Contents (Elt Ideal) arg29.view.ty) (f29 : BufTy.Contents (Elt Ideal) arg30.view.ty)
    (f30 : BufTy.Contents (Elt Ideal) arg31.view.ty) (f31 : BufTy.Contents (Elt Ideal) arg32.view.ty) (f32 j : BufTy.Contents (Elt Ideal) arg33.view.ty)
    (n3 n5 n6 n7 : ℕ) (h3 : n3 = 11) (h5 : n5 = 14) (h6 : n6 = 11) (h7 : n7 = 14)
    (L3) (e3 : L3 = pbOut_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg1.unread B.x0) (harg3.unread B.x2) (harg6.unread B.x5) (harg7.unread B.x6) f27 f26 n3)
    (P5) (e5 : P5 = pb_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg8.unread B.x7) (harg9.unread B.x8) f20 f21 (arg29.view.writes (Elt Ideal) f28 L3) f29 n5)
    (P6) (e6 : P6 = pb_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg12.unread B.x11) f24 (arg29.view.writes (Elt Ideal) f28 (P5.2.2.1 ++ L3))
      (arg30.view.writes (Elt Ideal) f29 P5.2.2.2) n6)
    (v9) (e9 : v9 = View.readAt (Elt Ideal) arg33.view (Rect.unit (s := S1x5632) ![0, 0] S1x5632.size inb_S1x5632_S1x5632_0_0).toLoadRect
      (arg33.view.writes (Elt Ideal) f32 P6.2))
    (P7) (e7 : P7 = pb_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg13.unread B.x12) (harg14.unread B.x13) (arg31.view.writes (Elt Ideal) f30 P6.1)
      (arg33.view.writes (Elt Ideal) j (⟨Rect.unit (s := S1x5632) ![0, 0] S1x5632.size inb_S1x5632_S1x5632_0_0, k0_pay509 (F := Ideal) v9⟩ :: P6.2)) n7)
    (y) (ey : y = k0_pay515 (F := Ideal) (View.readAt (Elt Ideal) arg32.view (Rect.unit (s := S224x5632) ![0, 0] S224x5632.size inb_S224x5632_S224x5632_0_0).toLoadRect
        (arg32.view.writes (Elt Ideal) f31 P7.2.2.2))
      (View.readAt (Elt Ideal) arg26.view (Rect.unit (s := S5632x1408) ![0, 0] S5632x1408.size inb_S5632x1408_S5632x1408_0_0).toLoadRect f25)
      (View.readAt (Elt Ideal) arg29.view (Rect.unit (s := S224x1408) ![0, 0] S224x1.size inb_S224x1408_S224x1_0_0).toLoadRect
        (arg29.view.writes (Elt Ideal) f28 (P7.2.2.1 ++ (P5.2.2.1 ++ L3))))
      (View.readAt (Elt Ideal) arg17.view (Rect.unit (s := S1x1408) ![0, 0] S1x1408.size inb_S1x1408_S1x1408_0_0).toLoadRect (harg17.unread B.x16)))
    (q : FVec Ideal S1x1408 .f32) (hq : ∀ k, q (ix2 0 k) = Ideal.div 1 (B.x1 (ix1 0))) :
    arg18.view.read (Elt Ideal) (arg18.view.writes (Elt Ideal) f17 (outL arg4 (harg4.unread B.x3) y)) = B.outV
    ∧ arg19.view.read (Elt Ideal) (arg19.view.writes (Elt Ideal) f18 (codeL arg4 (harg4.unread B.x3) q y)) = B.codesV
    ∧ arg20.view.read (Elt Ideal) (arg20.view.writes (Elt Ideal) f19 [⟨Rect.unit (s := S6x5632) (k0_off252 i) S1x5632.size (k0_off252_inb i), v9⟩])
      = B.gxRow (arg20.view.read (Elt Ideal) f19) (i 0).val
    ∧ arg21.view.read (Elt Ideal) (arg21.view.writes (Elt Ideal) f20 P5.1) = B.a1cV
    ∧ arg22.view.read (Elt Ideal) (arg22.view.writes (Elt Ideal) f21 P5.2.1) = B.a1sV
    ∧ arg23.view.read (Elt Ideal) (arg23.view.writes (Elt Ideal) f22 P7.1) = B.a2cV
    ∧ arg24.view.read (Elt Ideal) (arg24.view.writes (Elt Ideal) f23 P7.2.1) = B.a2sV
    ∧ BorderV (arg27.view.read (Elt Ideal) (arg27.view.writes (Elt Ideal) f26 (pbStrip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (harg1.unread B.x0)
      (harg3.unread B.x2) (harg6.unread B.x5) (harg7.unread B.x6) f27 f26 n3))) := by
  obtain ⟨a3, b3⟩ := step_conv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B f27 f26 h27 hb n3 h3
  rw [← e3] at a3
  obtain ⟨a5, b5, c5, d5⟩ := step_norm c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B _ (a3 f28) f20 f21 f29 n5 h5
  rw [← e5] at a5 b5 c5 d5
  rw [View.writes_append] at e6
  obtain ⟨a6, b6⟩ := step_hidden c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B _ c5 _ d5 f24 h24 n6 h6
  rw [← e6] at a6 b6
  have hv : v9 = B.gxV := e9.trans (step_gx_load arg33 B _ (b6 f32))
  obtain ⟨a7, b7, c7, d7⟩ := step_response c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B _ (a6 f30) _ (step_factor arg33 B j P6.2 v9 hv inb_S1x5632_S1x5632_0_0) n7 h7
  rw [← e7] at a7 b7 c7 d7
  have hy : ∀ p k, y (ix2 p k) = B.y p k := by
    intro p k
    rw [ey, View.writes_append]
    exact step_y arg17 harg17 arg26 arg29 arg32 B _ (d7 f31) f25 h25 _ (c7 _) p k
  exact ⟨step_out arg4 harg4 arg18 B y hy f17, step_codes arg4 harg4 arg19 B q hq y hy f18, step_gx i arg20 B f19 v9 hv, a5, b5, a7 f22, b7 f23, b3⟩

/-- The strip zeroed whole. -/
theorem zero_strip (f : BufTy.Contents (Elt Ideal) arg27.view.ty) :
    BorderV (arg27.view.read (Elt Ideal) (arg27.view.writes (Elt Ideal) f [⟨Rect.unit (s := S14x32x128) ![0, 0, 0] S14x32x128.size inb_S14x32x128_S14x32x128_0_0_0, k0_pay493 (F := Ideal)⟩])) := by
  intro r b l _
  refine ((Tiles.unit3 rfl inb_S14x32x128_S14x32x128_0_0_0 (k0_pay493 (F := Ideal)) (fun _ => (0 : EReal)) fun r b l _ _ _ => ?_).dom
    (D' := fun y => True) fun y => ?_).read_of_mem arg27.view f (ix3 r b l) trivial
  · pointwise [k0_pay493]
  · have h0 : (y 0).val < 14 := (y 0).isLt
    have h1 : (y 1).val < 32 := (y 1).isLt
    have h2 : (y 2).val < 128 := (y 2).isLt
    exact ⟨fun _ => ⟨⟨Nat.zero_le _, by omega⟩, ⟨Nat.zero_le _, by omega⟩, ⟨Nat.zero_le _, by omega⟩⟩, fun _ => trivial⟩

/-- The convolution's weights as numbers. -/
theorem set_dww (f : BufTy.Contents (Elt Ideal) arg28.view.ty) :
    arg28.view.read (Elt Ideal) (arg28.view.writes (Elt Ideal) f [⟨Rect.unit (s := S7x7x1408) ![0, 0, 0] S7x7x1408.size inb_S7x7x1408_S7x7x1408_0_0_0,
      k0_pay494 (F := Ideal) (View.readAt (Elt Ideal) arg5.view (Rect.unit (s := S7x7x1408) ![0, 0, 0] S7x7x1408.size inb_S7x7x1408_S7x7x1408_0_0_0).toLoadRect
        (harg5.unread B.x4))⟩]) = B.dwwV := by
  funext z
  refine ((Tiles.unit3 rfl inb_S7x7x1408_S7x7x1408_0_0_0 _ B.dwwV fun r b l hr hb hl => ?_).dom
    (D' := fun y => True) fun y => ?_).read_of_mem arg28.view f z trivial
  · have e : k0_pay494 (F := Ideal) (View.readAt (Elt Ideal) arg5.view (Rect.unit (s := S7x7x1408) ![0, 0, 0] S7x7x1408.size inb_S7x7x1408_S7x7x1408_0_0_0).toLoadRect
        (harg5.unread B.x4)) (ix3 r b l) = FloatOps.sitofp (F := Ideal) .f32 (w := 8) (B.x4 (ix3 r b l)) := by
      pointwise [k0_pay494]
      refine congrArg (FloatOps.sitofp (F := Ideal) FTy.f32) ?_
      exact (load3' arg5.view (harg5.unread B.x4) rfl inb_S7x7x1408_S7x7x1408_0_0_0 r b l r b l (by simp) (by simp) (by simp)).trans
        (congrFun (harg5.read_unread B.x4) _)
    refine e.trans ?_
    show B.dww r b l = B.dww _ _ _
    congr 1 <;> exact Fin.ext (Nat.zero_add _).symm
  · have h0 : (y 0).val < 7 := (y 0).isLt
    have h1 : (y 1).val < 7 := (y 1).isLt
    have h2 : (y 2).val < 1408 := (y 2).isLt
    exact ⟨fun _ => ⟨⟨Nat.zero_le _, by omega⟩, ⟨Nat.zero_le _, by omega⟩, ⟨Nat.zero_le _, by omega⟩⟩, fun _ => trivial⟩

end
end Cert.KernelIdeal.Gen

end
-- ==== Proof.RunValue.lean ====
/- The kernel's body run once, read off: handed a block's inputs it leaves the block's results in the output buffers. -/
module

public import proofs.«01_k».proof.Proof.OutRows
public import proofs.«01_k».proof.Proof.ConvKernelIdeal
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic Cert.Spec Cert.Tiles
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The input buffers hold the block's inputs. -/
abbrev InR (c : Dev nD) (arg1 : Memref sig .tc .smem S1 .f32) (arg2 : Memref sig .tc .smem S1 .f32) (arg3 : Memref sig .tc .vmem S1x14x16x1408 .i8) (arg4 : Memref sig .tc .vmem S1x14x16x1408 .bf16) (arg5 : Memref sig .tc .vmem S7x7x1408 .i8) (arg6 : Memref sig .tc .vmem S1x1408 .f32) (arg7 : Memref sig .tc .vmem S1x1408 .f32) (arg8 : Memref sig .tc .vmem S1x1408 .f32) (arg9 : Memref sig .tc .vmem S1x1408 .f32) (arg10 : Memref sig .tc .vmem S704x5632 .i8) (arg11 : Memref sig .tc .vmem S11x5632 .bf16) (arg12 : Memref sig .tc .vmem S1x5632 .f32) (arg13 : Memref sig .tc .vmem S1x5632 .f32) (arg14 : Memref sig .tc .vmem S1x5632 .f32) (arg15 : Memref sig .tc .vmem S2816x1408 .i8) (arg16 : Memref sig .tc .vmem S44x1408 .bf16) (arg17 : Memref sig .tc .vmem S1x1408 .f32) (B : In) : sProp 𝕄 :=
  iprop(owns (c : Thread nD τ) arg1 fullShare B.x0 ∗ owns (c : Thread nD τ) arg2 fullShare B.x1 ∗ owns (c : Thread nD τ) arg3 fullShare B.x2 ∗ owns (c : Thread nD τ) arg4 fullShare B.x3 ∗ owns (c : Thread nD τ) arg5 fullShare B.x4 ∗ owns (c : Thread nD τ) arg6 fullShare B.x5 ∗ owns (c : Thread nD τ) arg7 fullShare B.x6 ∗ owns (c : Thread nD τ) arg8 fullShare B.x7 ∗ owns (c : Thread nD τ) arg9 fullShare B.x8 ∗ owns (c : Thread nD τ) arg10 fullShare B.x9 ∗ owns (c : Thread nD τ) arg11 fullShare B.x10 ∗ owns (c : Thread nD τ) arg12 fullShare B.x11 ∗ owns (c : Thread nD τ) arg13 fullShare B.x12 ∗ owns (c : Thread nD τ) arg14 fullShare B.x13 ∗ owns (c : Thread nD τ) arg15 fullShare B.x14 ∗ owns (c : Thread nD τ) arg16 fullShare B.x15 ∗ owns (c : Thread nD τ) arg17 fullShare B.x16)

/-- The output buffers hold anything, the column norms' `Y`. -/
abbrev OutAny (c : Dev nD) (arg18 : Memref sig .tc .vmem S1x14x16x1408 .bf16) (arg19 : Memref sig .tc .vmem S1x14x16x1408 .i8) (arg20 : Memref sig .tc .vmem S6x5632 .f32) (arg21 : Memref sig .tc .vmem S1x14x16x1408 .i8) (arg22 : Memref sig .tc .vmem S1x14x16 .f32) (arg23 : Memref sig .tc .vmem S1x14x16x5632 .i8) (arg24 : Memref sig .tc .vmem S1x14x16 .f32) (Y : Vec Ideal S6x5632 .f32) : sProp 𝕄 :=
  iprop((∃ d, owns (c : Thread nD τ) arg18 fullShare d) ∗ (∃ d, owns (c : Thread nD τ) arg19 fullShare d) ∗ owns (c : Thread nD τ) arg20 fullShare Y ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d))

/-- The output buffers hold the block's results. -/
abbrev OutVal (c : Dev nD) (arg18 : Memref sig .tc .vmem S1x14x16x1408 .bf16) (arg19 : Memref sig .tc .vmem S1x14x16x1408 .i8) (arg20 : Memref sig .tc .vmem S6x5632 .f32) (arg21 : Memref sig .tc .vmem S1x14x16x1408 .i8) (arg22 : Memref sig .tc .vmem S1x14x16 .f32) (arg23 : Memref sig .tc .vmem S1x14x16x5632 .i8) (arg24 : Memref sig .tc .vmem S1x14x16 .f32) (B : In) (Y : Vec Ideal S6x5632 .f32) (b : ℕ) : sProp 𝕄 :=
  iprop(owns (c : Thread nD τ) arg18 fullShare B.outV ∗ owns (c : Thread nD τ) arg19 fullShare B.codesV ∗ owns (c : Thread nD τ) arg20 fullShare (B.gxRow Y b) ∗ owns (c : Thread nD τ) arg21 fullShare B.a1cV ∗ owns (c : Thread nD τ) arg22 fullShare B.a1sV ∗ owns (c : Thread nD τ) arg23 fullShare B.a2cV ∗ owns (c : Thread nD τ) arg24 fullShare B.a2sV)

/-- The scratch buffers hold anything. -/
abbrev ScrAny (c : Dev nD) (arg25 : Memref sig .tc .vmem S1408x5632 .bf16) (arg26 : Memref sig .tc .vmem S5632x1408 .bf16) (arg27 : Memref sig .tc .vmem S14x32x128 .f32) (arg28 : Memref sig .tc .vmem S7x7x1408 .f32) (arg29 : Memref sig .tc .vmem S224x1408 .f32) (arg30 : Memref sig .tc .vmem S224x1408 .bf16) (arg31 : Memref sig .tc .vmem S224x5632 .f32) (arg32 : Memref sig .tc .vmem S224x5632 .bf16) (arg33 : Memref sig .tc .vmem S1x5632 .f32) : sProp 𝕄 :=
  iprop((∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d))

/-- The scratch buffers after a point: the weights widened, the strip zero left and right. -/
abbrev ScrVal (c : Dev nD) (arg25 : Memref sig .tc .vmem S1408x5632 .bf16) (arg26 : Memref sig .tc .vmem S5632x1408 .bf16) (arg27 : Memref sig .tc .vmem S14x32x128 .f32) (arg28 : Memref sig .tc .vmem S7x7x1408 .f32) (arg29 : Memref sig .tc .vmem S224x1408 .f32) (arg30 : Memref sig .tc .vmem S224x1408 .bf16) (arg31 : Memref sig .tc .vmem S224x5632 .f32) (arg32 : Memref sig .tc .vmem S224x5632 .bf16) (arg33 : Memref sig .tc .vmem S1x5632 .f32) (B : In) : sProp 𝕄 :=
  iprop(owns (c : Thread nD τ) arg25 fullShare B.w1V ∗ owns (c : Thread nD τ) arg26 fullShare B.w2V ∗ (∃ X, ⌜BorderV X⌝ ∗ owns (c : Thread nD τ) arg27 fullShare X) ∗ owns (c : Thread nD τ) arg28 fullShare B.dwwV ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d))

set_option maxHeartbeats 8000000 in
/-- The body at the first point. -/
theorem runv_first (c : Dev nD) (i : grid0.Coords) (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (hc : k0_cond1 i = 1#1) (B : In) (Y : Vec Ideal S6x5632 .f32) (E : Set ℕ) :
    iprop(InR c arg1 arg2 arg3 arg4 arg5 arg6 arg7 arg8 arg9 arg10 arg11 arg12 arg13 arg14 arg15 arg16 arg17 B ∗ OutAny c arg18 arg19 arg20 arg21 arg22 arg23 arg24 Y ∗ ScrAny c arg25 arg26 arg27 arg28 arg29 arg30 arg31 arg32 arg33)
    ⊢ wp frame (wpE (defs₀ (F := Ideal)) Variants.none c none) E (cc0_convnext_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33)
        (fun _ => (iprop(InR c arg1 arg2 arg3 arg4 arg5 arg6 arg7 arg8 arg9 arg10 arg11 arg12 arg13 arg14 arg15 arg16 arg17 B ∗ OutVal c arg18 arg19 arg20 arg21 arg22 arg23 arg24 B Y (i 0).val ∗ ScrVal c arg25 arg26 arg27 arg28 arg29 arg30 arg31 arg32 arg33 B) : sProp 𝕄)) := by
  simp only [cc0_convnext_block_eq_skeleton]; unfold cc0_convnext_block_skel
  simp only [k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton]
  unfold InR OutAny OutVal ScrAny ScrVal owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨⟨%d17, %f17, %hf17, H17⟩, ⟨%d18, %f18, %hf18, H18⟩, ⟨%f19, %hf19, H19⟩, ⟨%d20, %f20, %hf20, H20⟩, ⟨%d21, %f21, %hf21, H21⟩, ⟨%d22, %f22, %hf22, H22⟩, ⟨%d23, %f23, %hf23, H23⟩⟩, ⟨⟨%d24, %f24, %hf24, H24⟩, ⟨%d25, %f25, %hf25, H25⟩, ⟨%d26, %f26, %hf26, H26⟩, ⟨%d27, %f27, %hf27, H27⟩, ⟨%d28, %f28, %hf28, H28⟩, ⟨%d29, %f29, %hf29, H29⟩, ⟨%d30, %f30, %hf30, H30⟩, ⟨%d31, %f31, %hf31, H31⟩, ⟨%d32, %f32, %hf32, H32⟩⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
  sl_exec (disch := first | sl_exact hc)
  sl_step
  have w1 := step_w1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B hc f24 (Scf.trips k0_t1_loop.lb k0_t1_loop.ub k0_t1_loop.st) rfl
  have w2 := step_w2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B hc f25 (Scf.trips k0_t2_loop.lb k0_t2_loop.ub k0_t2_loop.st) rfl
  have zb := zero_strip arg27 arg27.view.junk
  have dw := set_dww arg5 harg5 arg28 B arg28.view.junk
  obtain ⟨p17, p18, p19, p20, p21, p22, p23, p26⟩ := point c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B f17 f18 f19 f20 f21 f22 f23 _ w1 _ w2 _ zb _ dw f28 f29 f30 f31 f32
    arg33.view.junk (Scf.trips k0_t3_loop.lb k0_t3_loop.ub k0_t3_loop.st) (Scf.trips k0_t5_loop.lb k0_t5_loop.ub k0_t5_loop.st) (Scf.trips k0_t6_loop.lb k0_t6_loop.ub k0_t6_loop.st) (Scf.trips k0_t7_loop.lb k0_t7_loop.ub k0_t7_loop.st) rfl rfl rfl rfl _ rfl _ rfl _ rfl _ rfl _ rfl _ rfl _ fun k => step_q arg2 harg2 B k (Shape.Idx.first (by decide))
  rw [hf19] at p19
  isplitl [H0 H1 H2 H3 H4 H5 H6 H7 H8 H9 H10 H11 H12 H13 H14 H15 H16]
  · isplitl [H0]
    · iexists _; isplitr; (· ipureintro; exact harg1.read_unread _); iexact H0
    isplitl [H1]
    · iexists _; isplitr; (· ipureintro; exact harg2.read_unread _); iexact H1
    isplitl [H2]
    · iexists _; isplitr; (· ipureintro; exact harg3.read_unread _); iexact H2
    isplitl [H3]
    · iexists _; isplitr; (· ipureintro; exact harg4.read_unread _); iexact H3
    isplitl [H4]
    · iexists _; isplitr; (· ipureintro; exact harg5.read_unread _); iexact H4
    isplitl [H5]
    · iexists _; isplitr; (· ipureintro; exact harg6.read_unread _); iexact H5
    isplitl [H6]
    · iexists _; isplitr; (· ipureintro; exact harg7.read_unread _); iexact H6
    isplitl [H7]
    · iexists _; isplitr; (· ipureintro; exact harg8.read_unread _); iexact H7
    isplitl [H8]
    · iexists _; isplitr; (· ipureintro; exact harg9.read_unread _); iexact H8
    isplitl [H9]
    · iexists _; isplitr; (· ipureintro; exact harg10.read_unread _); iexact H9
    isplitl [H10]
    · iexists _; isplitr; (· ipureintro; exact harg11.read_unread _); iexact H10
    isplitl [H11]
    · iexists _; isplitr; (· ipureintro; exact harg12.read_unread _); iexact H11
    isplitl [H12]
    · iexists _; isplitr; (· ipureintro; exact harg13.read_unread _); iexact H12
    isplitl [H13]
    · iexists _; isplitr; (· ipureintro; exact harg14.read_unread _); iexact H13
    isplitl [H14]
    · iexists _; isplitr; (· ipureintro; exact harg15.read_unread _); iexact H14
    isplitl [H15]
    · iexists _; isplitr; (· ipureintro; exact harg16.read_unread _); iexact H15
    iexists _; isplitr; (· ipureintro; exact harg17.read_unread _); iexact H16
  isplitl [H17 H18 H19 H20 H21 H22 H23]
  · isplitl [H17]
    · iexists _; isplitr; swap; (· iexact H17); ipureintro; exact p17
    isplitl [H18]
    · iexists _; isplitr; swap; (· iexact H18); ipureintro; exact p18
    isplitl [H19]
    · iexists _; isplitr; swap; (· iexact H19); ipureintro; exact p19
    isplitl [H20]
    · iexists _; isplitr; swap; (· iexact H20); ipureintro; exact p20
    isplitl [H21]
    · iexists _; isplitr; swap; (· iexact H21); ipureintro; exact p21
    isplitl [H22]
    · iexists _; isplitr; swap; (· iexact H22); ipureintro; exact p22
    iexists _; isplitr; swap; (· iexact H23); ipureintro; exact p23
  isplitl [H24]
  · iexists _; isplitr; swap; (· iexact H24); ipureintro; exact w1
  isplitl [H25]
  · iexists _; isplitr; swap; (· iexact H25); ipureintro; exact w2
  isplitl [H26]
  · iexists _; isplitr; swap; (· iexists _; isplitr; swap; (· iexact H26); ipureintro; rfl); ipureintro; rw [View.writes_append]; exact p26
  isplitl [H27]
  · iexists _; isplitr; swap; (· iexact H27); ipureintro; exact dw
  isplitl [H28]
  · iexists _, _; isplitr; swap; (· iexact H28); ipureintro; rfl
  isplitl [H29]
  · iexists _, _; isplitr; swap; (· iexact H29); ipureintro; rfl
  isplitl [H30]
  · iexists _, _; isplitr; swap; (· iexact H30); ipureintro; rfl
  isplitl [H31]
  · iexists _, _; isplitr; swap; (· iexact H31); ipureintro; rfl
  iexists _, _; isplitr; swap; (· iexact H32); ipureintro; rfl

set_option maxHeartbeats 8000000 in
/-- The body at a later point. -/
theorem runv_later (c : Dev nD) (i : grid0.Coords) (arg1 : Memref sig .tc .smem S1 .f32) (harg1 : arg1.IsWhole) (arg2 : Memref sig .tc .smem S1 .f32) (harg2 : arg2.IsWhole) (arg3 : Memref sig .tc .vmem S1x14x16x1408 .i8) (harg3 : arg3.IsWhole)
    (arg4 : Memref sig .tc .vmem S1x14x16x1408 .bf16) (harg4 : arg4.IsWhole) (arg5 : Memref sig .tc .vmem S7x7x1408 .i8) (harg5 : arg5.IsWhole) (arg6 : Memref sig .tc .vmem S1x1408 .f32) (harg6 : arg6.IsWhole)
    (arg7 : Memref sig .tc .vmem S1x1408 .f32) (harg7 : arg7.IsWhole) (arg8 : Memref sig .tc .vmem S1x1408 .f32) (harg8 : arg8.IsWhole) (arg9 : Memref sig .tc .vmem S1x1408 .f32) (harg9 : arg9.IsWhole)
    (arg10 : Memref sig .tc .vmem S704x5632 .i8) (harg10 : arg10.IsWhole) (arg11 : Memref sig .tc .vmem S11x5632 .bf16) (harg11 : arg11.IsWhole) (arg12 : Memref sig .tc .vmem S1x5632 .f32) (harg12 : arg12.IsWhole)
    (arg13 : Memref sig .tc .vmem S1x5632 .f32) (harg13 : arg13.IsWhole) (arg14 : Memref sig .tc .vmem S1x5632 .f32) (harg14 : arg14.IsWhole) (arg15 : Memref sig .tc .vmem S2816x1408 .i8) (harg15 : arg15.IsWhole)
    (arg16 : Memref sig .tc .vmem S44x1408 .bf16) (harg16 : arg16.IsWhole) (arg17 : Memref sig .tc .vmem S1x1408 .f32) (harg17 : arg17.IsWhole) (arg18 : Memref sig .tc .vmem S1x14x16x1408 .bf16) (harg18 : arg18.IsWhole)
    (arg19 : Memref sig .tc .vmem S1x14x16x1408 .i8) (harg19 : arg19.IsWhole) (arg20 : Memref sig .tc .vmem S6x5632 .f32) (harg20 : arg20.IsWhole) (arg21 : Memref sig .tc .vmem S1x14x16x1408 .i8) (harg21 : arg21.IsWhole)
    (arg22 : Memref sig .tc .vmem S1x14x16 .f32) (harg22 : arg22.IsWhole) (arg23 : Memref sig .tc .vmem S1x14x16x5632 .i8) (harg23 : arg23.IsWhole) (arg24 : Memref sig .tc .vmem S1x14x16 .f32) (harg24 : arg24.IsWhole)
    (arg25 : Memref sig .tc .vmem S1408x5632 .bf16) (harg25 : arg25.IsWhole) (arg26 : Memref sig .tc .vmem S5632x1408 .bf16) (harg26 : arg26.IsWhole) (arg27 : Memref sig .tc .vmem S14x32x128 .f32) (harg27 : arg27.IsWhole)
    (arg28 : Memref sig .tc .vmem S7x7x1408 .f32) (harg28 : arg28.IsWhole) (arg29 : Memref sig .tc .vmem S224x1408 .f32) (harg29 : arg29.IsWhole) (arg30 : Memref sig .tc .vmem S224x1408 .bf16) (harg30 : arg30.IsWhole)
    (arg31 : Memref sig .tc .vmem S224x5632 .f32) (harg31 : arg31.IsWhole) (arg32 : Memref sig .tc .vmem S224x5632 .bf16) (harg32 : arg32.IsWhole) (arg33 : Memref sig .tc .vmem S1x5632 .f32) (harg33 : arg33.IsWhole)
    (hc : ¬k0_cond1 i = 1#1) (B : In) (Y : Vec Ideal S6x5632 .f32) (E : Set ℕ) :
    iprop(InR c arg1 arg2 arg3 arg4 arg5 arg6 arg7 arg8 arg9 arg10 arg11 arg12 arg13 arg14 arg15 arg16 arg17 B ∗ OutAny c arg18 arg19 arg20 arg21 arg22 arg23 arg24 Y ∗ ScrVal c arg25 arg26 arg27 arg28 arg29 arg30 arg31 arg32 arg33 B)
    ⊢ wp frame (wpE (defs₀ (F := Ideal)) Variants.none c none) E (cc0_convnext_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33)
        (fun _ => (iprop(InR c arg1 arg2 arg3 arg4 arg5 arg6 arg7 arg8 arg9 arg10 arg11 arg12 arg13 arg14 arg15 arg16 arg17 B ∗ OutVal c arg18 arg19 arg20 arg21 arg22 arg23 arg24 B Y (i 0).val ∗ ScrVal c arg25 arg26 arg27 arg28 arg29 arg30 arg31 arg32 arg33 B) : sProp 𝕄)) := by
  simp only [cc0_convnext_block_eq_skeleton]; unfold cc0_convnext_block_skel
  simp only [k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton]
  unfold InR OutAny OutVal ScrVal owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨⟨%d17, %f17, %hf17, H17⟩, ⟨%d18, %f18, %hf18, H18⟩, ⟨%f19, %hf19, H19⟩, ⟨%d20, %f20, %hf20, H20⟩, ⟨%d21, %f21, %hf21, H21⟩, ⟨%d22, %f22, %hf22, H22⟩, ⟨%d23, %f23, %hf23, H23⟩⟩, ⟨⟨%f24, %hf24, H24⟩, ⟨%f25, %hf25, H25⟩, ⟨%d26, %hb, %f26, %hf26, H26⟩, ⟨%f27, %hf27, H27⟩, ⟨%d28, %f28, %hf28, H28⟩, ⟨%d29, %f29, %hf29, H29⟩, ⟨%d30, %f30, %hf30, H30⟩, ⟨%d31, %f31, %hf31, H31⟩, ⟨%d32, %f32, %hf32, H32⟩⟩⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
  sl_exec (disch := first | sl_exact hc)
  sl_step
  have zb : BorderV (arg27.view.read (Elt Ideal) f26) := by rw [hf26]; exact hb
  obtain ⟨p17, p18, p19, p20, p21, p22, p23, p26⟩ := point c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 B f17 f18 f19 f20 f21 f22 f23 f24 hf24 f25 hf25 f26 zb f27 hf27 f28 f29 f30 f31 f32
    arg33.view.junk (Scf.trips k0_t3_loop.lb k0_t3_loop.ub k0_t3_loop.st) (Scf.trips k0_t5_loop.lb k0_t5_loop.ub k0_t5_loop.st) (Scf.trips k0_t6_loop.lb k0_t6_loop.ub k0_t6_loop.st) (Scf.trips k0_t7_loop.lb k0_t7_loop.ub k0_t7_loop.st) rfl rfl rfl rfl _ rfl _ rfl _ rfl _ rfl _ rfl _ rfl _ fun k => step_q arg2 harg2 B k (Shape.Idx.first (by decide))
  rw [hf19] at p19
  isplitl [H0 H1 H2 H3 H4 H5 H6 H7 H8 H9 H10 H11 H12 H13 H14 H15 H16]
  · isplitl [H0]
    · iexists _; isplitr; (· ipureintro; exact harg1.read_unread _); iexact H0
    isplitl [H1]
    · iexists _; isplitr; (· ipureintro; exact harg2.read_unread _); iexact H1
    isplitl [H2]
    · iexists _; isplitr; (· ipureintro; exact harg3.read_unread _); iexact H2
    isplitl [H3]
    · iexists _; isplitr; (· ipureintro; exact harg4.read_unread _); iexact H3
    isplitl [H4]
    · iexists _; isplitr; (· ipureintro; exact harg5.read_unread _); iexact H4
    isplitl [H5]
    · iexists _; isplitr; (· ipureintro; exact harg6.read_unread _); iexact H5
    isplitl [H6]
    · iexists _; isplitr; (· ipureintro; exact harg7.read_unread _); iexact H6
    isplitl [H7]
    · iexists _; isplitr; (· ipureintro; exact harg8.read_unread _); iexact H7
    isplitl [H8]
    · iexists _; isplitr; (· ipureintro; exact harg9.read_unread _); iexact H8
    isplitl [H9]
    · iexists _; isplitr; (· ipureintro; exact harg10.read_unread _); iexact H9
    isplitl [H10]
    · iexists _; isplitr; (· ipureintro; exact harg11.read_unread _); iexact H10
    isplitl [H11]
    · iexists _; isplitr; (· ipureintro; exact harg12.read_unread _); iexact H11
    isplitl [H12]
    · iexists _; isplitr; (· ipureintro; exact harg13.read_unread _); iexact H12
    isplitl [H13]
    · iexists _; isplitr; (· ipureintro; exact harg14.read_unread _); iexact H13
    isplitl [H14]
    · iexists _; isplitr; (· ipureintro; exact harg15.read_unread _); iexact H14
    isplitl [H15]
    · iexists _; isplitr; (· ipureintro; exact harg16.read_unread _); iexact H15
    iexists _; isplitr; (· ipureintro; exact harg17.read_unread _); iexact H16
  isplitl [H17 H18 H19 H20 H21 H22 H23]
  · isplitl [H17]
    · iexists _; isplitr; swap; (· iexact H17); ipureintro; exact p17
    isplitl [H18]
    · iexists _; isplitr; swap; (· iexact H18); ipureintro; exact p18
    isplitl [H19]
    · iexists _; isplitr; swap; (· iexact H19); ipureintro; exact p19
    isplitl [H20]
    · iexists _; isplitr; swap; (· iexact H20); ipureintro; exact p20
    isplitl [H21]
    · iexists _; isplitr; swap; (· iexact H21); ipureintro; exact p21
    isplitl [H22]
    · iexists _; isplitr; swap; (· iexact H22); ipureintro; exact p22
    iexists _; isplitr; swap; (· iexact H23); ipureintro; exact p23
  isplitl [H24]
  · iexists _; isplitr; swap; (· iexact H24); ipureintro; exact hf24
  isplitl [H25]
  · iexists _; isplitr; swap; (· iexact H25); ipureintro; exact hf25
  isplitl [H26]
  · iexists _; isplitr; swap; (· iexists _; isplitr; swap; (· iexact H26); ipureintro; rfl); ipureintro; exact p26
  isplitl [H27]
  · iexists _; isplitr; swap; (· iexact H27); ipureintro; exact hf27
  isplitl [H28]
  · iexists _, _; isplitr; swap; (· iexact H28); ipureintro; rfl
  isplitl [H29]
  · iexists _, _; isplitr; swap; (· iexact H29); ipureintro; rfl
  isplitl [H30]
  · iexists _, _; isplitr; swap; (· iexact H30); ipureintro; rfl
  isplitl [H31]
  · iexists _, _; isplitr; swap; (· iexact H31); ipureintro; rfl
  iexists _, _; isplitr; swap; (· iexact H32); ipureintro; rfl

end Cert.KernelIdeal.Gen

end
-- ==== Proof.FrameValue.lean ====
/- The pipeline's run of the kernel with values: what every output window holds at the end of a point. -/
module

public import proofs.«01_k».proof.Proof.RunValue
public import proofs.«01_k».proof.Proof.FrameKernelIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-- The inputs' blocks at a point. -/
def inAt (c : Dev nD) (t : Fin cfg0.N) : In where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t

/-- The input buffers at a point. -/
abbrev InT (c : Dev nD) (t : Fin cfg0.N) (B : In) : sProp 𝕄 := InR c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (win0_15.stage (cfg0.slots t 15)) (win0_16.stage (cfg0.slots t 16)) B

/-- The output buffers at a point, before it. -/
abbrev OutAnyT (c : Dev nD) (t : Fin cfg0.N) (Y : Vec Ideal S6x5632 .f32) : sProp 𝕄 := OutAny c (win0_17.stage (cfg0.slots t 17)) (win0_18.stage (cfg0.slots t 18)) (win0_19.stage (cfg0.slots t 19)) (win0_20.stage (cfg0.slots t 20)) (win0_21.stage (cfg0.slots t 21)) (win0_22.stage (cfg0.slots t 22)) (win0_23.stage (cfg0.slots t 23)) Y

/-- The output buffers at a point, after it. -/
abbrev OutValT (c : Dev nD) (t : Fin cfg0.N) (B : In) (Y : Vec Ideal S6x5632 .f32) : sProp 𝕄 := OutVal c (win0_17.stage (cfg0.slots t 17)) (win0_18.stage (cfg0.slots t 18)) (win0_19.stage (cfg0.slots t 19)) (win0_20.stage (cfg0.slots t 20)) (win0_21.stage (cfg0.slots t 21)) (win0_22.stage (cfg0.slots t 22)) (win0_23.stage (cfg0.slots t 23)) B Y (grid0.coords t 0).val

/-- The scratch buffers before the first point. -/
abbrev ScrAnyT (c : Dev nD) : sProp 𝕄 := ScrAny c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8)

/-- The scratch buffers after a point. -/
abbrev ScrValT (c : Dev nD) (B : In) : sProp 𝕄 := ScrVal c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) B

/-- They depend on the weights only. -/
theorem scr_congr (c : Dev nD) {B B' : In} (h4 : B.x4 = B'.x4) (h9 : B.x9 = B'.x9) (h10 : B.x10 = B'.x10) (h14 : B.x14 = B'.x14) (h15 : B.x15 = B'.x15) :
    ScrValT c B = ScrValT c B' := by
  cases B; cases B'; dsimp only at h4 h9 h10 h14 h15; subst h4 h9 h10 h14 h15; rfl

/-- The body at the first point, in the pipeline's form. -/
theorem frame_first (c : Dev nD) (t : Fin cfg0.N) (hc : k0_cond1 (grid0.coords t) = 1#1) (R : sProp 𝕄) (B : In)
    (Y : (w : Fin 24) → (cfg0.win w).block.Idx → Elt Ideal (cfg0.win w).elt) :
    iprop(Pipeline.ΦA spec0 c ∗ R ∗ owns (c : Thread nD τ) (st0_0 t) fullShare B.x0 ∗ owns (c : Thread nD τ) (st0_1 t) fullShare B.x1 ∗ owns (c : Thread nD τ) (st0_2 t) fullShare B.x2 ∗ owns (c : Thread nD τ) (st0_3 t) fullShare B.x3 ∗ owns (c : Thread nD τ) (st0_4 t) fullShare B.x4 ∗ owns (c : Thread nD τ) (st0_5 t) fullShare B.x5 ∗ owns (c : Thread nD τ) (st0_6 t) fullShare B.x6 ∗ owns (c : Thread nD τ) (st0_7 t) fullShare B.x7 ∗ owns (c : Thread nD τ) (st0_8 t) fullShare B.x8 ∗ owns (c : Thread nD τ) (st0_9 t) fullShare B.x9 ∗ owns (c : Thread nD τ) (st0_10 t) fullShare B.x10 ∗ owns (c : Thread nD τ) (st0_11 t) fullShare B.x11 ∗ owns (c : Thread nD τ) (st0_12 t) fullShare B.x12 ∗ owns (c : Thread nD τ) (st0_13 t) fullShare B.x13 ∗ owns (c : Thread nD τ) (st0_14 t) fullShare B.x14 ∗ owns (c : Thread nD τ) (st0_15 t) fullShare B.x15 ∗ owns (c : Thread nD τ) (st0_16 t) fullShare B.x16 ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22) ∗ owns (c : Thread nD τ) (st0_23 t) fullShare (Y 23))
      ⊢ wp frame (wpE defs₀ Variants.none c none) Set.univ (bodyAt0 t) (fun _ =>
        iprop(iprop(ScrValT c B ∗ (∃ r, prngReg c r)) ∗ R ∗ (∃ X, ⌜X = B.x0⌝ ∗ owns (c : Thread nD τ) (st0_0 t) fullShare X) ∗ (∃ X, ⌜X = B.x1⌝ ∗ owns (c : Thread nD τ) (st0_1 t) fullShare X) ∗ (∃ X, ⌜X = B.x2⌝ ∗ owns (c : Thread nD τ) (st0_2 t) fullShare X) ∗ (∃ X, ⌜X = B.x3⌝ ∗ owns (c : Thread nD τ) (st0_3 t) fullShare X) ∗ (∃ X, ⌜X = B.x4⌝ ∗ owns (c : Thread nD τ) (st0_4 t) fullShare X) ∗ (∃ X, ⌜X = B.x5⌝ ∗ owns (c : Thread nD τ) (st0_5 t) fullShare X) ∗ (∃ X, ⌜X = B.x6⌝ ∗ owns (c : Thread nD τ) (st0_6 t) fullShare X) ∗ (∃ X, ⌜X = B.x7⌝ ∗ owns (c : Thread nD τ) (st0_7 t) fullShare X) ∗ (∃ X, ⌜X = B.x8⌝ ∗ owns (c : Thread nD τ) (st0_8 t) fullShare X) ∗ (∃ X, ⌜X = B.x9⌝ ∗ owns (c : Thread nD τ) (st0_9 t) fullShare X) ∗ (∃ X, ⌜X = B.x10⌝ ∗ owns (c : Thread nD τ) (st0_10 t) fullShare X) ∗ (∃ X, ⌜X = B.x11⌝ ∗ owns (c : Thread nD τ) (st0_11 t) fullShare X) ∗ (∃ X, ⌜X = B.x12⌝ ∗ owns (c : Thread nD τ) (st0_12 t) fullShare X) ∗ (∃ X, ⌜X = B.x13⌝ ∗ owns (c : Thread nD τ) (st0_13 t) fullShare X) ∗ (∃ X, ⌜X = B.x14⌝ ∗ owns (c : Thread nD τ) (st0_14 t) fullShare X) ∗ (∃ X, ⌜X = B.x15⌝ ∗ owns (c : Thread nD τ) (st0_15 t) fullShare X) ∗ (∃ X, ⌜X = B.x16⌝ ∗ owns (c : Thread nD τ) (st0_16 t) fullShare X) ∗ (∃ X, ⌜X = B.outV⌝ ∗ owns (c : Thread nD τ) (st0_17 t) fullShare X) ∗ (∃ X, ⌜X = B.codesV⌝ ∗ owns (c : Thread nD τ) (st0_18 t) fullShare X) ∗ (∃ X, ⌜X = (B.gxRow (Y 19) (grid0.coords t 0).val)⌝ ∗ owns (c : Thread nD τ) (st0_19 t) fullShare X) ∗ (∃ X, ⌜X = B.a1cV⌝ ∗ owns (c : Thread nD τ) (st0_20 t) fullShare X) ∗ (∃ X, ⌜X = B.a1sV⌝ ∗ owns (c : Thread nD τ) (st0_21 t) fullShare X) ∗ (∃ X, ⌜X = B.a2cV⌝ ∗ owns (c : Thread nD τ) (st0_22 t) fullShare X) ∗ (∃ X, ⌜X = B.a2sV⌝ ∗ owns (c : Thread nD τ) (st0_23 t) fullShare X))) := by
  rw [PhiA0_eq]
  have hrun : iprop(InT c t B ∗ OutAnyT c t (Y 19) ∗ ScrAnyT c)
      ⊢ wp frame (wpE defs₀ Variants.none c none) Set.univ (bodyAt0 t) (fun _ => (iprop(InT c t B ∗ OutValT c t B (Y 19) ∗ ScrValT c B) : sProp 𝕄)) :=
    runv_first c _ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) hc B (Y 19) _
  have hfr : iprop(iprop(InT c t B ∗ OutAnyT c t (Y 19) ∗ ScrAnyT c) ∗ ((∃ r, prngReg c r) ∗ R))
      ⊢ wp frame (wpE defs₀ Variants.none c none) Set.univ (bodyAt0 t)
        (fun _ => iprop(iprop(InT c t B ∗ OutValT c t B (Y 19) ∗ ScrValT c B) ∗ ((∃ r, prngReg c r) ∗ R))) :=
    (BI.sep_mono_l hrun).trans (Idealize.SL.Sem.wp_frame_r _ _ _)
  have hpre : iprop(iprop(ScrAnyT c ∗ (∃ r, prngReg c r)) ∗ R ∗ owns (c : Thread nD τ) (st0_0 t) fullShare B.x0 ∗ owns (c : Thread nD τ) (st0_1 t) fullShare B.x1 ∗ owns (c : Thread nD τ) (st0_2 t) fullShare B.x2 ∗ owns (c : Thread nD τ) (st0_3 t) fullShare B.x3 ∗ owns (c : Thread nD τ) (st0_4 t) fullShare B.x4 ∗ owns (c : Thread nD τ) (st0_5 t) fullShare B.x5 ∗ owns (c : Thread nD τ) (st0_6 t) fullShare B.x6 ∗ owns (c : Thread nD τ) (st0_7 t) fullShare B.x7 ∗ owns (c : Thread nD τ) (st0_8 t) fullShare B.x8 ∗ owns (c : Thread nD τ) (st0_9 t) fullShare B.x9 ∗ owns (c : Thread nD τ) (st0_10 t) fullShare B.x10 ∗ owns (c : Thread nD τ) (st0_11 t) fullShare B.x11 ∗ owns (c : Thread nD τ) (st0_12 t) fullShare B.x12 ∗ owns (c : Thread nD τ) (st0_13 t) fullShare B.x13 ∗ owns (c : Thread nD τ) (st0_14 t) fullShare B.x14 ∗ owns (c : Thread nD τ) (st0_15 t) fullShare B.x15 ∗ owns (c : Thread nD τ) (st0_16 t) fullShare B.x16 ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22) ∗ owns (c : Thread nD τ) (st0_23 t) fullShare (Y 23))
      ⊢ iprop(iprop(InT c t B ∗ OutAnyT c t (Y 19) ∗ ScrAnyT c) ∗ ((∃ r, prngReg c r) ∗ R)) := by
    unfold InT OutAnyT InR OutAny
    iintro ⟨⟨S, Hg⟩, HR, H0, H1, H2, H3, H4, H5, H6, H7, H8, H9, H10, H11, H12, H13, H14, H15, H16, H17, H18, H19, H20, H21, H22, H23⟩
    isplitr [Hg HR]
    · isplitl [H0 H1 H2 H3 H4 H5 H6 H7 H8 H9 H10 H11 H12 H13 H14 H15 H16]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
      isplitl [H17 H18 H19 H20 H21 H22 H23]
      · isplitl [H17]; · iexists _; iexact H17
        isplitl [H18]; · iexists _; iexact H18
        isplitl [H19]; · iexact H19
        isplitl [H20]; · iexists _; iexact H20
        isplitl [H21]; · iexists _; iexact H21
        isplitl [H22]; · iexists _; iexact H22
        iexists _; iexact H23
      iexact S
    isplitl [Hg]; · iexact Hg
    iexact HR
  have hpost : iprop(iprop(InT c t B ∗ OutValT c t B (Y 19) ∗ ScrValT c B) ∗ ((∃ r, prngReg c r) ∗ R))
      ⊢ iprop(iprop(ScrValT c B ∗ (∃ r, prngReg c r)) ∗ R ∗ (∃ X, ⌜X = B.x0⌝ ∗ owns (c : Thread nD τ) (st0_0 t) fullShare X) ∗ (∃ X, ⌜X = B.x1⌝ ∗ owns (c : Thread nD τ) (st0_1 t) fullShare X) ∗ (∃ X, ⌜X = B.x2⌝ ∗ owns (c : Thread nD τ) (st0_2 t) fullShare X) ∗ (∃ X, ⌜X = B.x3⌝ ∗ owns (c : Thread nD τ) (st0_3 t) fullShare X) ∗ (∃ X, ⌜X = B.x4⌝ ∗ owns (c : Thread nD τ) (st0_4 t) fullShare X) ∗ (∃ X, ⌜X = B.x5⌝ ∗ owns (c : Thread nD τ) (st0_5 t) fullShare X) ∗ (∃ X, ⌜X = B.x6⌝ ∗ owns (c : Thread nD τ) (st0_6 t) fullShare X) ∗ (∃ X, ⌜X = B.x7⌝ ∗ owns (c : Thread nD τ) (st0_7 t) fullShare X) ∗ (∃ X, ⌜X = B.x8⌝ ∗ owns (c : Thread nD τ) (st0_8 t) fullShare X) ∗ (∃ X, ⌜X = B.x9⌝ ∗ owns (c : Thread nD τ) (st0_9 t) fullShare X) ∗ (∃ X, ⌜X = B.x10⌝ ∗ owns (c : Thread nD τ) (st0_10 t) fullShare X) ∗ (∃ X, ⌜X = B.x11⌝ ∗ owns (c : Thread nD τ) (st0_11 t) fullShare X) ∗ (∃ X, ⌜X = B.x12⌝ ∗ owns (c : Thread nD τ) (st0_12 t) fullShare X) ∗ (∃ X, ⌜X = B.x13⌝ ∗ owns (c : Thread nD τ) (st0_13 t) fullShare X) ∗ (∃ X, ⌜X = B.x14⌝ ∗ owns (c : Thread nD τ) (st0_14 t) fullShare X) ∗ (∃ X, ⌜X = B.x15⌝ ∗ owns (c : Thread nD τ) (st0_15 t) fullShare X) ∗ (∃ X, ⌜X = B.x16⌝ ∗ owns (c : Thread nD τ) (st0_16 t) fullShare X) ∗ (∃ X, ⌜X = B.outV⌝ ∗ owns (c : Thread nD τ) (st0_17 t) fullShare X) ∗ (∃ X, ⌜X = B.codesV⌝ ∗ owns (c : Thread nD τ) (st0_18 t) fullShare X) ∗ (∃ X, ⌜X = (B.gxRow (Y 19) (grid0.coords t 0).val)⌝ ∗ owns (c : Thread nD τ) (st0_19 t) fullShare X) ∗ (∃ X, ⌜X = B.a1cV⌝ ∗ owns (c : Thread nD τ) (st0_20 t) fullShare X) ∗ (∃ X, ⌜X = B.a1sV⌝ ∗ owns (c : Thread nD τ) (st0_21 t) fullShare X) ∗ (∃ X, ⌜X = B.a2cV⌝ ∗ owns (c : Thread nD τ) (st0_22 t) fullShare X) ∗ (∃ X, ⌜X = B.a2sV⌝ ∗ owns (c : Thread nD τ) (st0_23 t) fullShare X)) := by
    unfold InT OutValT InR OutVal
    iintro ⟨⟨⟨H0, H1, H2, H3, H4, H5, H6, H7, H8, H9, H10, H11, H12, H13, H14, H15, H16⟩, ⟨H17, H18, H19, H20, H21, H22, H23⟩, S⟩, Hg, HR⟩
    isplitl [S Hg]
    · isplitl [S]; · iexact S
      iexact Hg
    isplitl [HR]; · iexact HR
    isplitl [H0]; · iexists _; isplitr; (· ipureintro; exact rfl); iexact H0
    isplitl [H1]; · iexists _; isplitr; (· ipureintro; exact rfl); iexact H1
    isplitl [H2]; · iexists _; isplitr; (· ipureintro; exact rfl); iexact H2
    isplitl [H3]; · iexists _; isplitr; (· ipureintro; exact rfl); iexact H3
    isplitl [H4]; · iexists _; isplitr; (· ipureintro; exact rfl); iexact H4
    isplitl [H5]; · iexists _; isplitr; (· ipureintro; exact rfl); iexact H5
    isplitl [H6]; · iexists _; isplitr; (· ipureintro; exact rfl); iexact H6
    isplitl [H7]; · iexists _; isplitr; (· ipureintro; exact rfl); iexact H7
    isplitl [H8]; · iexists _; isplitr; (· ipureintro; exact rfl); iexact H8
    isplitl [H9]; · iexists _; isplitr; (· ipureintro; exact rfl); iexact H9
    isplitl [H10]; · iexists _; isplitr; (· ipureintro; exact rfl); iexact H10
    isplitl [H11]; · iexists _; isplitr; (· ipureintro; exact rfl); iexact H11
    isplitl [H12]; · iexists _; isplitr; (· ipureintro; exact rfl); iexact H12
    isplitl [H13]; · iexists _; isplitr; (· ipureintro; exact rfl); iexact H13
    isplitl [H14]; · iexists _; isplitr; (· ipureintro; exact rfl); iexact H14
    isplitl [H15]; · iexists _; isplitr; (· ipureintro; exact rfl); iexact H15
    isplitl [H16]; · iexists _; isplitr; (· ipureintro; exact rfl); iexact H16
    isplitl [H17]; · iexists _; isplitr; (· ipureintro; exact rfl); iexact H17
    isplitl [H18]; · iexists _; isplitr; (· ipureintro; exact rfl); iexact H18
    isplitl [H19]; · iexists _; isplitr; (· ipureintro; exact rfl); iexact H19
    isplitl [H20]; · iexists _; isplitr; (· ipureintro; exact rfl); iexact H20
    isplitl [H21]; · iexists _; isplitr; (· ipureintro; exact rfl); iexact H21
    isplitl [H22]; · iexists _; isplitr; (· ipureintro; exact rfl); iexact H22
    iexists _; isplitr; (· ipureintro; exact rfl); iexact H23
  exact hpre.trans (hfr.trans (Idealize.SL.Sem.wp_mono _ _ _ (fun _ => hpost)))

/-- The body at a later point, in the pipeline's form. -/
theorem frame_later (c : Dev nD) (t : Fin cfg0.N) (hc : ¬k0_cond1 (grid0.coords t) = 1#1) (R : sProp 𝕄) (B : In)
    (Y : (w : Fin 24) → (cfg0.win w).block.Idx → Elt Ideal (cfg0.win w).elt) :
    iprop(iprop(ScrValT c B ∗ (∃ r, prngReg c r)) ∗ R ∗ owns (c : Thread nD τ) (st0_0 t) fullShare B.x0 ∗ owns (c : Thread nD τ) (st0_1 t) fullShare B.x1 ∗ owns (c : Thread nD τ) (st0_2 t) fullShare B.x2 ∗ owns (c : Thread nD τ) (st0_3 t) fullShare B.x3 ∗ owns (c : Thread nD τ) (st0_4 t) fullShare B.x4 ∗ owns (c : Thread nD τ) (st0_5 t) fullShare B.x5 ∗ owns (c : Thread nD τ) (st0_6 t) fullShare B.x6 ∗ owns (c : Thread nD τ) (st0_7 t) fullShare B.x7 ∗ owns (c : Thread nD τ) (st0_8 t) fullShare B.x8 ∗ owns (c : Thread nD τ) (st0_9 t) fullShare B.x9 ∗ owns (c : Thread nD τ) (st0_10 t) fullShare B.x10 ∗ owns (c : Thread nD τ) (st0_11 t) fullShare B.x11 ∗ owns (c : Thread nD τ) (st0_12 t) fullShare B.x12 ∗ owns (c : Thread nD τ) (st0_13 t) fullShare B.x13 ∗ owns (c : Thread nD τ) (st0_14 t) fullShare B.x14 ∗ owns (c : Thread nD τ) (st0_15 t) fullShare B.x15 ∗ owns (c : Thread nD τ) (st0_16 t) fullShare B.x16 ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22) ∗ owns (c : Thread nD τ) (st0_23 t) fullShare (Y 23))
      ⊢ wp frame (wpE defs₀ Variants.none c none) Set.univ (bodyAt0 t) (fun _ =>
        iprop(iprop(ScrValT c B ∗ (∃ r, prngReg c r)) ∗ R ∗ (∃ X, ⌜X = B.x0⌝ ∗ owns (c : Thread nD τ) (st0_0 t) fullShare X) ∗ (∃ X, ⌜X = B.x1⌝ ∗ owns (c : Thread nD τ) (st0_1 t) fullShare X) ∗ (∃ X, ⌜X = B.x2⌝ ∗ owns (c : Thread nD τ) (st0_2 t) fullShare X) ∗ (∃ X, ⌜X = B.x3⌝ ∗ owns (c : Thread nD τ) (st0_3 t) fullShare X) ∗ (∃ X, ⌜X = B.x4⌝ ∗ owns (c : Thread nD τ) (st0_4 t) fullShare X) ∗ (∃ X, ⌜X = B.x5⌝ ∗ owns (c : Thread nD τ) (st0_5 t) fullShare X) ∗ (∃ X, ⌜X = B.x6⌝ ∗ owns (c : Thread nD τ) (st0_6 t) fullShare X) ∗ (∃ X, ⌜X = B.x7⌝ ∗ owns (c : Thread nD τ) (st0_7 t) fullShare X) ∗ (∃ X, ⌜X = B.x8⌝ ∗ owns (c : Thread nD τ) (st0_8 t) fullShare X) ∗ (∃ X, ⌜X = B.x9⌝ ∗ owns (c : Thread nD τ) (st0_9 t) fullShare X) ∗ (∃ X, ⌜X = B.x10⌝ ∗ owns (c : Thread nD τ) (st0_10 t) fullShare X) ∗ (∃ X, ⌜X = B.x11⌝ ∗ owns (c : Thread nD τ) (st0_11 t) fullShare X) ∗ (∃ X, ⌜X = B.x12⌝ ∗ owns (c : Thread nD τ) (st0_12 t) fullShare X) ∗ (∃ X, ⌜X = B.x13⌝ ∗ owns (c : Thread nD τ) (st0_13 t) fullShare X) ∗ (∃ X, ⌜X = B.x14⌝ ∗ owns (c : Thread nD τ) (st0_14 t) fullShare X) ∗ (∃ X, ⌜X = B.x15⌝ ∗ owns (c : Thread nD τ) (st0_15 t) fullShare X) ∗ (∃ X, ⌜X = B.x16⌝ ∗ owns (c : Thread nD τ) (st0_16 t) fullShare X) ∗ (∃ X, ⌜X = B.outV⌝ ∗ owns (c : Thread nD τ) (st0_17 t) fullShare X) ∗ (∃ X, ⌜X = B.codesV⌝ ∗ owns (c : Thread nD τ) (st0_18 t) fullShare X) ∗ (∃ X, ⌜X = (B.gxRow (Y 19) (grid0.coords t 0).val)⌝ ∗ owns (c : Thread nD τ) (st0_19 t) fullShare X) ∗ (∃ X, ⌜X = B.a1cV⌝ ∗ owns (c : Thread nD τ) (st0_20 t) fullShare X) ∗ (∃ X, ⌜X = B.a1sV⌝ ∗ owns (c : Thread nD τ) (st0_21 t) fullShare X) ∗ (∃ X, ⌜X = B.a2cV⌝ ∗ owns (c : Thread nD τ) (st0_22 t) fullShare X) ∗ (∃ X, ⌜X = B.a2sV⌝ ∗ owns (c : Thread nD τ) (st0_23 t) fullShare X))) := by
  have hrun : iprop(InT c t B ∗ OutAnyT c t (Y 19) ∗ ScrValT c B)
      ⊢ wp frame (wpE defs₀ Variants.none c none) Set.univ (bodyAt0 t) (fun _ => (iprop(InT c t B ∗ OutValT c t B (Y 19) ∗ ScrValT c B) : sProp 𝕄)) :=
    runv_later c _ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) hc B (Y 19) _
  have hfr : iprop(iprop(InT c t B ∗ OutAnyT c t (Y 19) ∗ ScrValT c B) ∗ ((∃ r, prngReg c r) ∗ R))
      ⊢ wp frame (wpE defs₀ Variants.none c none) Set.univ (bodyAt0 t)
        (fun _ => iprop(iprop(InT c t B ∗ OutValT c t B (Y 19) ∗ ScrValT c B) ∗ ((∃ r, prngReg c r) ∗ R))) :=
    (BI.sep_mono_l hrun).trans (Idealize.SL.Sem.wp_frame_r _ _ _)
  have hpre : iprop(iprop(ScrValT c B ∗ (∃ r, prngReg c r)) ∗ R ∗ owns (c : Thread nD τ) (st0_0 t) fullShare B.x0 ∗ owns (c : Thread nD τ) (st0_1 t) fullShare B.x1 ∗ owns (c : Thread nD τ) (st0_2 t) fullShare B.x2 ∗ owns (c : Thread nD τ) (st0_3 t) fullShare B.x3 ∗ owns (c : Thread nD τ) (st0_4 t) fullShare B.x4 ∗ owns (c : Thread nD τ) (st0_5 t) fullShare B.x5 ∗ owns (c : Thread nD τ) (st0_6 t) fullShare B.x6 ∗ owns (c : Thread nD τ) (st0_7 t) fullShare B.x7 ∗ owns (c : Thread nD τ) (st0_8 t) fullShare B.x8 ∗ owns (c : Thread nD τ) (st0_9 t) fullShare B.x9 ∗ owns (c : Thread nD τ) (st0_10 t) fullShare B.x10 ∗ owns (c : Thread nD τ) (st0_11 t) fullShare B.x11 ∗ owns (c : Thread nD τ) (st0_12 t) fullShare B.x12 ∗ owns (c : Thread nD τ) (st0_13 t) fullShare B.x13 ∗ owns (c : Thread nD τ) (st0_14 t) fullShare B.x14 ∗ owns (c : Thread nD τ) (st0_15 t) fullShare B.x15 ∗ owns (c : Thread nD τ) (st0_16 t) fullShare B.x16 ∗ owns (c : Thread nD τ) (st0_17 t) fullShare (Y 17) ∗ owns (c : Thread nD τ) (st0_18 t) fullShare (Y 18) ∗ owns (c : Thread nD τ) (st0_19 t) fullShare (Y 19) ∗ owns (c : Thread nD τ) (st0_20 t) fullShare (Y 20) ∗ owns (c : Thread nD τ) (st0_21 t) fullShare (Y 21) ∗ owns (c : Thread nD τ) (st0_22 t) fullShare (Y 22) ∗ owns (c : Thread nD τ) (st0_23 t) fullShare (Y 23))
      ⊢ iprop(iprop(InT c t B ∗ OutAnyT c t (Y 19) ∗ ScrValT c B) ∗ ((∃ r, prngReg c r) ∗ R)) := by
    unfold InT OutAnyT InR OutAny
    iintro ⟨⟨S, Hg⟩, HR, H0, H1, H2, H3, H4, H5, H6, H7, H8, H9, H10, H11, H12, H13, H14, H15, H16, H17, H18, H19, H20, H21, H22, H23⟩
    isplitr [Hg HR]
    · isplitl [H0 H1 H2 H3 H4 H5 H6 H7 H8 H9 H10 H11 H12 H13 H14 H15 H16]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
      isplitl [H17 H18 H19 H20 H21 H22 H23]
      · isplitl [H17]; · iexists _; iexact H17
        isplitl [H18]; · iexists _; iexact H18
        isplitl [H19]; · iexact H19
        isplitl [H20]; · iexists _; iexact H20
        isplitl [H21]; · iexists _; iexact H21
        isplitl [H22]; · iexists _; iexact H22
        iexists _; iexact H23
      iexact S
    isplitl [Hg]; · iexact Hg
    iexact HR
  have hpost : iprop(iprop(InT c t B ∗ OutValT c t B (Y 19) ∗ ScrValT c B) ∗ ((∃ r, prngReg c r) ∗ R))
      ⊢ iprop(iprop(ScrValT c B ∗ (∃ r, prngReg c r)) ∗ R ∗ (∃ X, ⌜X = B.x0⌝ ∗ owns (c : Thread nD τ) (st0_0 t) fullShare X) ∗ (∃ X, ⌜X = B.x1⌝ ∗ owns (c : Thread nD τ) (st0_1 t) fullShare X) ∗ (∃ X, ⌜X = B.x2⌝ ∗ owns (c : Thread nD τ) (st0_2 t) fullShare X) ∗ (∃ X, ⌜X = B.x3⌝ ∗ owns (c : Thread nD τ) (st0_3 t) fullShare X) ∗ (∃ X, ⌜X = B.x4⌝ ∗ owns (c : Thread nD τ) (st0_4 t) fullShare X) ∗ (∃ X, ⌜X = B.x5⌝ ∗ owns (c : Thread nD τ) (st0_5 t) fullShare X) ∗ (∃ X, ⌜X = B.x6⌝ ∗ owns (c : Thread nD τ) (st0_6 t) fullShare X) ∗ (∃ X, ⌜X = B.x7⌝ ∗ owns (c : Thread nD τ) (st0_7 t) fullShare X) ∗ (∃ X, ⌜X = B.x8⌝ ∗ owns (c : Thread nD τ) (st0_8 t) fullShare X) ∗ (∃ X, ⌜X = B.x9⌝ ∗ owns (c : Thread nD τ) (st0_9 t) fullShare X) ∗ (∃ X, ⌜X = B.x10⌝ ∗ owns (c : Thread nD τ) (st0_10 t) fullShare X) ∗ (∃ X, ⌜X = B.x11⌝ ∗ owns (c : Thread nD τ) (st0_11 t) fullShare X) ∗ (∃ X, ⌜X = B.x12⌝ ∗ owns (c : Thread nD τ) (st0_12 t) fullShare X) ∗ (∃ X, ⌜X = B.x13⌝ ∗ owns (c : Thread nD τ) (st0_13 t) fullShare X) ∗ (∃ X, ⌜X = B.x14⌝ ∗ owns (c : Thread nD τ) (st0_14 t) fullShare X) ∗ (∃ X, ⌜X = B.x15⌝ ∗ owns (c : Thread nD τ) (st0_15 t) fullShare X) ∗ (∃ X, ⌜X = B.x16⌝ ∗ owns (c : Thread nD τ) (st0_16 t) fullShare X) ∗ (∃ X, ⌜X = B.outV⌝ ∗ owns (c : Thread nD τ) (st0_17 t) fullShare X) ∗ (∃ X, ⌜X = B.codesV⌝ ∗ owns (c : Thread nD τ) (st0_18 t) fullShare X) ∗ (∃ X, ⌜X = (B.gxRow (Y 19) (grid0.coords t 0).val)⌝ ∗ owns (c : Thread nD τ) (st0_19 t) fullShare X) ∗ (∃ X, ⌜X = B.a1cV⌝ ∗ owns (c : Thread nD τ) (st0_20 t) fullShare X) ∗ (∃ X, ⌜X = B.a1sV⌝ ∗ owns (c : Thread nD τ) (st0_21 t) fullShare X) ∗ (∃ X, ⌜X = B.a2cV⌝ ∗ owns (c : Thread nD τ) (st0_22 t) fullShare X) ∗ (∃ X, ⌜X = B.a2sV⌝ ∗ owns (c : Thread nD τ) (st0_23 t) fullShare X)) := by
    unfold InT OutValT InR OutVal
    iintro ⟨⟨⟨H0, H1, H2, H3, H4, H5, H6, H7, H8, H9, H10, H11, H12, H13, H14, H15, H16⟩, ⟨H17, H18, H19, H20, H21, H22, H23⟩, S⟩, Hg, HR⟩
    isplitl [S Hg]
    · isplitl [S]; · iexact S
      iexact Hg
    isplitl [HR]; · iexact HR
    isplitl [H0]; · iexists _; isplitr; (· ipureintro; exact rfl); iexact H0
    isplitl [H1]; · iexists _; isplitr; (· ipureintro; exact rfl); iexact H1
    isplitl [H2]; · iexists _; isplitr; (· ipureintro; exact rfl); iexact H2
    isplitl [H3]; · iexists _; isplitr; (· ipureintro; exact rfl); iexact H3
    isplitl [H4]; · iexists _; isplitr; (· ipureintro; exact rfl); iexact H4
    isplitl [H5]; · iexists _; isplitr; (· ipureintro; exact rfl); iexact H5
    isplitl [H6]; · iexists _; isplitr; (· ipureintro; exact rfl); iexact H6
    isplitl [H7]; · iexists _; isplitr; (· ipureintro; exact rfl); iexact H7
    isplitl [H8]; · iexists _; isplitr; (· ipureintro; exact rfl); iexact H8
    isplitl [H9]; · iexists _; isplitr; (· ipureintro; exact rfl); iexact H9
    isplitl [H10]; · iexists _; isplitr; (· ipureintro; exact rfl); iexact H10
    isplitl [H11]; · iexists _; isplitr; (· ipureintro; exact rfl); iexact H11
    isplitl [H12]; · iexists _; isplitr; (· ipureintro; exact rfl); iexact H12
    isplitl [H13]; · iexists _; isplitr; (· ipureintro; exact rfl); iexact H13
    isplitl [H14]; · iexists _; isplitr; (· ipureintro; exact rfl); iexact H14
    isplitl [H15]; · iexists _; isplitr; (· ipureintro; exact rfl); iexact H15
    isplitl [H16]; · iexists _; isplitr; (· ipureintro; exact rfl); iexact H16
    isplitl [H17]; · iexists _; isplitr; (· ipureintro; exact rfl); iexact H17
    isplitl [H18]; · iexists _; isplitr; (· ipureintro; exact rfl); iexact H18
    isplitl [H19]; · iexists _; isplitr; (· ipureintro; exact rfl); iexact H19
    isplitl [H20]; · iexists _; isplitr; (· ipureintro; exact rfl); iexact H20
    isplitl [H21]; · iexists _; isplitr; (· ipureintro; exact rfl); iexact H21
    isplitl [H22]; · iexists _; isplitr; (· ipureintro; exact rfl); iexact H22
    iexists _; isplitr; (· ipureintro; exact rfl); iexact H23
  exact hpre.trans (hfr.trans (Idealize.SL.Sem.wp_mono _ _ _ (fun _ => hpost)))

/-- What the body leaves in a window at a point, handed `Y`. -/
def afterV (c : Dev nD) (t : Fin cfg0.N) : (w : Fin 24) → (Y X : (cfg0.win w).block.Idx → Elt Ideal (cfg0.win w).elt) → Prop
  | 17, _, X => X = (inAt m c t).outV
  | 18, _, X => X = (inAt m c t).codesV
  | 19, Y, X => X = (inAt m c t).gxRow Y (grid0.coords t 0).val
  | 20, _, X => X = (inAt m c t).a1cV
  | 21, _, X => X = (inAt m c t).a1sV
  | 22, _, X => X = (inAt m c t).a2cV
  | 23, _, X => X = (inAt m c t).a2sV
  | _, Y, X => X = Y

/-- What the scratch buffers hold between points. -/
def phiV (c : Dev nD) (k : ℕ) : sProp 𝕄 :=
  if k = 0 then Pipeline.ΦA spec0 c else iprop(ScrValT c (inAt m c ⟨0, by decide⟩) ∗ (∃ r, prngReg c r))

/-- The proof data. -/
def rdatV (c : Dev nD) : RDat τ (Elt Ideal) Unit ℕ (UR sig nD τ) ℕ (cfgs 0) c where
  A w := V m c (Pipeline.arrRef spec0 w)
  after w t Y X := afterV m c t w Y X
  Φ k := phiV m c k.val
  q _ := fullShare
  owed _ := 0

/-- The branch is taken at the first point only. -/
theorem cond1_iff : ∀ t : Fin cfg0.N, k0_cond1 (grid0.coords t) = 1#1 ↔ t.val = 0 := by decide

/-- The weights' blocks are the same at every point. -/
theorem scr_at (c : Dev nD) (t t' : Fin cfg0.N) : ScrValT c (inAt m c t) = ScrValT c (inAt m c t') :=
  scr_congr c rfl rfl rfl rfl rfl

/-- An input window holds its block. -/
theorem finds_in (c : Dev nD) (w : Fin 24) (hw : (cfg0.win w).isOut = false) (hclip : ∀ t t' : Fin cfg0.N, (cfg0.win w).index t = (cfg0.win w).index t' →
      (cfg0.win w).clip (cfg0.grid.coords t) = (cfg0.win w).clip (cfg0.grid.coords t')) (hk : ∀ t Y X, afterV m c t w Y X → X = Y)
    (hfull : ∀ t d, (rdatV m c).fetched w t d = (rdatV m c).fetched w t (fun _ => Classical.arbitrary _)) (t : Fin cfg0.N) (Y)
    (hY : (rdatV m c).Finds w t Y) : Y = (rdatV m c).fetched w t (fun _ => Classical.arbitrary _) := by
  obtain ⟨d, hd⟩ := (rdatV m c).finds_in_eq_fetched w hw hclip hk t Y hY
  exact hd.trans (hfull t d)

set_option maxHeartbeats 2000000 in
/-- The body obligation at every point. -/
theorem body_obligationV (c : Dev nD) : (rdatV m c).BodyObligation (defs₀ (F := Ideal)) Variants.none () Set.univ := fun t Y hY => by
  have e0 : Y 0 = (inAt m c t).x0 := finds_in m c 0 rfl (fun _ _ _ => rfl) (fun _ _ _ h => h) (fun _ _ => rfl) t _ (hY 0)
  have e1 : Y 1 = (inAt m c t).x1 := finds_in m c 1 rfl (fun _ _ _ => rfl) (fun _ _ _ h => h) (fun _ _ => rfl) t _ (hY 1)
  have e2 : Y 2 = (inAt m c t).x2 := finds_in m c 2 rfl (fun _ _ _ => rfl) (fun _ _ _ h => h) (fun _ _ => rfl) t _ (hY 2)
  have e3 : Y 3 = (inAt m c t).x3 := finds_in m c 3 rfl (fun _ _ _ => rfl) (fun _ _ _ h => h) (fun _ _ => rfl) t _ (hY 3)
  have e4 : Y 4 = (inAt m c t).x4 := finds_in m c 4 rfl (fun _ _ _ => rfl) (fun _ _ _ h => h) (fun _ _ => rfl) t _ (hY 4)
  have e5 : Y 5 = (inAt m c t).x5 := finds_in m c 5 rfl (fun _ _ _ => rfl) (fun _ _ _ h => h) (fun _ _ => rfl) t _ (hY 5)
  have e6 : Y 6 = (inAt m c t).x6 := finds_in m c 6 rfl (fun _ _ _ => rfl) (fun _ _ _ h => h) (fun _ _ => rfl) t _ (hY 6)
  have e7 : Y 7 = (inAt m c t).x7 := finds_in m c 7 rfl (fun _ _ _ => rfl) (fun _ _ _ h => h) (fun _ _ => rfl) t _ (hY 7)
  have e8 : Y 8 = (inAt m c t).x8 := finds_in m c 8 rfl (fun _ _ _ => rfl) (fun _ _ _ h => h) (fun _ _ => rfl) t _ (hY 8)
  have e9 : Y 9 = (inAt m c t).x9 := finds_in m c 9 rfl (fun _ _ _ => rfl) (fun _ _ _ h => h) (fun _ _ => rfl) t _ (hY 9)
  have e10 : Y 10 = (inAt m c t).x10 := finds_in m c 10 rfl (fun _ _ _ => rfl) (fun _ _ _ h => h) (fun _ _ => rfl) t _ (hY 10)
  have e11 : Y 11 = (inAt m c t).x11 := finds_in m c 11 rfl (fun _ _ _ => rfl) (fun _ _ _ h => h) (fun _ _ => rfl) t _ (hY 11)
  have e12 : Y 12 = (inAt m c t).x12 := finds_in m c 12 rfl (fun _ _ _ => rfl) (fun _ _ _ h => h) (fun _ _ => rfl) t _ (hY 12)
  have e13 : Y 13 = (inAt m c t).x13 := finds_in m c 13 rfl (fun _ _ _ => rfl) (fun _ _ _ h => h) (fun _ _ => rfl) t _ (hY 13)
  have e14 : Y 14 = (inAt m c t).x14 := finds_in m c 14 rfl (fun _ _ _ => rfl) (fun _ _ _ h => h) (fun _ _ => rfl) t _ (hY 14)
  have e15 : Y 15 = (inAt m c t).x15 := finds_in m c 15 rfl (fun _ _ _ => rfl) (fun _ _ _ h => h) (fun _ _ => rfl) t _ (hY 15)
  have e16 : Y 16 = (inAt m c t).x16 := finds_in m c 16 rfl (fun _ _ _ => rfl) (fun _ _ _ h => h) (fun _ _ => rfl) t _ (hY 16)
  rw [bigSep_W0, bigSep_W0, defs₀_row]
  rw [e0, e1, e2, e3, e4, e5, e6, e7, e8, e9, e10, e11, e12, e13, e14, e15, e16]
  by_cases ht : t.val = 0
  · have hΦ : (rdatV m c).Φ t.castSucc = Pipeline.ΦA spec0 c := if_pos ht
    have hΦ' : (rdatV m c).Φ t.succ = iprop(ScrValT c (inAt m c t) ∗ (∃ r, prngReg c r)) := by
      rw [scr_at m c t ⟨0, by decide⟩]; exact if_neg (t := Pipeline.ΦA spec0 c) (Nat.succ_ne_zero t.val)
    rw [hΦ, hΦ']
    exact triple_restated (frame_first c t ((cond1_iff t).2 ht) _ (inAt m c t) Y) rfl .rfl fun _ => .rfl
  · have hΦ : (rdatV m c).Φ t.castSucc = iprop(ScrValT c (inAt m c t) ∗ (∃ r, prngReg c r)) := by
      rw [scr_at m c t ⟨0, by decide⟩]; exact if_neg ht
    have hΦ' : (rdatV m c).Φ t.succ = iprop(ScrValT c (inAt m c t) ∗ (∃ r, prngReg c r)) := by
      rw [scr_at m c t ⟨0, by decide⟩]; exact if_neg (t := Pipeline.ΦA spec0 c) (Nat.succ_ne_zero t.val)
    rw [hΦ, hΦ']
    exact triple_restated (frame_later c t (mt (cond1_iff t).1 ht) _ (inAt m c t) Y) rfl .rfl fun _ => .rfl

/-- The scratch buffers forgotten. -/
theorem scr_forget (c : Dev nD) (B : In) : iprop(ScrValT c B ∗ (∃ r, prngReg c r)) ⊢ (Pipeline.ΦA spec0 c : sProp 𝕄) := by
  rw [PhiA0_eq]
  unfold ScrValT ScrVal
  iintro ⟨⟨S0, S1, ⟨%X, %hX, S2⟩, S3, S4, S5, S6, S7, S8⟩, Hg⟩
  isplitr [Hg]
  · isplitl [S0]; · iexists _; iexact S0
    isplitl [S1]; · iexists _; iexact S1
    isplitl [S2]; · iexists _; iexact S2
    isplitl [S3]; · iexists _; iexact S3
    isplitl [S4]; · iexact S4
    isplitl [S5]; · iexact S5
    isplitl [S6]; · iexact S6
    isplitl [S7]; · iexact S7
    iexact S8
  iexact Hg

set_option backward.isDefEq.respectTransparency.types false in
/-- The run. -/
theorem run_mainV : θ_run defs (onTc (τ := τ) (main (F := Ideal))) (s₀ m ρ) (fun r => (Pipeline.RDat.FramePost (cfgs 0) (rdatV m) (V m)) r ∧ r.2.sem = fun _ => 0) :=
  Pipeline.RDat.θ_run_frame_track (Q' := _) cfgs (0 : Fin 1) launch0 defs₀ Variants.none (rdatV m) m ρ main
    (hbody := body_obligationV m) (hshare := fun c => (rdatV m c).share_full fun _ => rfl)
    (howed := fun _ _ => rfl) (V := V m) (hmain := hmain m Variants.none) (hA := fun _ _ => rfl)
    (hin := fun c => .rfl) (hout := fun c => scr_forget c _)

end Cert.KernelIdeal.Gen

end
-- ==== Proof.Images.lean ====
/- The arguments of the two programs, and an image's part of them in the order of the kernel's windows. -/
module

public import proofs.«01_k».proof.Proof.Block

@[expose] public section

set_option maxRecDepth 16384

noncomputable section

namespace Cert.KernelIdeal.Gen

open Idealize.ShloMosaic

/-- The seventeen arguments. -/
structure Args where
  x0 : Vec Ideal S6x14x16x1408 .i8
  x1 : Vec Ideal S_ .f32
  x2 : Vec Ideal S6x14x16x1408 .bf16
  x3 : Vec Ideal S7x7x1408 .i8
  x4 : Vec Ideal S1408 .f32
  x5 : Vec Ideal S1408 .f32
  x6 : Vec Ideal S1408 .f32
  x7 : Vec Ideal S1408 .f32
  x8 : Vec Ideal S704x5632 .i8
  x9 : Vec Ideal S11x5632 .bf16
  x10 : Vec Ideal S5632 .f32
  x11 : Vec Ideal S5632 .f32
  x12 : Vec Ideal S5632 .f32
  x13 : Vec Ideal S2816x1408 .i8
  x14 : Vec Ideal S44x1408 .bf16
  x15 : Vec Ideal S1408 .f32
  x16 : Vec Ideal S_ .f32

namespace Args

variable (A : Args)

/-- Image `b`, in the order of the kernel's windows. -/
def image (b : Fin 6) : In where
  x0 := fun _ => A.x1 ix0
  x1 := fun _ => A.x16 ix0
  x2 := fun y => A.x0 (ix4 b (y 1) (y 2) (y 3))
  x3 := fun y => A.x2 (ix4 b (y 1) (y 2) (y 3))
  x4 := A.x3
  x5 := fun y => A.x4 (ix1 (y 1))
  x6 := fun y => A.x5 (ix1 (y 1))
  x7 := fun y => A.x6 (ix1 (y 1))
  x8 := fun y => A.x7 (ix1 (y 1))
  x9 := A.x8
  x10 := A.x9
  x11 := fun y => A.x10 (ix1 (y 1))
  x12 := fun y => A.x11 (ix1 (y 1))
  x13 := fun y => A.x12 (ix1 (y 1))
  x14 := A.x13
  x15 := A.x14
  x16 := fun y => A.x15 (ix1 (y 1))

/-! The seven results. -/

def out : Vec Ideal S6x14x16x1408 .bf16 := fun y => (A.image (y 0)).r (y 1) (y 2) (y 3)
def codes : Vec Ideal S6x14x16x1408 .i8 := fun y => Spec.code ((A.image (y 0)).r (y 1) (y 2) (y 3) * Ideal.div 1 (A.x16 ix0))
def gx : Vec Ideal S6x5632 .f32 := fun y => (A.image (y 0)).gx (y 1)
def a1c : Vec Ideal S6x14x16x1408 .i8 := fun y => Spec.rowCode ((A.image (y 0)).n1 (pix (y 1) (y 2))) (y 3)
def a1s : Vec Ideal S6x14x16 .f32 := fun y => Spec.scale ((A.image (y 0)).n1 (pix (y 1) (y 2)))
def a2c : Vec Ideal S6x14x16x5632 .i8 := fun y => Spec.rowCode ((A.image (y 0)).g (pix (y 1) (y 2))) (y 3)
def a2s : Vec Ideal S6x14x16 .f32 := fun y => Spec.scale ((A.image (y 0)).g (pix (y 1) (y 2)))

end Args

end Cert.KernelIdeal.Gen

end
-- ==== Proof.KernelValue.lean ====
/- What the kernel leaves in its result arrays, as functions of the arguments. -/
module

public import proofs.«01_k».proof.Proof.FrameValue
public import proofs.«01_k».proof.Proof.Images
public import Idealize.ShloMosaic.Lib.Claim
public import Idealize.ShloMosaic.Lib.Pipeline.ArrRel
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI Idealize.SL.Sem
open Idealize.ShloMosaic.Pipeline (Dat RDat Cfg Window cellOf)

variable (m : (ℓ : Loc nD τ sig) → Buf (Elt Ideal) ℓ) (ρ : Dev nD → PrngReg)

/-- The arguments as the run finds them. -/
def args (c : Dev nD) : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)

/-- The image of a grid point. -/
def img (t : Fin cfg0.N) : Fin 6 := ⟨t.val, Nat.lt_of_lt_of_eq t.isLt (by decide)⟩

/-- The one grid coordinate is the point's number. -/
theorem coord0 : ∀ t : Fin cfg0.N, (grid0.coords t 0).val = t.val := by decide +kernel

/-- The block each window reads or writes at a point. -/
theorem idx : ∀ t : Fin cfg0.N, win0_0.index t = ![0]
    ∧ win0_1.index t = ![0]
    ∧ win0_2.index t = ![t.val, 0, 0, 0]
    ∧ win0_3.index t = ![t.val, 0, 0, 0]
    ∧ win0_4.index t = ![0, 0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![t.val, 0, 0, 0]
    ∧ win0_18.index t = ![t.val, 0, 0, 0]
    ∧ win0_19.index t = ![0, 0]
    ∧ win0_20.index t = ![t.val, 0, 0, 0]
    ∧ win0_21.index t = ![t.val, 0, 0]
    ∧ win0_22.index t = ![t.val, 0, 0, 0]
    ∧ win0_23.index t = ![t.val, 0, 0] :=
  (by decide +kernel : ∀ t : Fin grid0.N, _)

theorem in0 (c : Dev nD) (t : Fin cfg0.N) : iblk m c 0 t = ((args m c).image (img t)).x0 := by
  funext y
  blk_simp [iblk]
  entry_read
  pointwise
  rfl

theorem in1 (c : Dev nD) (t : Fin cfg0.N) : iblk m c 1 t = ((args m c).image (img t)).x1 := by
  funext y
  blk_simp [iblk]
  entry_read
  pointwise
  rfl

theorem in2 (c : Dev nD) (t : Fin cfg0.N) : iblk m c 2 t = ((args m c).image (img t)).x2 := by
  funext y
  blk_ext [iblk, V, idx t, args, Args.image, img]

theorem in3 (c : Dev nD) (t : Fin cfg0.N) : iblk m c 3 t = ((args m c).image (img t)).x3 := by
  funext y
  blk_ext [iblk, V, idx t, args, Args.image, img]

theorem in4 (c : Dev nD) (t : Fin cfg0.N) : iblk m c 4 t = ((args m c).image (img t)).x4 := by
  funext y
  blk_ext [iblk, V, idx t, args, Args.image, img]

theorem in5 (c : Dev nD) (t : Fin cfg0.N) : iblk m c 5 t = ((args m c).image (img t)).x5 := by
  funext y
  blk_simp [iblk]
  entry_read
  pointwise
  blk_ext [idx t, args, Args.image, img]

theorem in6 (c : Dev nD) (t : Fin cfg0.N) : iblk m c 6 t = ((args m c).image (img t)).x6 := by
  funext y
  blk_simp [iblk]
  entry_read
  pointwise
  blk_ext [idx t, args, Args.image, img]

theorem in7 (c : Dev nD) (t : Fin cfg0.N) : iblk m c 7 t = ((args m c).image (img t)).x7 := by
  funext y
  blk_simp [iblk]
  entry_read
  pointwise
  blk_ext [idx t, args, Args.image, img]

theorem in8 (c : Dev nD) (t : Fin cfg0.N) : iblk m c 8 t = ((args m c).image (img t)).x8 := by
  funext y
  blk_simp [iblk]
  entry_read
  pointwise
  blk_ext [idx t, args, Args.image, img]

theorem in9 (c : Dev nD) (t : Fin cfg0.N) : iblk m c 9 t = ((args m c).image (img t)).x9 := by
  funext y
  blk_ext [iblk, V, idx t, args, Args.image, img]

theorem in10 (c : Dev nD) (t : Fin cfg0.N) : iblk m c 10 t = ((args m c).image (img t)).x10 := by
  funext y
  blk_ext [iblk, V, idx t, args, Args.image, img]

theorem in11 (c : Dev nD) (t : Fin cfg0.N) : iblk m c 11 t = ((args m c).image (img t)).x11 := by
  funext y
  blk_simp [iblk]
  entry_read
  pointwise
  blk_ext [idx t, args, Args.image, img]

theorem in12 (c : Dev nD) (t : Fin cfg0.N) : iblk m c 12 t = ((args m c).image (img t)).x12 := by
  funext y
  blk_simp [iblk]
  entry_read
  pointwise
  blk_ext [idx t, args, Args.image, img]

theorem in13 (c : Dev nD) (t : Fin cfg0.N) : iblk m c 13 t = ((args m c).image (img t)).x13 := by
  funext y
  blk_simp [iblk]
  entry_read
  pointwise
  blk_ext [idx t, args, Args.image, img]

theorem in14 (c : Dev nD) (t : Fin cfg0.N) : iblk m c 14 t = ((args m c).image (img t)).x14 := by
  funext y
  blk_ext [iblk, V, idx t, args, Args.image, img]

theorem in15 (c : Dev nD) (t : Fin cfg0.N) : iblk m c 15 t = ((args m c).image (img t)).x15 := by
  funext y
  blk_ext [iblk, V, idx t, args, Args.image, img]

theorem in16 (c : Dev nD) (t : Fin cfg0.N) : iblk m c 16 t = ((args m c).image (img t)).x16 := by
  funext y
  blk_simp [iblk]
  entry_read
  pointwise
  blk_ext [idx t, args, Args.image, img]

/-- The inputs' blocks at a point are its image's. -/
theorem inAt_eq (c : Dev nD) (t : Fin cfg0.N) : inAt m c t = (args m c).image (img t) := by
  unfold inAt
  rw [in0, in1, in2, in3, in4, in5, in6, in7, in8, in9, in10, in11, in12, in13, in14, in15, in16]

/-- What may be in a window at the end of a point. -/
theorem leaves_iff (c : Dev nD) (w : Fin 24) (t : Fin cfg0.N) (X : (cfg0.win w).block.Idx → Elt Ideal (cfg0.win w).elt)
    (h : (rdatV m c).Leaves w t X) : ∃ Y, (rdatV m c).Finds w t Y ∧ afterV m c t w Y X := h

theorem final_out (c : Dev nD) (after : (w' : Fin cfg0.W) → Fin cfg0.N → (cfg0.win w').block.Idx → Elt Ideal (cfg0.win w').elt)
    (h : ∀ u : Fin cfg0.N, (cfg0.win 17).flush u = true → (rdatV m c).Leaves 17 u (after 17 u)) :
    ((rdatV m c).withAfter after).arrAt 17 cfg0.N = (args m c).out :=
  Dat.arrAt_eq_of_covers ((rdatV m c).withAfter after) 17 _ (by decide +kernel) fun t hf y => by
    obtain ⟨Y, _, e⟩ := leaves_iff m c 17 t _ (h t hf)
    have e : after 17 t = ((args m c).image (img t)).outV := (inAt_eq m c t) ▸ e
    rw [RDat.withAfter_after, e]
    show (args m c).out (ix4 (img t) (y 1) (y 2) (y 3)) = (args m c).out _
    blk_ext [idx t, img]

theorem final_codes (c : Dev nD) (after : (w' : Fin cfg0.W) → Fin cfg0.N → (cfg0.win w').block.Idx → Elt Ideal (cfg0.win w').elt)
    (h : ∀ u : Fin cfg0.N, (cfg0.win 18).flush u = true → (rdatV m c).Leaves 18 u (after 18 u)) :
    ((rdatV m c).withAfter after).arrAt 18 cfg0.N = (args m c).codes :=
  Dat.arrAt_eq_of_covers ((rdatV m c).withAfter after) 18 _ (by decide +kernel) fun t hf y => by
    obtain ⟨Y, _, e⟩ := leaves_iff m c 18 t _ (h t hf)
    have e : after 18 t = ((args m c).image (img t)).codesV := (inAt_eq m c t) ▸ e
    rw [RDat.withAfter_after, e]
    show (args m c).codes (ix4 (img t) (y 1) (y 2) (y 3)) = (args m c).codes _
    blk_ext [idx t, img]

theorem final_a1c (c : Dev nD) (after : (w' : Fin cfg0.W) → Fin cfg0.N → (cfg0.win w').block.Idx → Elt Ideal (cfg0.win w').elt)
    (h : ∀ u : Fin cfg0.N, (cfg0.win 20).flush u = true → (rdatV m c).Leaves 20 u (after 20 u)) :
    ((rdatV m c).withAfter after).arrAt 20 cfg0.N = (args m c).a1c :=
  Dat.arrAt_eq_of_covers ((rdatV m c).withAfter after) 20 _ (by decide +kernel) fun t hf y => by
    obtain ⟨Y, _, e⟩ := leaves_iff m c 20 t _ (h t hf)
    have e : after 20 t = ((args m c).image (img t)).a1cV := (inAt_eq m c t) ▸ e
    rw [RDat.withAfter_after, e]
    show (args m c).a1c (ix4 (img t) (y 1) (y 2) (y 3)) = (args m c).a1c _
    blk_ext [idx t, img]

theorem final_a1s (c : Dev nD) (after : (w' : Fin cfg0.W) → Fin cfg0.N → (cfg0.win w').block.Idx → Elt Ideal (cfg0.win w').elt)
    (h : ∀ u : Fin cfg0.N, (cfg0.win 21).flush u = true → (rdatV m c).Leaves 21 u (after 21 u)) :
    ((rdatV m c).withAfter after).arrAt 21 cfg0.N = (args m c).a1s :=
  Dat.arrAt_eq_of_covers ((rdatV m c).withAfter after) 21 _ (by decide +kernel) fun t hf y => by
    obtain ⟨Y, _, e⟩ := leaves_iff m c 21 t _ (h t hf)
    have e : after 21 t = ((args m c).image (img t)).a1sV := (inAt_eq m c t) ▸ e
    rw [RDat.withAfter_after, e]
    show (args m c).a1s (ix3 (img t) (y 1) (y 2)) = (args m c).a1s _
    blk_ext [idx t, img]

theorem final_a2c (c : Dev nD) (after : (w' : Fin cfg0.W) → Fin cfg0.N → (cfg0.win w').block.Idx → Elt Ideal (cfg0.win w').elt)
    (h : ∀ u : Fin cfg0.N, (cfg0.win 22).flush u = true → (rdatV m c).Leaves 22 u (after 22 u)) :
    ((rdatV m c).withAfter after).arrAt 22 cfg0.N = (args m c).a2c :=
  Dat.arrAt_eq_of_covers ((rdatV m c).withAfter after) 22 _ (by decide +kernel) fun t hf y => by
    obtain ⟨Y, _, e⟩ := leaves_iff m c 22 t _ (h t hf)
    have e : after 22 t = ((args m c).image (img t)).a2cV := (inAt_eq m c t) ▸ e
    rw [RDat.withAfter_after, e]
    show (args m c).a2c (ix4 (img t) (y 1) (y 2) (y 3)) = (args m c).a2c _
    blk_ext [idx t, img]

theorem final_a2s (c : Dev nD) (after : (w' : Fin cfg0.W) → Fin cfg0.N → (cfg0.win w').block.Idx → Elt Ideal (cfg0.win w').elt)
    (h : ∀ u : Fin cfg0.N, (cfg0.win 23).flush u = true → (rdatV m c).Leaves 23 u (after 23 u)) :
    ((rdatV m c).withAfter after).arrAt 23 cfg0.N = (args m c).a2s :=
  Dat.arrAt_eq_of_covers ((rdatV m c).withAfter after) 23 _ (by decide +kernel) fun t hf y => by
    obtain ⟨Y, _, e⟩ := leaves_iff m c 23 t _ (h t hf)
    have e : after 23 t = ((args m c).image (img t)).a2sV := (inAt_eq m c t) ▸ e
    rw [RDat.withAfter_after, e]
    show (args m c).a2s (ix3 (img t) (y 1) (y 2)) = (args m c).a2s _
    blk_ext [idx t, img]

/-- The column norms are written back after the last point only. -/
theorem flush_gx : ∀ t : Fin cfg0.N, (cfg0.win 19).flush t = true ↔ t.val = 5 := by decide +kernel

/-- At the end of a point the window of the column norms holds the norms of the images so far. -/
theorem leaves_gx (c : Dev nD) : ∀ (k : ℕ) (hk : k < cfg0.N) (X : Vec Ideal S6x5632 .f32), (rdatV m c).Leaves 19 ⟨k, hk⟩ X →
    ∀ (b : Fin 6) (n : Fin 5632), b.val ≤ k → X (ix2 b n) = ((args m c).image b).gx n
  | k, hk, X, hX, b, n, hb => by
    obtain ⟨Y, hY, e⟩ := leaves_iff m c 19 ⟨k, hk⟩ X hX
    have e : X = ((args m c).image (img ⟨k, hk⟩)).gxRow Y k := by
      have e' : X = (inAt m c ⟨k, hk⟩).gxRow Y (grid0.coords ⟨k, hk⟩ 0).val := e
      rw [e', coord0, inAt_eq]
    subst e
    by_cases hbk : b.val = k
    · have : b = img ⟨k, hk⟩ := Fin.ext hbk
      unfold In.gxRow
      rw [if_pos (show ((ix2 b n : S6x5632.Idx) 0).val = k from hbk), ← this]
      rfl
    · have h0 : k ≠ 0 := by omega
      have hf : (cfg0.win 19).fetch ⟨k, hk⟩ = false := rfl
      rcases (RDat.finds_of_pos (rdatV m c) hf h0 Y).1 hY with hfl | hl
      · exact absurd ((flush_gx _).1 hfl) (by have : k < 6 := hk; simp; omega)
      · have := leaves_gx c (k - 1) (by omega) Y hl b n (by omega)
        unfold In.gxRow
        rw [if_neg (show ¬ ((ix2 b n : S6x5632.Idx) 0).val = k from hbk)]
        exact this
  termination_by k => k

theorem final_gx (c : Dev nD) (after : (w' : Fin cfg0.W) → Fin cfg0.N → (cfg0.win w').block.Idx → Elt Ideal (cfg0.win w').elt)
    (h : ∀ u : Fin cfg0.N, (cfg0.win 19).flush u = true → (rdatV m c).Leaves 19 u (after 19 u)) :
    ((rdatV m c).withAfter after).arrAt 19 cfg0.N = (args m c).gx :=
  Dat.arrAt_eq_of_covers ((rdatV m c).withAfter after) 19 _ (by decide +kernel) fun t hf y => by
    have ht := (flush_gx t).1 hf
    have e := leaves_gx m c t.val t.isLt (after 19 t) (h t hf) (y 0) (y 1) (by have : (y 0).val < 6 := (y 0).isLt; omega)
    rw [RDat.withAfter_after]
    refine (show _ = after 19 t (ix2 (y 0) (y 1)) from ?_).trans (e.trans ?_)
    · refine congrArg (after 19 t) ?_
      funext a; fin_cases a <;> rfl
    · show (args m c).gx (ix2 (y 0) (y 1)) = (args m c).gx _
      blk_ext [idx t]

/-- The run of the kernel: its results as functions of the arguments, and the arguments unchanged. -/
theorem run_value : θ_run defs (onTc (τ := τ) (main (F := Ideal))) ⟨m, fun _ => 0, ρ⟩ (fun r => ∀ c : Dev nD,
      r.2.mem ((c.tc : Thread nD τ).loc main_v10_0) = (args m c).out
      ∧ r.2.mem ((c.tc : Thread nD τ).loc main_v10_1) = (args m c).codes
      ∧ r.2.mem ((c.tc : Thread nD τ).loc main_v10_2) = (args m c).gx
      ∧ r.2.mem ((c.tc : Thread nD τ).loc main_v10_3) = (args m c).a1c
      ∧ r.2.mem ((c.tc : Thread nD τ).loc main_v10_4) = (args m c).a1s
      ∧ r.2.mem ((c.tc : Thread nD τ).loc main_v10_5) = (args m c).a2c
      ∧ r.2.mem ((c.tc : Thread nD τ).loc main_v10_6) = (args m c).a2s
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine (θ_run defs _ _).mono (fun r h c => ?_) (θ_run_and ((θ_run defs _ _).mono (fun _ h => h.1) (run_mainV m ρ))
    (rframe_of m ρ (rdatV m) (fun _ _ => rfl) ((θ_run defs _ _).mono (fun _ h => h.1) (run_mainV m ρ))))
  obtain ⟨after, hL, hA⟩ := Pipeline.RDat.FramePost.exists_exact h.1 c
  exact ⟨(hA 17).trans (final_out m c after (hL 17)),
    (hA 18).trans (final_codes m c after (hL 18)),
    (hA 19).trans (final_gx m c after (hL 19)),
    (hA 20).trans (final_a1c m c after (hL 20)),
    (hA 21).trans (final_a1s m c after (hL 21)),
    (hA 22).trans (final_a2c m c after (hL 22)),
    (hA 23).trans (final_a2s m c after (hL 23)), h.2 c⟩

end Cert.KernelIdeal.Gen

end
-- ==== Proof.Scalars.lean ====
/- The scalar identities between the two programs' ways of saying a step: a quotient and a product with a reciprocal, a code taken
   through 32 bits, GELU by the complementary error function, and a contraction over even and odd positions. -/
module

public import proofs.«01_k».proof.Proof.Pay
public import Idealize.ShloMosaic.PureOps.Ideal.Laws

@[expose] public section

noncomputable section

namespace Cert.Spec

open Idealize.ShloMosaic

/-- A quotient is a product with the reciprocal. -/
theorem mul_recip (x s : EReal) (hs : s ≠ 0) : x * Ideal.div 1 s = Ideal.div x s := by
  unfold Ideal.div
  rw [if_neg hs, if_neg hs, one_mul]

theorem ofBits_127 : Ideal.ofBits .f32 1123942400#32 = ((127 : ℝ) : EReal) := by
  simp [Ideal.ofBits, Ideal.ieee, -EReal.coe_mul]; norm_num

theorem ofBits_neg127 : Ideal.ofBits .f32 3271426048#32 = ((-127 : ℝ) : EReal) := by
  simp [Ideal.ofBits, Ideal.ieee, -EReal.coe_mul]; norm_num

theorem ofBits_1408 : Ideal.ofBits .f32 1152385024#32 = ((1408 : ℝ) : EReal) := by
  simp [Ideal.ofBits, Ideal.ieee, -EReal.coe_mul]; norm_num

theorem ofBits_5632 : Ideal.ofBits .f32 1169162240#32 = ((5632 : ℝ) : EReal) := by
  simp [Ideal.ofBits, Ideal.ieee, -EReal.coe_mul]; norm_num

theorem ofBits_one : Ideal.ofBits .f32 1065353216#32 = 1 := by
  simp [Ideal.ofBits, Ideal.ieee, -EReal.coe_mul]; norm_num

theorem eps_pos : 0 < Ideal.ofBits .f32 897988541#32 := by
  simp [Ideal.ofBits, Ideal.ieee, -EReal.coe_mul]

/-- A scale is not zero. -/
theorem scale_ne_zero {n : ℕ} (row : Fin n → EReal) : scale row ≠ 0 := by
  unfold scale
  dsimp only
  split
  · exact one_ne_zero
  · next h =>
    rw [ofBits_127]
    unfold Ideal.div
    rw [if_neg (by norm_num), ← EReal.coe_inv]
    exact mul_ne_zero h (by norm_num)

theorem invC_eq : KernelIdeal.Gen.invC = (((1408 : ℝ)⁻¹ : ℝ) : EReal) := by
  rw [KernelIdeal.Gen.invC, IdealRules.named_const.ideal_named_scalar _ _ _ _ rfl]
  norm_num

theorem invHid_eq : KernelIdeal.Gen.invHid = (((5632 : ℝ)⁻¹ : ℝ) : EReal) := by
  rw [KernelIdeal.Gen.invHid, IdealRules.named_const.ideal_named_scalar _ _ _ _ rfl]
  norm_num

/-- A mean over 1408 as a quotient. -/
theorem div_1408 (x : EReal) : Ideal.div x (Ideal.ofBits .f32 1152385024#32) = x * KernelIdeal.Gen.invC := by
  rw [invC_eq, ofBits_1408]
  unfold Ideal.div
  rw [if_neg (by norm_num), EReal.coe_inv]

/-- A mean over 5632 as a quotient. -/
theorem div_5632 (x : EReal) : Ideal.div x (Ideal.ofBits .f32 1169162240#32) = x * KernelIdeal.Gen.invHid := by
  rw [invHid_eq, ofBits_5632]
  unfold Ideal.div
  rw [if_neg (by norm_num), EReal.coe_inv]

theorem sq_nonneg (x : EReal) : 0 ≤ x * x := by
  rcases le_total 0 x with h | h
  · exact mul_nonneg h h
  · rw [← neg_mul_neg]
    have : 0 ≤ -x := EReal.neg_nonneg.2 h
    exact mul_nonneg this this

theorem sqrt_ne_zero {x : EReal} (h : 0 < x) : Ideal.sqrt x ≠ 0 := by
  induction x using EReal.rec with
  | bot => exact absurd h (by simp)
  | top => show (⊤ : EReal) ≠ 0; exact EReal.top_ne_zero
  | coe r =>
    have hr : 0 < r := EReal.coe_pos.1 h
    show (if r < 0 then (⊥ : EReal) else (Real.sqrt r : EReal)) ≠ 0
    rw [if_neg (not_lt.2 hr.le)]
    exact EReal.coe_ne_zero.2 (Real.sqrt_pos.2 hr).ne'

/-- Layer normalisation said with quotients. -/
theorem ln_div (row g b : Fin 1408 → EReal) (k : Fin 1408) :
    Ideal.div (row k - Ideal.div (∑ x, row x) (Ideal.ofBits .f32 1152385024#32))
        (Ideal.sqrt (Ideal.div (∑ x, (row x - Ideal.div (∑ x, row x) (Ideal.ofBits .f32 1152385024#32))
            * (row x - Ideal.div (∑ x, row x) (Ideal.ofBits .f32 1152385024#32))) (Ideal.ofBits .f32 1152385024#32)
          + Ideal.ofBits .f32 897988541#32)) * g k + b k
      = ln KernelIdeal.Gen.invC row g b k := by
  unfold ln
  simp only [div_1408]
  rw [mul_recip]
  refine sqrt_ne_zero (lt_of_lt_of_le eps_pos (le_add_of_nonneg_left (mul_nonneg (Finset.sum_nonneg fun x _ => sq_nonneg _) ?_)))
  rw [invC_eq]
  exact EReal.coe_nonneg.2 (by norm_num)

/-- A clipped code taken through 32 bits. -/
theorem code_i32 (x : EReal) :
    BitVec.setWidth 8 (FloatOps.fptosi (F := Ideal) (φ := .f32) 32 (min (Ideal.ofBits .f32 1123942400#32)
      (max (Ideal.ofBits .f32 3271426048#32) (Ideal.liftRound Ideal.roundHalfEven x)))) = code x := by
  unfold code
  rw [ofBits_127, ofBits_neg127]
  generalize Ideal.liftRound Ideal.roundHalfEven x = y
  obtain ⟨r, hr, hlo, hhi⟩ : ∃ r : ℝ, min ((127 : ℝ) : EReal) (max ((-127 : ℝ) : EReal) y) = (r : EReal) ∧ -127 ≤ r ∧ r ≤ 127 := by
    induction y using EReal.rec with
    | bot => exact ⟨-127, by rw [max_eq_left bot_le]; exact min_eq_right (by exact_mod_cast (by norm_num : (-127 : ℝ) ≤ 127)), le_refl _, by norm_num⟩
    | top => exact ⟨127, by rw [max_eq_right le_top]; exact min_eq_left le_top, by norm_num, le_refl _⟩
    | coe s => exact ⟨min 127 (max (-127) s), by rw [EReal.coe_strictMono.monotone.map_min, EReal.coe_strictMono.monotone.map_max], le_min (by norm_num) (le_max_left _ _), min_le_left _ _⟩
  rw [hr]
  show BitVec.setWidth 8 (BitVec.ofInt 32 (max _ (min _ (if 0 ≤ r then ⌊r⌋ else ⌈r⌉)))) = BitVec.ofInt 8 (max _ (min _ (if 0 ≤ r then ⌊r⌋ else ⌈r⌉)))
  have ht : -127 ≤ (if 0 ≤ r then ⌊r⌋ else ⌈r⌉) ∧ (if 0 ≤ r then ⌊r⌋ else ⌈r⌉) ≤ 127 := by
    split
    · exact ⟨Int.le_floor.2 (by exact_mod_cast hlo), Int.floor_le_iff.2 (by push_cast; linarith)⟩
    · exact ⟨Int.le_ceil_iff.2 (by push_cast; linarith), Int.ceil_le.2 (by exact_mod_cast hhi)⟩
  generalize (if 0 ≤ r then ⌊r⌋ else ⌈r⌉) = t at ht
  rw [min_eq_right (by norm_num; omega), max_eq_right (by norm_num; omega), min_eq_right (by norm_num; omega), max_eq_right (by norm_num; omega)]
  apply BitVec.eq_of_toNat_eq
  simp [BitVec.toNat_ofInt]
  omega

/-- GELU by the complementary error function. -/
theorem gelu_erfc (v : EReal) :
    Ideal.ofBits .f32 1056964608#32 * v * Ideal.erfc (-v * Ideal.ofBits .f32 1060439283#32) = gelu v := by
  unfold gelu
  rw [EReal.neg_mul, Ideal.erfc_neg]

/-- A code as a number, through 32 bits or not. -/
theorem sitofp_ext (b : BitVec 8) :
    FloatOps.sitofp (F := Ideal) .bf16 (BitVec.signExtend 32 b) = FloatOps.sitofp (F := Ideal) .bf16 (w := 8) b := by
  show (((BitVec.signExtend 32 b).toInt : ℝ) : EReal) = ((b.toInt : ℝ) : EReal)
  rw [BitVec.toInt_signExtend_of_le (by decide)]

/-- The shift of a byte is the same on either unit. -/
theorem shr_host : ∀ b : BitVec 8, IntOp.shrsi ArithUnit.host (BitVec.setWidth 32 b) 4#32 = IntOp.shrsi ArithUnit.vector (b.setWidth 32) 4#32 := by
  decide +kernel

/-- A sum over an even number of positions by parity. -/
theorem sum_parity {n : ℕ} (f : Fin (n * 2) → EReal) :
    ∑ r, f r = (∑ k : Fin n, f ⟨2 * k.val, by omega⟩) + ∑ k : Fin n, f ⟨1 + 2 * k.val, by omega⟩ := by
  rw [← Equiv.sum_comp finProdFinEquiv f, Fintype.sum_prod_type, ← Finset.sum_add_distrib]
  refine Finset.sum_congr rfl fun k _ => ?_
  rw [Fin.sum_univ_two]
  congr 2 <;> (apply Fin.ext; simp [finProdFinEquiv])

/-- A sum over the pixels by row and column. -/
theorem sum_pix (f : Fin 224 → EReal) : ∑ p, f p = ∑ h : Fin 14, ∑ w : Fin 16, f ⟨16 * h.val + w.val, by omega⟩ := by
  rw [← Equiv.sum_comp (finProdFinEquiv : Fin 14 × Fin 16 ≃ Fin (14 * 16)) f, Fintype.sum_prod_type]
  refine Finset.sum_congr rfl fun h _ => Finset.sum_congr rfl fun w _ => ?_
  congr 1
  apply Fin.ext
  simp [finProdFinEquiv]
  omega

/-- An even row of the widened weights. -/
theorem wide_even {m g K N : ℕ} (P : Fin m → Fin N → BitVec 8) (S : Fin g → Fin N → EReal) (hm : K = 2 * m) (hg : K = 128 * g) (x : Fin m) (n : Fin N)
    (hx : 2 * x.val < K) (hy : x.val / 64 < g) :
    wide P S hm hg ⟨2 * x.val, hx⟩ n = FloatOps.sitofp (F := Ideal) .bf16 (w := 32) (nib (P x n) 0) * S ⟨x.val / 64, hy⟩ n := by
  have e1 : (⟨2 * x.val / 2, by omega⟩ : Fin m) = x := Fin.ext (by show 2 * x.val / 2 = x.val; omega)
  have e2 : (⟨2 * x.val / 128, by omega⟩ : Fin g) = ⟨x.val / 64, hy⟩ := Fin.ext (by show 2 * x.val / 128 = x.val / 64; omega)
  have e3 : 2 * x.val % 2 = 0 := by omega
  unfold wide
  dsimp only
  rw [e1, e2, e3]

/-- An odd row of the widened weights. -/
theorem wide_odd {m g K N : ℕ} (P : Fin m → Fin N → BitVec 8) (S : Fin g → Fin N → EReal) (hm : K = 2 * m) (hg : K = 128 * g) (x : Fin m) (n : Fin N)
    (hx : 1 + 2 * x.val < K) (hy : x.val / 64 < g) :
    wide P S hm hg ⟨1 + 2 * x.val, hx⟩ n = FloatOps.sitofp (F := Ideal) .bf16 (w := 32) (nib (P x n) 1) * S ⟨x.val / 64, hy⟩ n := by
  have e1 : (⟨(1 + 2 * x.val) / 2, by omega⟩ : Fin m) = x := Fin.ext (by show (1 + 2 * x.val) / 2 = x.val; omega)
  have e2 : (⟨(1 + 2 * x.val) / 128, by omega⟩ : Fin g) = ⟨x.val / 64, hy⟩ := Fin.ext (by show (1 + 2 * x.val) / 128 = x.val / 64; omega)
  have e3 : (1 + 2 * x.val) % 2 = 1 := by omega
  unfold wide
  dsimp only
  rw [e1, e2, e3]

end Cert.Spec

end
-- ==== Proof.RefConv.lean ====
/- The reference's depthwise convolution, read at an index: its 32-bit sum is exact. -/
module

public import proofs.«01_k».proof.Proof.Gen.ReferenceIdeal.Read
public import proofs.«01_k».proof.Proof.Scalars
public import Idealize.ShloMosaic.Lib.Pipeline.ValueKit

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Spec

variable (x0 : (⟨S6x14x16x1408, .i8⟩ : BufTy).Contents (Elt Ideal))
  (x1 : (⟨S_, .f32⟩ : BufTy).Contents (Elt Ideal))
  (x3 : (⟨S7x7x1408, .i8⟩ : BufTy).Contents (Elt Ideal))
  (x4 : (⟨S1408, .f32⟩ : BufTy).Contents (Elt Ideal))
  (x5 : (⟨S1408, .f32⟩ : BufTy).Contents (Elt Ideal))

/-- The padded image of bytes, read at a padded position, as 32-bit numbers. -/
def xi (x : Fin 14 → Fin 16 → BitVec 8) (a b : ℕ) : BitVec 32 :=
  if h : (3 ≤ a ∧ a < 17) ∧ 3 ≤ b ∧ b < 19 then (x ⟨a - 3, by omega⟩ ⟨b - 3, by omega⟩).signExtend 32 else 0#32

/-- A tap's weight as a 32-bit number. -/
def wi (wt : Fin 7 → Fin 7 → BitVec 8) (q : ℕ) : BitVec 32 := (wt ⟨q / 7 % 7, by omega⟩ ⟨q % 7, by omega⟩).signExtend 32

/-- The product of one tap. -/
def tap (x : Fin 14 → Fin 16 → BitVec 8) (wt : Fin 7 → Fin 7 → BitVec 8) (h w q : ℕ) : BitVec 32 :=
  IntOp.muli (xi x (q / 7 + h) (q % 7 + w)) (wi wt q)

theorem v1_read (b : Fin 6) (a : Fin 20) (q : Fin 22) (k : Fin 1408) :
    val_main_v1 (F := Ideal) x0 (ix4 b a q k) = xi (fun h w => x0 (ix4 b h w k)) a.val q.val := by
  pointwise [val_main_call0_v0, val_main_v1]
  unfold xi
  have e : ((3 ≤ a.val ∧ a.val - 3 < 14) ∧ 3 ≤ q.val ∧ q.val - 3 < 16) ↔ ((3 ≤ a.val ∧ a.val < 17) ∧ 3 ≤ q.val ∧ q.val < 19) := by omega
  by_cases hc : (3 ≤ a.val ∧ a.val < 17) ∧ 3 ≤ q.val ∧ q.val < 19
  · rw [dif_pos hc, dif_pos (e.2 hc)]; rfl
  · rw [dif_neg hc, dif_neg (fun h' => hc (e.1 h'))]; rfl

theorem v2_read (a b : Fin 7) (k : Fin 1408) : val_main_v2 (F := Ideal) x3 (ix3 a b k) = (x3 (ix3 a b k)).signExtend 32 := rfl

/-- The 32-bit sum, tap by tap. -/
theorem v346_read (b : Fin 6) (h : Fin 14) (w : Fin 16) (k : Fin 1408) :
    val_main_v346 (F := Ideal) x0 x3 (ix4 b h w k)
      = (List.range 49).foldl (fun a q => IntOp.addi a (tap (fun h w => x0 (ix4 b h w k)) (fun a b => x3 (ix3 a b k)) h.val w.val q)) 0#32 := by
  have e : List.range 49 = [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48] := rfl
  rw [e]
  simp only [List.foldl_cons, List.foldl_nil, tap, Nat.reduceDiv, Nat.reduceMod, Nat.zero_add]
  pointwise [val_main_c_0, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309, val_main_v310, val_main_v311, val_main_v312, val_main_v313, val_main_v314, val_main_v315, val_main_v316, val_main_v317, val_main_v318, val_main_v319, val_main_v320, val_main_v321, val_main_v322, val_main_v323, val_main_v324, val_main_v325, val_main_v326, val_main_v327, val_main_v328, val_main_v329, val_main_v330, val_main_v331, val_main_v332, val_main_v333, val_main_v334, val_main_v335, val_main_v336, val_main_v337, val_main_v338, val_main_v339, val_main_v340, val_main_v341, val_main_v342, val_main_v343, val_main_v344, val_main_v345, val_main_v346]
  simp only [v1_read, v2_read]
  rfl

theorem addi_toInt (a t : BitVec 32) (h : |a.toInt + t.toInt| < 2 ^ 31) : (IntOp.addi a t).toInt = a.toInt + t.toInt := by
  show (a + t).toInt = _
  rw [BitVec.toInt_add]
  rw [abs_lt] at h
  exact Int.bmod_eq_of_le (by norm_num; omega) (by norm_num; omega)

/-- A sum of small numbers in 32 bits is their sum. -/
theorem foldl_toInt (f : ℕ → BitVec 32) (hf : ∀ q, |(f q).toInt| ≤ 16384) : ∀ (l : List ℕ) (a : BitVec 32), |a.toInt| + 16384 * l.length < 2 ^ 31 →
    (l.foldl (fun a q => IntOp.addi a (f q)) a).toInt = a.toInt + (l.map fun q => (f q).toInt).sum
  | [], a, _ => by simp
  | q :: l, a, ha => by
    have hq := hf q
    rw [List.length_cons] at ha
    push_cast at ha
    have habs := abs_add_le a.toInt (f q).toInt
    have e := addi_toInt a (f q) (by omega)
    rw [List.foldl_cons, foldl_toInt f hf l _ (by rw [e]; omega), e, List.map_cons, List.sum_cons, add_assoc]

theorem byte_bound (b : BitVec 8) : -128 ≤ b.toInt ∧ b.toInt ≤ 127 := by
  have h1 := BitVec.le_toInt b
  have h2 := BitVec.toInt_lt (x := b)
  norm_num at h1 h2
  omega

theorem xi_bound (x : Fin 14 → Fin 16 → BitVec 8) (a b : ℕ) : -128 ≤ (xi x a b).toInt ∧ (xi x a b).toInt ≤ 127 := by
  unfold xi
  split
  · rw [BitVec.toInt_signExtend_of_le (by decide)]; exact byte_bound _
  · simp

/-- A product of two bytes' numbers is exact, and small. -/
theorem tap_toInt (x : Fin 14 → Fin 16 → BitVec 8) (wt : Fin 7 → Fin 7 → BitVec 8) (h w q : ℕ) :
    (tap x wt h w q).toInt = (xi x (q / 7 + h) (q % 7 + w)).toInt * (wi wt q).toInt ∧ |(tap x wt h w q).toInt| ≤ 16384 := by
  have hx := xi_bound x (q / 7 + h) (q % 7 + w)
  have hw : -128 ≤ (wi wt q).toInt ∧ (wi wt q).toInt ≤ 127 := by
    unfold wi; rw [BitVec.toInt_signExtend_of_le (by decide)]; exact byte_bound _
  have hb : |(xi x (q / 7 + h) (q % 7 + w)).toInt * (wi wt q).toInt| ≤ 16384 := by
    rw [abs_mul]
    have h1 : |(xi x (q / 7 + h) (q % 7 + w)).toInt| ≤ 128 := abs_le.2 ⟨by omega, by omega⟩
    have h2 : |(wi wt q).toInt| ≤ 128 := abs_le.2 ⟨by omega, by omega⟩
    calc _ ≤ 128 * 128 := mul_le_mul h1 h2 (abs_nonneg _) (by norm_num)
      _ = 16384 := by norm_num
  have e : (tap x wt h w q).toInt = (xi x (q / 7 + h) (q % 7 + w)).toInt * (wi wt q).toInt := by
    show (_ * _ : BitVec 32).toInt = _
    rw [BitVec.toInt_mul]
    rw [abs_le] at hb
    exact Int.bmod_eq_of_le (by norm_num; omega) (by norm_num; omega)
  exact ⟨e, e ▸ hb⟩

/-- The padded image's number. -/
theorem xp_xi (x : Fin 14 → Fin 16 → BitVec 8) (a b : ℕ) :
    xp (fun h w => FloatOps.sitofp (F := Ideal) .f32 (w := 8) (x h w)) a b = (((xi x a b).toInt : ℝ) : EReal) := by
  unfold xp xi
  split
  · rw [BitVec.toInt_signExtend_of_le (by decide)]; rfl
  · simp

theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f _

/-- The 32-bit sum as a number is the convolution. -/
theorem convSum_int (x : Fin 14 → Fin 16 → BitVec 8) (wt : Fin 7 → Fin 7 → BitVec 8) (h w : ℕ) :
    FloatOps.sitofp (F := Ideal) .f32 ((List.range 49).foldl (fun a q => IntOp.addi a (tap x wt h w q)) 0#32)
      = convSum (fun h w => FloatOps.sitofp (F := Ideal) .f32 (w := 8) (x h w)) (fun a b => FloatOps.sitofp (F := Ideal) .f32 (w := 8) (wt a b)) h w := by
  show ((BitVec.toInt _ : ℝ) : EReal) = _
  rw [foldl_toInt _ (fun q => (tap_toInt x wt h w q).2) _ _ (by simp)]
  unfold convSum
  have e : ((List.range 49).map fun q => (tap x wt h w q).toInt).sum = ∑ q : Fin 49, (tap x wt h w q.val).toInt := by
    rw [Fin.sum_univ_def, ← List.map_coe_finRange_eq_range, List.map_map]; rfl
  rw [e, BitVec.toInt_zero, zero_add, Int.cast_sum, coe_sum]
  refine Finset.sum_congr rfl fun q _ => ?_
  rw [(tap_toInt x wt h w q.val).1, xp_xi, add_comm h, add_comm w, Int.cast_mul, EReal.coe_mul]
  congr 1
  unfold wi
  rw [BitVec.toInt_signExtend_of_le (by decide)]
  have e7 : (⟨q.val / 7 % 7, by omega⟩ : Fin 7) = ⟨q.val / 7, by omega⟩ := Fin.ext (by show q.val / 7 % 7 = q.val / 7; omega)
  rw [e7]
  rfl

/-- The convolution with its scale and bias. -/
theorem v355_read (b : Fin 6) (h : Fin 14) (w : Fin 16) (k : Fin 1408) (p : Fin 224) (hp : p.val = 16 * h.val + w.val) :
    val_main_v355 (F := Ideal) x0 x1 x3 x4 x5 (ix4 b h w k)
      = conv (fun h w d => FloatOps.sitofp (F := Ideal) .f32 (w := 8) (x0 (ix4 b h w d))) (fun a b d => FloatOps.sitofp (F := Ideal) .f32 (w := 8) (x3 (ix3 a b d)))
          (x1 ix0) (fun d => x4 (ix1 d)) (fun d => x5 (ix1 d)) p k := by
  pointwise [val_main_v347, val_main_v348, val_main_v349, val_main_v350, val_main_v351, val_main_v352, val_main_v353, val_main_v354, val_main_v355]
  rw [v346_read, convSum_int]
  unfold conv
  have e1 : p.val / 16 = h.val := by omega
  have e2 : p.val % 16 = w.val := by omega
  rw [e1, e2]

end Cert.ReferenceIdeal.Read

end
-- ==== Proof.RefNorm.lean ====
/- The reference's layer normalisation and its codes, read at an index. -/
module

public import proofs.«01_k».proof.Proof.Gen.ReferenceIdeal.Read
public import proofs.«01_k».proof.Proof.Scalars
public import Idealize.ShloMosaic.Lib.Pipeline.ValueKit

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Spec

/-- The host's maximum along the last of four axes. -/
theorem max_rows {n0 n1 n2 n3 : ℕ} {u : Shape} (hr : (⟨4, ![n0, n1, n2, n3]⟩ : Shape).ReducesTo [3] ⟨3, ![n0, n1, n2]⟩) (hu : 0 < u.numel)
    (V : (⟨4, ![n0, n1, n2, n3]⟩ : Shape).Idx → EReal) (init : u.Idx → EReal) (b : Fin n0) (h : Fin n1) (w : Fin n2) :
    Host.reduce (FloatOps.maximumf (F := Ideal) (φ := .f32)) V init hr hu (ix3 b h w) = Finset.univ.fold max (init (Shape.Idx.first hu)) fun k : Fin n3 => V (ix4 b h w k) := by
  rw [Host.reduce_eq_fold]
  exact hr.fold_fiber_r4_a3 (ix3 b h w) max _ V

/-- The host's choice of a row's scale from its largest magnitude. -/
theorem scale_stage {n : ℕ} (row : Fin n → EReal) (M : EReal) (e : M = Finset.univ.fold max (Ideal.ofBits .f32 4286578688#32) fun x => FloatOps.absf (F := Ideal) (φ := .f32) (row x)) :
    Scalar.select (FloatOps.cmpf (F := Ideal) (φ := .f32) .oeq M (Ideal.ofBits .f32 0#32)) (Ideal.ofBits .f32 1065353216#32)
      (FloatOps.hostDivf (F := Ideal) (φ := .f32) M (Ideal.ofBits .f32 1123942400#32)) = scale row := by
  have e1 : ∀ q d : EReal, Scalar.select (FloatOps.cmpf (F := Ideal) (φ := .f32) .oeq M (Ideal.ofBits .f32 0#32)) q d = if M = 0 then q else d := by
    intro q d
    pointwise []
  rw [e1, ofBits_one]
  unfold scale
  dsimp only
  rw [← e]
  rfl

/-- The host's code of a value under its row's scale. -/
theorem code_stage {n : ℕ} (row : Fin n → EReal) (k : Fin n) (v s : EReal) (hv : v = row k) (e : s = scale row) :
    BitVec.setWidth 8 (FloatOps.fptosi (F := Ideal) (φ := .f32) 32 (min (Ideal.ofBits .f32 1123942400#32)
      (max (Ideal.ofBits .f32 3271426048#32) (Ideal.liftRound Ideal.roundHalfEven (Ideal.div v s))))) = rowCode row k := by
  rw [code_i32, hv, e]
  unfold rowCode
  rw [mul_recip _ _ (scale_ne_zero _)]

variable (x0 : (⟨S6x14x16x1408, .i8⟩ : BufTy).Contents (Elt Ideal))
  (x1 : (⟨S_, .f32⟩ : BufTy).Contents (Elt Ideal))
  (x3 : (⟨S7x7x1408, .i8⟩ : BufTy).Contents (Elt Ideal))
  (x4 : (⟨S1408, .f32⟩ : BufTy).Contents (Elt Ideal))
  (x5 : (⟨S1408, .f32⟩ : BufTy).Contents (Elt Ideal))
  (x6 : (⟨S1408, .f32⟩ : BufTy).Contents (Elt Ideal))
  (x7 : (⟨S1408, .f32⟩ : BufTy).Contents (Elt Ideal))

/-- Layer normalisation. -/
theorem v377_read (b : Fin 6) (h : Fin 14) (w : Fin 16) (k : Fin 1408) :
    val_main_v377 (F := Ideal) x0 x1 x3 x4 x5 x6 x7 (ix4 b h w k)
      = ln KernelIdeal.Gen.invC (fun x => val_main_v355 (F := Ideal) x0 x1 x3 x4 x5 (ix4 b h w x)) (fun x => x6 (ix1 x)) (fun x => x7 (ix1 x)) k := by
  unfold val_main_v377 val_main_v374 val_main_v371 val_main_v370 val_main_v369 val_main_v368 val_main_v366 val_main_v364 val_main_v363 val_main_v362 val_main_v361 val_main_v360 val_main_v359 val_main_v357 val_main_v356
  generalize val_main_v355 (F := Ideal) x0 x1 x3 x4 x5 = V
  pointwise [val_main_cst, val_main_cst_1, val_main_v358, val_main_cst_2, val_main_cst_3, val_main_v365, val_main_cst_4, val_main_v367, val_main_v372, val_main_v373, val_main_v375, val_main_v376]
  exact ln_div (fun x => V (ix4 b h w x)) (fun x => x6 (ix1 x)) (fun x => x7 (ix1 x)) k

/-- The scale of a pixel. -/
theorem v384_read (b : Fin 6) (h : Fin 14) (w : Fin 16) : val_main_v384 (F := Ideal) x0 x1 x3 x4 x5 x6 x7 (ix3 b h w) = scale (fun x : Fin 1408 => val_main_v377 (F := Ideal) x0 x1 x3 x4 x5 x6 x7 (ix4 b h w x)) := by
  have e : val_main_v379 (F := Ideal) x0 x1 x3 x4 x5 x6 x7 (ix3 b h w)
      = Finset.univ.fold max (Ideal.ofBits .f32 4286578688#32) fun x : Fin 1408 => FloatOps.absf (F := Ideal) (φ := .f32) (val_main_v377 (F := Ideal) x0 x1 x3 x4 x5 x6 x7 (ix4 b h w x)) := by
    unfold val_main_v379 val_main_v378
    generalize val_main_v377 (F := Ideal) x0 x1 x3 x4 x5 x6 x7 = V
    exact max_rows (n0 := 6) (n1 := 14) (n2 := 16) (n3 := 1408) reducesTo_S6x14x16x1408_S6x14x16_d3 h_S_ (Host.absf (F := Ideal) V) (val_main_cst_5 (F := Ideal)) b h w
  rw [val_main_v384_apply, val_main_v381_apply, val_main_v383_apply, val_main_call1_v1_apply, val_main_call1_v0_apply, val_main_v380_apply, val_main_v382_apply]
  generalize val_main_v379 (F := Ideal) x0 x1 x3 x4 x5 x6 x7 (ix3 b h w) = M at e ⊢
  refine Eq.trans ?_ (scale_stage (fun x : Fin 1408 => val_main_v377 (F := Ideal) x0 x1 x3 x4 x5 x6 x7 (ix4 b h w x)) M e)
  rfl

/-- The code of a value. -/
theorem v391_read (b : Fin 6) (h : Fin 14) (w : Fin 16) (k : Fin 1408) :
    val_main_v391 (F := Ideal) x0 x1 x3 x4 x5 x6 x7 (ix4 b h w k) = rowCode (fun x : Fin 1408 => val_main_v377 (F := Ideal) x0 x1 x3 x4 x5 x6 x7 (ix4 b h w x)) k := by
  have e := v384_read x0 x1 x3 x4 x5 x6 x7 b h w
  have ei : idx_main_v385 (idx_main_v386 (ix4 b h w k)) = ix3 b h w := by
    funext a; fin_cases a <;> rfl
  rw [val_main_v391_apply, val_main_v390_apply, val_main_v389_apply, val_main_call3_v4_apply, val_main_call3_v3_apply, val_main_call3_v2_apply, val_main_call3_v1_apply, val_main_call3_v0_apply, val_main_v388_apply, val_main_v387_apply, val_main_v386_apply, val_main_v385_apply]
  rw [ei]
  generalize val_main_v384 (F := Ideal) x0 x1 x3 x4 x5 x6 x7 (ix3 b h w) = s at e ⊢
  refine Eq.trans ?_ (code_stage (fun x : Fin 1408 => val_main_v377 (F := Ideal) x0 x1 x3 x4 x5 x6 x7 (ix4 b h w x)) k (val_main_v377 (F := Ideal) x0 x1 x3 x4 x5 x6 x7 (ix4 b h w k)) s rfl e)
  generalize val_main_v377 (F := Ideal) x0 x1 x3 x4 x5 x6 x7 (ix4 b h w k) = v
  rfl

end Cert.ReferenceIdeal.Read

end
-- ==== Proof.RefHidden.lean ====
/- The reference's hidden layer, read at an index. -/
module

public import proofs.«01_k».proof.Proof.Gen.ReferenceIdeal.Read
public import proofs.«01_k».proof.Proof.Scalars
public import Idealize.ShloMosaic.Lib.Pipeline.ValueKit

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Spec

variable (x0 : (⟨S6x14x16x1408, .i8⟩ : BufTy).Contents (Elt Ideal))
  (x1 : (⟨S_, .f32⟩ : BufTy).Contents (Elt Ideal))
  (x3 : (⟨S7x7x1408, .i8⟩ : BufTy).Contents (Elt Ideal))
  (x4 : (⟨S1408, .f32⟩ : BufTy).Contents (Elt Ideal))
  (x5 : (⟨S1408, .f32⟩ : BufTy).Contents (Elt Ideal))
  (x6 : (⟨S1408, .f32⟩ : BufTy).Contents (Elt Ideal))
  (x7 : (⟨S1408, .f32⟩ : BufTy).Contents (Elt Ideal))
  (x8 : (⟨S704x5632, .i8⟩ : BufTy).Contents (Elt Ideal))
  (x9 : (⟨S11x5632, .bf16⟩ : BufTy).Contents (Elt Ideal))
  (x10 : (⟨S5632, .f32⟩ : BufTy).Contents (Elt Ideal))

/-- The even rows of the widened weights. -/
theorem v412_read (r : Fin 704) (n : Fin 5632) :
    val_main_v412 (F := Ideal) x8 x9 (ix2 r n) = FloatOps.sitofp (F := Ideal) .bf16 (w := 32) (nib (x8 (ix2 r n)) 0) * x9 (ix2 ⟨r.val / 64, by omega⟩ n) := by
  pointwise [val_main_v392, val_main_c_11, val_main_v393, val_main_v394, val_main_c_12, val_main_v395, val_main_v396, val_main_c_13, val_main_v397, val_main_v398, val_main_c_14, val_main_v399, val_main_v400, val_main_v401, val_main_c_15, val_main_v402, val_main_v403, val_main_c_16, val_main_v404, val_main_v405, val_main_v406, val_main_v407, val_main_v408, val_main_v409, val_main_v410, val_main_v411, val_main_v412]
  rfl

/-- The odd rows of the widened weights. -/
theorem v417_read (r : Fin 704) (n : Fin 5632) :
    val_main_v417 (F := Ideal) x8 x9 (ix2 r n) = FloatOps.sitofp (F := Ideal) .bf16 (w := 32) (nib (x8 (ix2 r n)) 1) * x9 (ix2 ⟨r.val / 64, by omega⟩ n) := by
  pointwise [val_main_v392, val_main_c_11, val_main_v393, val_main_v394, val_main_c_12, val_main_v395, val_main_v396, val_main_c_13, val_main_v397, val_main_v398, val_main_c_14, val_main_v399, val_main_v400, val_main_v401, val_main_c_15, val_main_v402, val_main_v403, val_main_c_16, val_main_v404, val_main_v405, val_main_v406, val_main_v407, val_main_v408, val_main_v409, val_main_v410, val_main_v411, val_main_v412, val_main_v413, val_main_v414, val_main_v415, val_main_v416, val_main_v417]
  rw [shr_host]
  rfl

/-- The contraction over even and over odd positions is the contraction. -/
theorem v439_sum (b : Fin 6) (h : Fin 14) (w : Fin 16) (k : Fin 5632) :
    (∑ x : Fin 704, FloatOps.sitofp (F := Ideal) .bf16 (BitVec.signExtend 32 (val_main_v391 (F := Ideal) x0 x1 x3 x4 x5 x6 x7 (ix4 b h w ⟨2 * x.val, by omega⟩)))
          * val_main_v412 (F := Ideal) x8 x9 (ix2 x k))
        + (∑ x : Fin 704, FloatOps.sitofp (F := Ideal) .bf16 (BitVec.signExtend 32 (val_main_v391 (F := Ideal) x0 x1 x3 x4 x5 x6 x7 (ix4 b h w ⟨1 + 2 * x.val, by omega⟩)))
          * val_main_v417 (F := Ideal) x8 x9 (ix2 x k))
      = ∑ r : Fin 1408, FloatOps.sitofp (F := Ideal) .bf16 (w := 8) (val_main_v391 (F := Ideal) x0 x1 x3 x4 x5 x6 x7 (ix4 b h w r))
          * wide (K := 1408) (fun (r : Fin 704) (n : Fin 5632) => x8 (ix2 r n)) (fun (g : Fin 11) (n : Fin 5632) => x9 (ix2 g n)) rfl rfl r k := by
  refine Eq.trans ?_ (sum_parity (n := 704) (fun r : Fin 1408 => FloatOps.sitofp (F := Ideal) .bf16 (w := 8) (val_main_v391 (F := Ideal) x0 x1 x3 x4 x5 x6 x7 (ix4 b h w r))
          * wide (K := 1408) (fun (r : Fin 704) (n : Fin 5632) => x8 (ix2 r n)) (fun (g : Fin 11) (n : Fin 5632) => x9 (ix2 g n)) rfl rfl r k)).symm
  refine congrArg₂ (· + ·) (Finset.sum_congr rfl fun x _ => ?_) (Finset.sum_congr rfl fun x _ => ?_)
  · rw [sitofp_ext, v412_read, wide_even]
  · rw [sitofp_ext, v417_read, wide_odd]

/-- The dense layer and its GELU. -/
theorem v439_read (b : Fin 6) (h : Fin 14) (w : Fin 16) (k : Fin 5632) :
    val_main_v439 (F := Ideal) x0 x1 x3 x4 x5 x6 x7 x8 x9 x10 (ix4 b h w k) = gelu (dense (fun r : Fin 1408 => FloatOps.sitofp (F := Ideal) .bf16 (w := 8) (val_main_v391 (F := Ideal) x0 x1 x3 x4 x5 x6 x7 (ix4 b h w r)))
      (wide (K := 1408) (fun (r : Fin 704) (n : Fin 5632) => x8 (ix2 r n)) (fun (g : Fin 11) (n : Fin 5632) => x9 (ix2 g n)) rfl rfl)
      (val_main_v384 (F := Ideal) x0 x1 x3 x4 x5 x6 x7 (ix3 b h w)) (fun n : Fin 5632 => x10 (ix1 n)) k) := by
  unfold dense
  rw [← v439_sum]
  pointwise [val_main_v418, val_main_v419, val_main_v420, val_main_v421, val_main_v422, val_main_v423, val_main_v424, val_main_v425, val_main_v426, val_main_v427, val_main_v428, val_main_v429, val_main_v430, val_main_v431, val_main_v432, val_main_cst_17, val_main_v433, val_main_v434, val_main_v435, val_main_cst_18, val_main_v436, val_main_v437, val_main_v438, val_main_v439]
  exact gelu_erfc _

end Cert.ReferenceIdeal.Read

end
-- ==== Proof.RefGrn.lean ====
/- The reference's response normalisation, read at an index. -/
module

public import proofs.«01_k».proof.Proof.Gen.ReferenceIdeal.Read
public import proofs.«01_k».proof.Proof.Scalars
public import Idealize.ShloMosaic.Lib.Pipeline.ValueKit

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Spec

variable (x0 : (⟨S6x14x16x1408, .i8⟩ : BufTy).Contents (Elt Ideal))
  (x1 : (⟨S_, .f32⟩ : BufTy).Contents (Elt Ideal))
  (x3 : (⟨S7x7x1408, .i8⟩ : BufTy).Contents (Elt Ideal))
  (x4 : (⟨S1408, .f32⟩ : BufTy).Contents (Elt Ideal))
  (x5 : (⟨S1408, .f32⟩ : BufTy).Contents (Elt Ideal))
  (x6 : (⟨S1408, .f32⟩ : BufTy).Contents (Elt Ideal))
  (x7 : (⟨S1408, .f32⟩ : BufTy).Contents (Elt Ideal))
  (x8 : (⟨S704x5632, .i8⟩ : BufTy).Contents (Elt Ideal))
  (x9 : (⟨S11x5632, .bf16⟩ : BufTy).Contents (Elt Ideal))
  (x10 : (⟨S5632, .f32⟩ : BufTy).Contents (Elt Ideal))
  (x11 : (⟨S5632, .f32⟩ : BufTy).Contents (Elt Ideal))
  (x12 : (⟨S5632, .f32⟩ : BufTy).Contents (Elt Ideal))

/-- The host's sum over rows and columns of an image. -/
theorem sum_image (hr : S6x14x16x5632.ReducesTo [1, 2] S6x5632) (v : S6x14x16x5632.Idx → EReal) (init : EReal) (b : Fin 6) (k : Fin 5632) :
    Ideal.hostReduceAdd hr v init (ix2 b k) = init + ∑ h : Fin 14, ∑ w : Fin 16, v (ix4 b h w k) := by
  have fiber : ∀ i : S6x14x16x5632.Idx, hr.drop i = ix2 b k ↔ ∃ q : Fin 14 × Fin 16, ix4 b q.1 q.2 k = i := by
    intro i
    constructor
    · intro e
      refine ⟨(i 1, i 2), ?_⟩
      funext a; apply Fin.ext
      match a with
      | ⟨0, _⟩ => exact (congrArg Fin.val (congrFun e ⟨0, by decide⟩)).symm
      | ⟨1, _⟩ => rfl
      | ⟨2, _⟩ => rfl
      | ⟨3, _⟩ => exact (congrArg Fin.val (congrFun e ⟨1, by decide⟩)).symm
    · rintro ⟨q, rfl⟩
      funext a
      apply Fin.ext
      match a with
      | ⟨0, _⟩ => rfl
      | ⟨1, _⟩ => rfl
  unfold Ideal.hostReduceAdd
  refine congrArg (init + ·) ?_
  refine (Finset.sum_filter_eq_sum_of_fiber _ (fun q : Fin 14 × Fin 16 => (ix4 b q.1 q.2 k : S6x14x16x5632.Idx))
    (fun _ _ e => Prod.ext (congrFun e 1) (congrFun e 2)) fiber v).trans ?_
  simp only [Fintype.sum_prod_type]

/-- The column norms. -/
theorem v442_read (b : Fin 6) (k : Fin 5632) :
    val_main_v442 (F := Ideal) x0 x1 x3 x4 x5 x6 x7 x8 x9 x10 (ix2 b k) = colNorm (fun p n => val_main_v439 (F := Ideal) x0 x1 x3 x4 x5 x6 x7 x8 x9 x10 (ix4 b ⟨p.val / 16, by omega⟩ ⟨p.val % 16, by omega⟩ n)) k := by
  pointwise [val_main_v440, val_main_cst_19, val_main_v441, val_main_v442]
  rw [sum_image, zero_add]
  unfold colNorm
  rw [sum_pix]
  refine congrArg Ideal.sqrt (Finset.sum_congr rfl fun h _ => Finset.sum_congr rfl fun w _ => ?_)
  have e1 : (⟨(16 * h.val + w.val) / 16, by omega⟩ : Fin 14) = h := Fin.ext (by show (16 * h.val + w.val) / 16 = h.val; omega)
  have e2 : (⟨(16 * h.val + w.val) % 16, by omega⟩ : Fin 16) = w := Fin.ext (by show (16 * h.val + w.val) % 16 = w.val; omega)
  dsimp only
  rw [e1, e2]
  rfl

/-- The response factor. -/
theorem v450_read (b : Fin 6) (k : Fin 5632) :
    val_main_v450 (F := Ideal) x0 x1 x3 x4 x5 x6 x7 x8 x9 x10 (ix2 b k) = respond KernelIdeal.Gen.invHid (fun n => val_main_v442 (F := Ideal) x0 x1 x3 x4 x5 x6 x7 x8 x9 x10 (ix2 b n)) k := by
  pointwise [val_main_cst_20, val_main_v443, val_main_v444, val_main_cst_21, val_main_v445, val_main_v446, val_main_cst_22, val_main_v447, val_main_v448, val_main_v449, val_main_v450]
  rw [div_5632]
  rfl

/-- Response normalisation. -/
theorem v460_read (b : Fin 6) (h : Fin 14) (w : Fin 16) (k : Fin 5632) :
    val_main_v460 (F := Ideal) x0 x1 x3 x4 x5 x6 x7 x8 x9 x10 x11 x12 (ix4 b h w k) = grn (val_main_v439 (F := Ideal) x0 x1 x3 x4 x5 x6 x7 x8 x9 x10 (ix4 b h w k)) (val_main_v450 (F := Ideal) x0 x1 x3 x4 x5 x6 x7 x8 x9 x10 (ix2 b k)) (x11 (ix1 k)) (x12 (ix1 k)) := by
  pointwise [val_main_v451, val_main_v452, val_main_v453, val_main_v454, val_main_v455, val_main_v456, val_main_v457, val_main_v458, val_main_v459, val_main_v460]
  rfl

end Cert.ReferenceIdeal.Read

end
-- ==== Proof.RefCodes.lean ====
/- The codes the reference takes of the normalised hidden layer, read at an index. -/
module

public import proofs.«01_k».proof.Proof.Gen.ReferenceIdeal.Read
public import proofs.«01_k».proof.Proof.Scalars
public import proofs.«01_k».proof.Proof.RefNorm
public import Idealize.ShloMosaic.Lib.Pipeline.ValueKit

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Spec

variable (x0 : (⟨S6x14x16x1408, .i8⟩ : BufTy).Contents (Elt Ideal))
  (x1 : (⟨S_, .f32⟩ : BufTy).Contents (Elt Ideal))
  (x3 : (⟨S7x7x1408, .i8⟩ : BufTy).Contents (Elt Ideal))
  (x4 : (⟨S1408, .f32⟩ : BufTy).Contents (Elt Ideal))
  (x5 : (⟨S1408, .f32⟩ : BufTy).Contents (Elt Ideal))
  (x6 : (⟨S1408, .f32⟩ : BufTy).Contents (Elt Ideal))
  (x7 : (⟨S1408, .f32⟩ : BufTy).Contents (Elt Ideal))
  (x8 : (⟨S704x5632, .i8⟩ : BufTy).Contents (Elt Ideal))
  (x9 : (⟨S11x5632, .bf16⟩ : BufTy).Contents (Elt Ideal))
  (x10 : (⟨S5632, .f32⟩ : BufTy).Contents (Elt Ideal))
  (x11 : (⟨S5632, .f32⟩ : BufTy).Contents (Elt Ideal))
  (x12 : (⟨S5632, .f32⟩ : BufTy).Contents (Elt Ideal))

/-- The scale of a pixel. -/
theorem v467_read (b : Fin 6) (h : Fin 14) (w : Fin 16) : val_main_v467 (F := Ideal) x0 x1 x3 x4 x5 x6 x7 x8 x9 x10 x11 x12 (ix3 b h w) = scale (fun x : Fin 5632 => val_main_v460 (F := Ideal) x0 x1 x3 x4 x5 x6 x7 x8 x9 x10 x11 x12 (ix4 b h w x)) := by
  have e : val_main_v462 (F := Ideal) x0 x1 x3 x4 x5 x6 x7 x8 x9 x10 x11 x12 (ix3 b h w)
      = Finset.univ.fold max (Ideal.ofBits .f32 4286578688#32) fun x : Fin 5632 => FloatOps.absf (F := Ideal) (φ := .f32) (val_main_v460 (F := Ideal) x0 x1 x3 x4 x5 x6 x7 x8 x9 x10 x11 x12 (ix4 b h w x)) := by
    unfold val_main_v462 val_main_v461
    generalize val_main_v460 (F := Ideal) x0 x1 x3 x4 x5 x6 x7 x8 x9 x10 x11 x12 = V
    exact max_rows (n0 := 6) (n1 := 14) (n2 := 16) (n3 := 5632) reducesTo_S6x14x16x5632_S6x14x16_d3 h_S_ (Host.absf (F := Ideal) V) (val_main_cst_23 (F := Ideal)) b h w
  rw [val_main_v467_apply, val_main_v464_apply, val_main_v466_apply, val_main_call6_v1_apply, val_main_call6_v0_apply, val_main_v463_apply, val_main_v465_apply]
  generalize val_main_v462 (F := Ideal) x0 x1 x3 x4 x5 x6 x7 x8 x9 x10 x11 x12 (ix3 b h w) = M at e ⊢
  refine Eq.trans ?_ (scale_stage (fun x : Fin 5632 => val_main_v460 (F := Ideal) x0 x1 x3 x4 x5 x6 x7 x8 x9 x10 x11 x12 (ix4 b h w x)) M e)
  rfl

/-- The code of a value. -/
theorem v474_read (b : Fin 6) (h : Fin 14) (w : Fin 16) (k : Fin 5632) :
    val_main_v474 (F := Ideal) x0 x1 x3 x4 x5 x6 x7 x8 x9 x10 x11 x12 (ix4 b h w k) = rowCode (fun x : Fin 5632 => val_main_v460 (F := Ideal) x0 x1 x3 x4 x5 x6 x7 x8 x9 x10 x11 x12 (ix4 b h w x)) k := by
  have e := v467_read x0 x1 x3 x4 x5 x6 x7 x8 x9 x10 x11 x12 b h w
  have ei : idx_main_v468 (idx_main_v469 (ix4 b h w k)) = ix3 b h w := by
    funext a; fin_cases a <;> rfl
  rw [val_main_v474_apply, val_main_v473_apply, val_main_v472_apply, val_main_call8_v4_apply, val_main_call8_v3_apply, val_main_call8_v2_apply, val_main_call8_v1_apply, val_main_call8_v0_apply, val_main_v471_apply, val_main_v470_apply, val_main_v469_apply, val_main_v468_apply]
  rw [ei]
  generalize val_main_v467 (F := Ideal) x0 x1 x3 x4 x5 x6 x7 x8 x9 x10 x11 x12 (ix3 b h w) = s at e ⊢
  refine Eq.trans ?_ (code_stage (fun x : Fin 5632 => val_main_v460 (F := Ideal) x0 x1 x3 x4 x5 x6 x7 x8 x9 x10 x11 x12 (ix4 b h w x)) k (val_main_v460 (F := Ideal) x0 x1 x3 x4 x5 x6 x7 x8 x9 x10 x11 x12 (ix4 b h w k)) s rfl e)
  generalize val_main_v460 (F := Ideal) x0 x1 x3 x4 x5 x6 x7 x8 x9 x10 x11 x12 (ix4 b h w k) = v
  rfl

end Cert.ReferenceIdeal.Read

end
-- ==== Proof.RefOut.lean ====
/- The reference's second dense layer and its results, read at an index. -/
module

public import proofs.«01_k».proof.Proof.Gen.ReferenceIdeal.Read
public import proofs.«01_k».proof.Proof.Scalars
public import Idealize.ShloMosaic.Lib.Pipeline.ValueKit

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.Spec

variable (x0 : (⟨S6x14x16x1408, .i8⟩ : BufTy).Contents (Elt Ideal))
  (x1 : (⟨S_, .f32⟩ : BufTy).Contents (Elt Ideal))
  (x2 : (⟨S6x14x16x1408, .bf16⟩ : BufTy).Contents (Elt Ideal))
  (x3 : (⟨S7x7x1408, .i8⟩ : BufTy).Contents (Elt Ideal))
  (x4 : (⟨S1408, .f32⟩ : BufTy).Contents (Elt Ideal))
  (x5 : (⟨S1408, .f32⟩ : BufTy).Contents (Elt Ideal))
  (x6 : (⟨S1408, .f32⟩ : BufTy).Contents (Elt Ideal))
  (x7 : (⟨S1408, .f32⟩ : BufTy).Contents (Elt Ideal))
  (x8 : (⟨S704x5632, .i8⟩ : BufTy).Contents (Elt Ideal))
  (x9 : (⟨S11x5632, .bf16⟩ : BufTy).Contents (Elt Ideal))
  (x10 : (⟨S5632, .f32⟩ : BufTy).Contents (Elt Ideal))
  (x11 : (⟨S5632, .f32⟩ : BufTy).Contents (Elt Ideal))
  (x12 : (⟨S5632, .f32⟩ : BufTy).Contents (Elt Ideal))
  (x13 : (⟨S2816x1408, .i8⟩ : BufTy).Contents (Elt Ideal))
  (x14 : (⟨S44x1408, .bf16⟩ : BufTy).Contents (Elt Ideal))
  (x15 : (⟨S1408, .f32⟩ : BufTy).Contents (Elt Ideal))
  (x16 : (⟨S_, .f32⟩ : BufTy).Contents (Elt Ideal))

/-- The even rows of the widened weights. -/
theorem v495_read (r : Fin 2816) (n : Fin 1408) :
    val_main_v495 (F := Ideal) x13 x14 (ix2 r n) = FloatOps.sitofp (F := Ideal) .bf16 (w := 32) (nib (x13 (ix2 r n)) 0) * x14 (ix2 ⟨r.val / 64, by omega⟩ n) := by
  pointwise [val_main_v475, val_main_c_29, val_main_v476, val_main_v477, val_main_c_30, val_main_v478, val_main_v479, val_main_c_31, val_main_v480, val_main_v481, val_main_c_32, val_main_v482, val_main_v483, val_main_v484, val_main_c_33, val_main_v485, val_main_v486, val_main_c_34, val_main_v487, val_main_v488, val_main_v489, val_main_v490, val_main_v491, val_main_v492, val_main_v493, val_main_v494, val_main_v495]
  rfl

/-- The odd rows of the widened weights. -/
theorem v500_read (r : Fin 2816) (n : Fin 1408) :
    val_main_v500 (F := Ideal) x13 x14 (ix2 r n) = FloatOps.sitofp (F := Ideal) .bf16 (w := 32) (nib (x13 (ix2 r n)) 1) * x14 (ix2 ⟨r.val / 64, by omega⟩ n) := by
  pointwise [val_main_v475, val_main_c_29, val_main_v476, val_main_v477, val_main_c_30, val_main_v478, val_main_v479, val_main_c_31, val_main_v480, val_main_v481, val_main_c_32, val_main_v482, val_main_v483, val_main_v484, val_main_c_33, val_main_v485, val_main_v486, val_main_c_34, val_main_v487, val_main_v488, val_main_v489, val_main_v490, val_main_v491, val_main_v492, val_main_v493, val_main_v494, val_main_v495, val_main_v496, val_main_v497, val_main_v498, val_main_v499, val_main_v500]
  rw [shr_host]
  rfl

/-- The contraction over even and over odd positions is the contraction. -/
theorem v515_sum (b : Fin 6) (h : Fin 14) (w : Fin 16) (k : Fin 1408) :
    (∑ x : Fin 2816, FloatOps.sitofp (F := Ideal) .bf16 (BitVec.signExtend 32 (val_main_v474 (F := Ideal) x0 x1 x3 x4 x5 x6 x7 x8 x9 x10 x11 x12 (ix4 b h w ⟨2 * x.val, by omega⟩)))
          * val_main_v495 (F := Ideal) x13 x14 (ix2 x k))
        + (∑ x : Fin 2816, FloatOps.sitofp (F := Ideal) .bf16 (BitVec.signExtend 32 (val_main_v474 (F := Ideal) x0 x1 x3 x4 x5 x6 x7 x8 x9 x10 x11 x12 (ix4 b h w ⟨1 + 2 * x.val, by omega⟩)))
          * val_main_v500 (F := Ideal) x13 x14 (ix2 x k))
      = ∑ r : Fin 5632, FloatOps.sitofp (F := Ideal) .bf16 (w := 8) (val_main_v474 (F := Ideal) x0 x1 x3 x4 x5 x6 x7 x8 x9 x10 x11 x12 (ix4 b h w r))
          * wide (K := 5632) (fun (r : Fin 2816) (n : Fin 1408) => x13 (ix2 r n)) (fun (g : Fin 44) (n : Fin 1408) => x14 (ix2 g n)) rfl rfl r k := by
  refine Eq.trans ?_ (sum_parity (n := 2816) (fun r : Fin 5632 => FloatOps.sitofp (F := Ideal) .bf16 (w := 8) (val_main_v474 (F := Ideal) x0 x1 x3 x4 x5 x6 x7 x8 x9 x10 x11 x12 (ix4 b h w r))
          * wide (K := 5632) (fun (r : Fin 2816) (n : Fin 1408) => x13 (ix2 r n)) (fun (g : Fin 44) (n : Fin 1408) => x14 (ix2 g n)) rfl rfl r k)).symm
  refine congrArg₂ (· + ·) (Finset.sum_congr rfl fun x _ => ?_) (Finset.sum_congr rfl fun x _ => ?_)
  · rw [sitofp_ext, v495_read, wide_even]
  · rw [sitofp_ext, v500_read, wide_odd]

/-- The dense layer. -/
theorem v515_read (b : Fin 6) (h : Fin 14) (w : Fin 16) (k : Fin 1408) :
    val_main_v515 (F := Ideal) x0 x1 x3 x4 x5 x6 x7 x8 x9 x10 x11 x12 x13 x14 x15 (ix4 b h w k) = dense (fun r : Fin 5632 => FloatOps.sitofp (F := Ideal) .bf16 (w := 8) (val_main_v474 (F := Ideal) x0 x1 x3 x4 x5 x6 x7 x8 x9 x10 x11 x12 (ix4 b h w r)))
      (wide (K := 5632) (fun (r : Fin 2816) (n : Fin 1408) => x13 (ix2 r n)) (fun (g : Fin 44) (n : Fin 1408) => x14 (ix2 g n)) rfl rfl)
      (val_main_v467 (F := Ideal) x0 x1 x3 x4 x5 x6 x7 x8 x9 x10 x11 x12 (ix3 b h w)) (fun n : Fin 1408 => x15 (ix1 n)) k := by
  unfold dense
  rw [← v515_sum]
  pointwise [val_main_v501, val_main_v502, val_main_v503, val_main_v504, val_main_v505, val_main_v506, val_main_v507, val_main_v508, val_main_v509, val_main_v510, val_main_v511, val_main_v512, val_main_v513, val_main_v514, val_main_v515]

/-- The residual sum. -/
theorem v517_read (b : Fin 6) (h : Fin 14) (w : Fin 16) (k : Fin 1408) :
    val_main_v517 (F := Ideal) x0 x1 x2 x3 x4 x5 x6 x7 x8 x9 x10 x11 x12 x13 x14 x15 (ix4 b h w k) = (show EReal from x2 (ix4 b h w k)) + val_main_v515 (F := Ideal) x0 x1 x3 x4 x5 x6 x7 x8 x9 x10 x11 x12 x13 x14 x15 (ix4 b h w k) := by
  pointwise [val_main_v516, val_main_v517]

/-- The output. -/
theorem v518_read (b : Fin 6) (h : Fin 14) (w : Fin 16) (k : Fin 1408) :
    val_main_v518 (F := Ideal) x0 x1 x2 x3 x4 x5 x6 x7 x8 x9 x10 x11 x12 x13 x14 x15 (ix4 b h w k) = val_main_v517 (F := Ideal) x0 x1 x2 x3 x4 x5 x6 x7 x8 x9 x10 x11 x12 x13 x14 x15 (ix4 b h w k) := rfl

/-- The output's codes. -/
theorem v524_read (hs : x16 ix0 ≠ (0 : EReal)) (b : Fin 6) (h : Fin 14) (w : Fin 16) (k : Fin 1408) :
    val_main_v524 (F := Ideal) x0 x1 x2 x3 x4 x5 x6 x7 x8 x9 x10 x11 x12 x13 x14 x15 x16 (ix4 b h w k) = code (val_main_v517 (F := Ideal) x0 x1 x2 x3 x4 x5 x6 x7 x8 x9 x10 x11 x12 x13 x14 x15 (ix4 b h w k) * Ideal.div 1 (x16 ix0)) := by
  pointwise [val_main_v519, val_main_v520, val_main_v521, val_main_cst_35, val_main_cst_36, val_main_call12_v0, val_main_call12_v1, val_main_call12_v2, val_main_call12_v3, val_main_call12_v4, val_main_v522, val_main_v523, val_main_v524]
  refine (code_i32 _).trans ?_
  rw [mul_recip _ _ hs]

end Cert.ReferenceIdeal.Read

end
-- ==== Proof.RefValue.lean ====
/- The reference's stages are an image's stages, and so its seven results are the results stated in Images.lean. -/
module

public import proofs.«01_k».proof.Proof.RefConv
public import proofs.«01_k».proof.Proof.RefNorm
public import proofs.«01_k».proof.Proof.RefHidden
public import proofs.«01_k».proof.Proof.RefGrn
public import proofs.«01_k».proof.Proof.RefCodes
public import proofs.«01_k».proof.Proof.RefOut
public import proofs.«01_k».proof.Proof.Images

@[expose] public section

set_option maxRecDepth 16384

noncomputable section

namespace Cert.ReferenceIdeal.Read

open Cert.ReferenceIdeal Idealize.ShloMosaic
open Cert.Spec
open Cert.KernelIdeal.Gen (Args pix)

variable (A : Args)

/-- The convolution. -/
theorem d_eq (b : Fin 6) (h : Fin 14) (w : Fin 16) (k : Fin 1408) : val_main_v355 (F := Ideal) A.x0 A.x1 A.x3 A.x4 A.x5 (ix4 b h w k) = (A.image b).d (pix h w) k :=
  v355_read A.x0 A.x1 A.x3 A.x4 A.x5 b h w k (pix h w) rfl

/-- Layer normalisation. -/
theorem n1_eq (b : Fin 6) (h : Fin 14) (w : Fin 16) (k : Fin 1408) : val_main_v377 (F := Ideal) A.x0 A.x1 A.x3 A.x4 A.x5 A.x6 A.x7 (ix4 b h w k) = (A.image b).n1 (pix h w) k := by
  rw [v377_read, funext (d_eq A b h w)]
  rfl

/-- Its scale. -/
theorem a1s_eq (b : Fin 6) (h : Fin 14) (w : Fin 16) : val_main_v384 (F := Ideal) A.x0 A.x1 A.x3 A.x4 A.x5 A.x6 A.x7 (ix3 b h w) = scale ((A.image b).n1 (pix h w)) := by
  rw [v384_read, funext (n1_eq A b h w)]

/-- Its codes. -/
theorem a1c_eq (b : Fin 6) (h : Fin 14) (w : Fin 16) (k : Fin 1408) : val_main_v391 (F := Ideal) A.x0 A.x1 A.x3 A.x4 A.x5 A.x6 A.x7 (ix4 b h w k) = rowCode ((A.image b).n1 (pix h w)) k := by
  rw [v391_read, funext (n1_eq A b h w)]

/-- The hidden values. -/
theorem h_eq (b : Fin 6) (h : Fin 14) (w : Fin 16) (k : Fin 5632) : val_main_v439 (F := Ideal) A.x0 A.x1 A.x3 A.x4 A.x5 A.x6 A.x7 A.x8 A.x9 A.x10 (ix4 b h w k) = (A.image b).h (pix h w) k := by
  rw [v439_read, a1s_eq]
  simp only [a1c_eq A b h w]
  rfl

/-- The norm of a hidden channel over the image. -/
theorem gx_eq (b : Fin 6) (k : Fin 5632) : val_main_v442 (F := Ideal) A.x0 A.x1 A.x3 A.x4 A.x5 A.x6 A.x7 A.x8 A.x9 A.x10 (ix2 b k) = (A.image b).gx k := by
  rw [v442_read]
  refine congrArg (fun f => colNorm f k) (funext fun p => funext fun n => ?_)
  rw [h_eq]
  refine congrArg (fun p => (A.image b).h p n) (Fin.ext ?_)
  show 16 * (p.val / 16) + p.val % 16 = p.val
  omega

/-- The response factor. -/
theorem nx_eq (b : Fin 6) (k : Fin 5632) : val_main_v450 (F := Ideal) A.x0 A.x1 A.x3 A.x4 A.x5 A.x6 A.x7 A.x8 A.x9 A.x10 (ix2 b k) = (A.image b).nx k := by
  rw [v450_read, funext (gx_eq A b)]
  rfl

/-- Response normalisation. -/
theorem g_eq (b : Fin 6) (h : Fin 14) (w : Fin 16) (k : Fin 5632) : val_main_v460 (F := Ideal) A.x0 A.x1 A.x3 A.x4 A.x5 A.x6 A.x7 A.x8 A.x9 A.x10 A.x11 A.x12 (ix4 b h w k) = (A.image b).g (pix h w) k := by
  rw [v460_read, h_eq, nx_eq]
  rfl

/-- Its scale. -/
theorem a2s_eq (b : Fin 6) (h : Fin 14) (w : Fin 16) : val_main_v467 (F := Ideal) A.x0 A.x1 A.x3 A.x4 A.x5 A.x6 A.x7 A.x8 A.x9 A.x10 A.x11 A.x12 (ix3 b h w) = scale ((A.image b).g (pix h w)) := by
  rw [v467_read, funext (g_eq A b h w)]

/-- Its codes. -/
theorem a2c_eq (b : Fin 6) (h : Fin 14) (w : Fin 16) (k : Fin 5632) : val_main_v474 (F := Ideal) A.x0 A.x1 A.x3 A.x4 A.x5 A.x6 A.x7 A.x8 A.x9 A.x10 A.x11 A.x12 (ix4 b h w k) = rowCode ((A.image b).g (pix h w)) k := by
  rw [v474_read, funext (g_eq A b h w)]

/-- The block's branch. -/
theorem y_eq (b : Fin 6) (h : Fin 14) (w : Fin 16) (k : Fin 1408) : val_main_v515 (F := Ideal) A.x0 A.x1 A.x3 A.x4 A.x5 A.x6 A.x7 A.x8 A.x9 A.x10 A.x11 A.x12 A.x13 A.x14 A.x15 (ix4 b h w k) = (A.image b).y (pix h w) k := by
  rw [v515_read, a2s_eq]
  simp only [a2c_eq A b h w]
  rfl

/-- The residual sum. -/
theorem r_eq (b : Fin 6) (h : Fin 14) (w : Fin 16) (k : Fin 1408) : val_main_v517 (F := Ideal) A.x0 A.x1 A.x2 A.x3 A.x4 A.x5 A.x6 A.x7 A.x8 A.x9 A.x10 A.x11 A.x12 A.x13 A.x14 A.x15 (ix4 b h w k) = (A.image b).r h w k := by
  rw [v517_read, y_eq]
  rfl

/-! The seven results. -/

theorem out_at (b : Fin 6) (h : Fin 14) (w : Fin 16) (k : Fin 1408) : val_main_v518 (F := Ideal) A.x0 A.x1 A.x2 A.x3 A.x4 A.x5 A.x6 A.x7 A.x8 A.x9 A.x10 A.x11 A.x12 A.x13 A.x14 A.x15 (ix4 b h w k) = A.out (ix4 b h w k) := by
  rw [v518_read, r_eq]
  rfl

theorem codes_at (hs : A.x16 ix0 ≠ (0 : EReal)) (b : Fin 6) (h : Fin 14) (w : Fin 16) (k : Fin 1408) : val_main_v524 (F := Ideal) A.x0 A.x1 A.x2 A.x3 A.x4 A.x5 A.x6 A.x7 A.x8 A.x9 A.x10 A.x11 A.x12 A.x13 A.x14 A.x15 A.x16 (ix4 b h w k) = A.codes (ix4 b h w k) := by
  rw [v524_read _ _ _ _ _ _ _ _ _ _ _ _ _ _ _ _ _ hs, r_eq]
  rfl

theorem out_value : val_main_v518 (F := Ideal) A.x0 A.x1 A.x2 A.x3 A.x4 A.x5 A.x6 A.x7 A.x8 A.x9 A.x10 A.x11 A.x12 A.x13 A.x14 A.x15 = A.out :=
  funext fun i => by
    rw [eq_ix4 i]
    exact out_at A (i 0) (i 1) (i 2) (i 3)

theorem codes_value (hs : A.x16 ix0 ≠ (0 : EReal)) : val_main_v524 (F := Ideal) A.x0 A.x1 A.x2 A.x3 A.x4 A.x5 A.x6 A.x7 A.x8 A.x9 A.x10 A.x11 A.x12 A.x13 A.x14 A.x15 A.x16 = A.codes :=
  funext fun i => by
    rw [eq_ix4 i]
    exact codes_at A hs (i 0) (i 1) (i 2) (i 3)

theorem gx_value : val_main_v442 (F := Ideal) A.x0 A.x1 A.x3 A.x4 A.x5 A.x6 A.x7 A.x8 A.x9 A.x10 = A.gx :=
  funext fun i => by
    rw [eq_ix2 i]
    exact gx_eq A (i 0) (i 1)

theorem a1c_value : val_main_v391 (F := Ideal) A.x0 A.x1 A.x3 A.x4 A.x5 A.x6 A.x7 = A.a1c :=
  funext fun i => by
    rw [eq_ix4 i]
    exact a1c_eq A (i 0) (i 1) (i 2) (i 3)

theorem a1s_value : val_main_v384 (F := Ideal) A.x0 A.x1 A.x3 A.x4 A.x5 A.x6 A.x7 = A.a1s :=
  funext fun i => by
    rw [eq_ix3 i]
    exact a1s_eq A (i 0) (i 1) (i 2)

theorem a2c_value : val_main_v474 (F := Ideal) A.x0 A.x1 A.x3 A.x4 A.x5 A.x6 A.x7 A.x8 A.x9 A.x10 A.x11 A.x12 = A.a2c :=
  funext fun i => by
    rw [eq_ix4 i]
    exact a2c_eq A (i 0) (i 1) (i 2) (i 3)

theorem a2s_value : val_main_v467 (F := Ideal) A.x0 A.x1 A.x3 A.x4 A.x5 A.x6 A.x7 A.x8 A.x9 A.x10 A.x11 A.x12 = A.a2s :=
  funext fun i => by
    rw [eq_ix3 i]
    exact a2s_eq A (i 0) (i 1) (i 2)

end Cert.ReferenceIdeal.Read

end
-- ==== Proof.Algebraic.lean ====
/- The idealised kernel and the reference, run on the same arguments, end with the same seven results. -/
module

public import proofs.«01_k».proof.Defs
public import proofs.«01_k».proof.Proof.Gen.Pre_pre
public import proofs.«01_k».proof.Proof.Gen.ReferenceIdeal.Run
public import proofs.«01_k».proof.Proof.KernelValue
public import proofs.«01_k».proof.Proof.RefValue

@[expose] public section

set_option maxRecDepth 16384

noncomputable section

namespace Cert.Proof

open Idealize.ShloMosaic Idealize.SL.Sem
open Cert.KernelIdeal.Gen (Args)

/-- The precondition: the output scale is not zero. -/
theorem scale_ne {m : (ℓ : Loc Cert.KernelIdeal.nD Cert.KernelIdeal.τ Cert.KernelIdeal.sig) → Buf (Elt Ideal) ℓ}
    (hpre : Cert.Pre_KernelIdeal_pre m) (c : Dev Cert.KernelIdeal.nD) : (Cert.KernelIdeal.Gen.args m c).x16 ix0 ≠ (0 : EReal) := by
  have h := congrFun (hpre c) ix0
  intro h0
  change BitVec.ofBool (decide ((Cert.KernelIdeal.Gen.args m c).x16 ix0 ≠ Ideal.ofBits .f32 0x00000000#32)) = _ at h
  rw [h0] at h
  have z : Ideal.ofBits .f32 0x00000000#32 = 0 := by
    pointwise []
  rw [z] at h
  simp at h

/-- The value claim. -/
theorem algebraic : Cert.algebraic_KernelIdeal_ReferenceIdeal_pre_pre := by
  pair_intro
  · exact Cert.KernelIdeal.Gen.run_value m g
  · refine (θ_run _ _ _).mono (fun r h c => ?_) (Cert.ReferenceIdeal.Value.run m' g')
    obtain ⟨h0, h1, h2, h3, h4, h5, h6, hargs⟩ := h c
    have hA : (⟨m' ((c.tc : Thread _ _).loc Cert.ReferenceIdeal.main_arg0), m' ((c.tc : Thread _ _).loc Cert.ReferenceIdeal.main_arg1), m' ((c.tc : Thread _ _).loc Cert.ReferenceIdeal.main_arg2),
        m' ((c.tc : Thread _ _).loc Cert.ReferenceIdeal.main_arg3), m' ((c.tc : Thread _ _).loc Cert.ReferenceIdeal.main_arg4), m' ((c.tc : Thread _ _).loc Cert.ReferenceIdeal.main_arg5),
        m' ((c.tc : Thread _ _).loc Cert.ReferenceIdeal.main_arg6), m' ((c.tc : Thread _ _).loc Cert.ReferenceIdeal.main_arg7), m' ((c.tc : Thread _ _).loc Cert.ReferenceIdeal.main_arg8),
        m' ((c.tc : Thread _ _).loc Cert.ReferenceIdeal.main_arg9), m' ((c.tc : Thread _ _).loc Cert.ReferenceIdeal.main_arg10), m' ((c.tc : Thread _ _).loc Cert.ReferenceIdeal.main_arg11),
        m' ((c.tc : Thread _ _).loc Cert.ReferenceIdeal.main_arg12), m' ((c.tc : Thread _ _).loc Cert.ReferenceIdeal.main_arg13), m' ((c.tc : Thread _ _).loc Cert.ReferenceIdeal.main_arg14),
        m' ((c.tc : Thread _ _).loc Cert.ReferenceIdeal.main_arg15), m' ((c.tc : Thread _ _).loc Cert.ReferenceIdeal.main_arg16)⟩ : Args) = Cert.KernelIdeal.Gen.args m c := by
      obtain ⟨e0, e1, e2, e3, e4, e5, e6, e7, e8, e9, e10, e11, e12, e13, e14, e15, e16⟩ := hagree c
      rw [e0, e1, e2, e3, e4, e5, e6, e7, e8, e9, e10, e11, e12, e13, e14, e15, e16]
      rfl
    have hs := scale_ne hpre c
    rw [← hA] at hs
    refine ⟨?_, ?_, ?_, ?_, ?_, ?_, ?_, hargs⟩ <;> rw [← hA]
    · exact h0.trans ((Cert.ReferenceIdeal.Read.val_main_v518_eq _).trans (Cert.ReferenceIdeal.Read.out_value (Args.mk ..)))
    · exact h1.trans ((Cert.ReferenceIdeal.Read.val_main_v524_eq _).trans (Cert.ReferenceIdeal.Read.codes_value (Args.mk ..) hs))
    · exact h2.trans ((Cert.ReferenceIdeal.Read.val_main_v442_eq _).trans (Cert.ReferenceIdeal.Read.gx_value (Args.mk ..)))
    · exact h3.trans ((Cert.ReferenceIdeal.Read.val_main_v391_eq _).trans (Cert.ReferenceIdeal.Read.a1c_value (Args.mk ..)))
    · exact h4.trans ((Cert.ReferenceIdeal.Read.val_main_v384_eq _).trans (Cert.ReferenceIdeal.Read.a1s_value (Args.mk ..)))
    · exact h5.trans ((Cert.ReferenceIdeal.Read.val_main_v474_eq _).trans (Cert.ReferenceIdeal.Read.a2c_value (Args.mk ..)))
    · exact h6.trans ((Cert.ReferenceIdeal.Read.val_main_v467_eq _).trans (Cert.ReferenceIdeal.Read.a2s_value (Args.mk ..)))

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_pre
public import proofs.«01_k».proof.Proof.Gen.ReferenceIdeal.Run
public import proofs.«01_k».proof.Proof.Gen.ReferenceIdeal.Read
public import proofs.«01_k».proof.Proof.FrameKernel
public import proofs.«01_k».proof.Proof.FrameKernelIdeal
public import proofs.«01_k».proof.Proof.RefFrame
public import proofs.«01_k».proof.Proof.Algebraic

@[expose] public section

noncomputable section

namespace Cert.Proof

open Idealize.ShloMosaic Idealize.SL.Sem

/-- The two constants the idealisation names are the reciprocals of the channel counts. -/
theorem preserves : Cert.preserves_Kernel_KernelIdeal :=
  ⟨IdealRules.named_const.statement Cert.KernelIdeal.κ "inv_c" .f32 0x3A3A2E8C#32 ((1 / 1408 : ℝ) : EReal) rfl,
    IdealRules.named_const.statement Cert.KernelIdeal.κ "inv_hid" .f32 0x393A2E8C#32 ((1 / 5632 : ℝ) : EReal) rfl⟩

/-- The certificate. The frames hold of every initial memory, so also under the precondition. -/
theorem claim : Cert.Claim :=
  ⟨Cert.Kernel.Gen.facts, Cert.KernelIdeal.Gen.facts, Cert.ReferenceIdeal.Gen.facts, Cert.Pre_pre.Gen.facts,
    fun m ρ _ => Cert.Kernel.Gen.quiescent m ρ,
    fun m ρ _ => Cert.KernelIdeal.Gen.quiescent m ρ,
    fun m ρ _ => Cert.KernelIdeal.Gen.quiescent m ρ,
    fun m ρ _ => Cert.ReferenceIdeal.quiescent m ρ,
    fun m ρ _ => Cert.ReferenceIdeal.quiescent m ρ,
    preserves,
    algebraic⟩

end Cert.Proof

end
